-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_tame [hPre_tame : Cert.Pre_tame.Facts] (m : (ℓ : Loc Cert.AttnIdeal.nD Cert.AttnIdeal.τ Cert.AttnIdeal.sig) → Buf (Elt Ideal) ℓ) : Prop :=
  ∀ c : Dev Cert.AttnIdeal.nD,
    (Cert.Pre_tame.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttendIdeal (m : (ℓ : Loc Cert.AttendIdeal.nD Cert.AttendIdeal.τ Cert.AttendIdeal.sig) → Buf (Elt Ideal) ℓ) : Prop :=
  True

def Pre_AttendIdeal_tame [hPre_tame : Cert.Pre_tame.Facts] (m : (ℓ : Loc Cert.AttendIdeal.nD Cert.AttendIdeal.τ Cert.AttendIdeal.sig) → Buf (Elt Ideal) ℓ) : Prop :=
  ∀ c : Dev Cert.AttendIdeal.nD,
    (Cert.Pre_tame.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5))) = (fun _ => 1#1)

def Pre_QuantK (m : (ℓ : Loc Cert.QuantK.nD Cert.QuantK.τ Cert.QuantK.sig) → Buf (Elt Bits) ℓ) : Prop :=
  True

def Pre_QuantKIdeal (m : (ℓ : Loc Cert.QuantKIdeal.nD Cert.QuantKIdeal.τ Cert.QuantKIdeal.sig) → Buf (Elt Ideal) ℓ) : Prop :=
  True

def Pre_QuantKIdeal_tame_k [hPre_tame_k : Cert.Pre_tame_k.Facts] (m : (ℓ : Loc Cert.QuantKIdeal.nD Cert.QuantKIdeal.τ Cert.QuantKIdeal.sig) → Buf (Elt Ideal) ℓ) : Prop :=
  ∀ c : Dev Cert.QuantKIdeal.nD,
    (Cert.Pre_tame_k.fn (F := Ideal) (m ((c.tc : Thread Cert.QuantKIdeal.nD Cert.QuantKIdeal.τ).loc Cert.QuantKIdeal.main_arg0))) = (fun _ => 1#1)

def Pre_CodesKIdeal (m : (ℓ : Loc Cert.CodesKIdeal.nD Cert.CodesKIdeal.τ Cert.CodesKIdeal.sig) → Buf (Elt Ideal) ℓ) : Prop :=
  True

def Pre_CodesKIdeal_tame_k [hPre_tame_k : Cert.Pre_tame_k.Facts] (m : (ℓ : Loc Cert.CodesKIdeal.nD Cert.CodesKIdeal.τ Cert.CodesKIdeal.sig) → Buf (Elt Ideal) ℓ) : Prop :=
  ∀ c : Dev Cert.CodesKIdeal.nD,
    (Cert.Pre_tame_k.fn (F := Ideal) (m ((c.tc : Thread Cert.CodesKIdeal.nD Cert.CodesKIdeal.τ).loc Cert.CodesKIdeal.main_arg0))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_tame [hAttnIdeal : Cert.AttnIdeal.Facts] [hPre_tame : Cert.Pre_tame.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_tame m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5))
      ∧ r.2.sem = fun _ => 0)

def quiescent_AttendIdeal_pre_tame [hAttendIdeal : Cert.AttendIdeal.Facts] [hPre_tame : Cert.Pre_tame.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_tame m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5))
      ∧ r.2.sem = fun _ => 0)

def quiescent_QuantK [hQuantK : Cert.QuantK.Facts] : Prop :=
  ∀ (m : (ℓ : Loc Cert.QuantK.nD Cert.QuantK.τ Cert.QuantK.sig) → Buf (Elt Bits) ℓ) (g : Dev Cert.QuantK.nD → PrngReg), Pre_QuantK m →
    θ_run (Cert.QuantK.defs (F := Bits)) (onTc (τ := Cert.QuantK.τ) (Cert.QuantK.main (F := Bits))) ⟨m, fun _ => 0, g⟩ (fun r => (∀ c : Dev Cert.QuantK.nD,
      r.2.mem ((c.tc : Thread Cert.QuantK.nD Cert.QuantK.τ).loc Cert.QuantK.main_arg0) = m ((c.tc : Thread Cert.QuantK.nD Cert.QuantK.τ).loc Cert.QuantK.main_arg0))
      ∧ r.2.sem = fun _ => 0)

def quiescent_QuantKIdeal [hQuantKIdeal : Cert.QuantKIdeal.Facts] : Prop :=
  ∀ (m : (ℓ : Loc Cert.QuantKIdeal.nD Cert.QuantKIdeal.τ Cert.QuantKIdeal.sig) → Buf (Elt Ideal) ℓ) (g : Dev Cert.QuantKIdeal.nD → PrngReg), Pre_QuantKIdeal m →
    θ_run (Cert.QuantKIdeal.defs (F := Ideal)) (onTc (τ := Cert.QuantKIdeal.τ) (Cert.QuantKIdeal.main (F := Ideal))) ⟨m, fun _ => 0, g⟩ (fun r => (∀ c : Dev Cert.QuantKIdeal.nD,
      r.2.mem ((c.tc : Thread Cert.QuantKIdeal.nD Cert.QuantKIdeal.τ).loc Cert.QuantKIdeal.main_arg0) = m ((c.tc : Thread Cert.QuantKIdeal.nD Cert.QuantKIdeal.τ).loc Cert.QuantKIdeal.main_arg0))
      ∧ r.2.sem = fun _ => 0)

def quiescent_QuantKIdeal_pre_tame_k [hQuantKIdeal : Cert.QuantKIdeal.Facts] [hPre_tame_k : Cert.Pre_tame_k.Facts] : Prop :=
  ∀ (m : (ℓ : Loc Cert.QuantKIdeal.nD Cert.QuantKIdeal.τ Cert.QuantKIdeal.sig) → Buf (Elt Ideal) ℓ) (g : Dev Cert.QuantKIdeal.nD → PrngReg), Pre_QuantKIdeal_tame_k m →
    θ_run (Cert.QuantKIdeal.defs (F := Ideal)) (onTc (τ := Cert.QuantKIdeal.τ) (Cert.QuantKIdeal.main (F := Ideal))) ⟨m, fun _ => 0, g⟩ (fun r => (∀ c : Dev Cert.QuantKIdeal.nD,
      r.2.mem ((c.tc : Thread Cert.QuantKIdeal.nD Cert.QuantKIdeal.τ).loc Cert.QuantKIdeal.main_arg0) = m ((c.tc : Thread Cert.QuantKIdeal.nD Cert.QuantKIdeal.τ).loc Cert.QuantKIdeal.main_arg0))
      ∧ r.2.sem = fun _ => 0)

def quiescent_CodesKIdeal [hCodesKIdeal : Cert.CodesKIdeal.Facts] : Prop :=
  ∀ (m : (ℓ : Loc Cert.CodesKIdeal.nD Cert.CodesKIdeal.τ Cert.CodesKIdeal.sig) → Buf (Elt Ideal) ℓ) (g : Dev Cert.CodesKIdeal.nD → PrngReg), Pre_CodesKIdeal m →
    θ_run (Cert.CodesKIdeal.defs (F := Ideal)) (onTc (τ := Cert.CodesKIdeal.τ) (Cert.CodesKIdeal.main (F := Ideal))) ⟨m, fun _ => 0, g⟩ (fun r => (∀ c : Dev Cert.CodesKIdeal.nD,
      r.2.mem ((c.tc : Thread Cert.CodesKIdeal.nD Cert.CodesKIdeal.τ).loc Cert.CodesKIdeal.main_arg0) = m ((c.tc : Thread Cert.CodesKIdeal.nD Cert.CodesKIdeal.τ).loc Cert.CodesKIdeal.main_arg0))
      ∧ r.2.sem = fun _ => 0)

def quiescent_CodesKIdeal_pre_tame_k [hCodesKIdeal : Cert.CodesKIdeal.Facts] [hPre_tame_k : Cert.Pre_tame_k.Facts] : Prop :=
  ∀ (m : (ℓ : Loc Cert.CodesKIdeal.nD Cert.CodesKIdeal.τ Cert.CodesKIdeal.sig) → Buf (Elt Ideal) ℓ) (g : Dev Cert.CodesKIdeal.nD → PrngReg), Pre_CodesKIdeal_tame_k m →
    θ_run (Cert.CodesKIdeal.defs (F := Ideal)) (onTc (τ := Cert.CodesKIdeal.τ) (Cert.CodesKIdeal.main (F := Ideal))) ⟨m, fun _ => 0, g⟩ (fun r => (∀ c : Dev Cert.CodesKIdeal.nD,
      r.2.mem ((c.tc : Thread Cert.CodesKIdeal.nD Cert.CodesKIdeal.τ).loc Cert.CodesKIdeal.main_arg0) = m ((c.tc : Thread Cert.CodesKIdeal.nD Cert.CodesKIdeal.τ).loc Cert.CodesKIdeal.main_arg0))
      ∧ r.2.sem = fun _ => 0)

def preserves_Attn_AttnIdeal : Prop :=
  IdealRules.named_const.Statement Cert.AttnIdeal.κ "cq" .f32 0x3E0293EE#32 (((Real.sqrt 128)⁻¹ * (Real.log 2)⁻¹ : ℝ) : EReal)

def algebraic_AttnIdeal_AttendIdeal_pre_tame [hAttnIdeal : Cert.AttnIdeal.Facts] [hAttendIdeal : Cert.AttendIdeal.Facts] [hPre_tame : Cert.Pre_tame.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttendIdeal.nD Cert.AttendIdeal.τ Cert.AttendIdeal.sig) → Buf (Elt Ideal) ℓ) (g' : Dev Cert.AttendIdeal.nD → PrngReg), Pre_AttnIdeal_tame m →
    (∀ c : Dev Cert.AttnIdeal.nD,
      m' ((c.tc : Thread Cert.AttendIdeal.nD Cert.AttendIdeal.τ).loc Cert.AttendIdeal.main_arg0) = m ((c.tc : Thread Cert.AttnIdeal.nD Cert.AttnIdeal.τ).loc Cert.AttnIdeal.main_arg0)
      ∧ m' ((c.tc : Thread Cert.AttendIdeal.nD Cert.AttendIdeal.τ).loc Cert.AttendIdeal.main_arg1) = m ((c.tc : Thread Cert.AttnIdeal.nD Cert.AttnIdeal.τ).loc Cert.AttnIdeal.main_arg1)
      ∧ m' ((c.tc : Thread Cert.AttendIdeal.nD Cert.AttendIdeal.τ).loc Cert.AttendIdeal.main_arg2) = m ((c.tc : Thread Cert.AttnIdeal.nD Cert.AttnIdeal.τ).loc Cert.AttnIdeal.main_arg2)
      ∧ m' ((c.tc : Thread Cert.AttendIdeal.nD Cert.AttendIdeal.τ).loc Cert.AttendIdeal.main_arg3) = m ((c.tc : Thread Cert.AttnIdeal.nD Cert.AttnIdeal.τ).loc Cert.AttnIdeal.main_arg3)
      ∧ m' ((c.tc : Thread Cert.AttendIdeal.nD Cert.AttendIdeal.τ).loc Cert.AttendIdeal.main_arg4) = m ((c.tc : Thread Cert.AttnIdeal.nD Cert.AttnIdeal.τ).loc Cert.AttnIdeal.main_arg4)
      ∧ m' ((c.tc : Thread Cert.AttendIdeal.nD Cert.AttendIdeal.τ).loc Cert.AttendIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v10)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v10) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttendIdeal.defs (F := Ideal)) (onTc (τ := Cert.AttendIdeal.τ) (Cert.AttendIdeal.main (F := Ideal))) ⟨m', fun _ => 0, g'⟩ (fun r => ∀ c : Dev Cert.AttendIdeal.nD,
          r.2.mem ((c.tc : Thread Cert.AttendIdeal.nD Cert.AttendIdeal.τ).loc Cert.AttendIdeal.main_v13) = v0 c
          ∧ r.2.mem ((c.tc : Thread Cert.AttendIdeal.nD Cert.AttendIdeal.τ).loc Cert.AttendIdeal.main_arg0) = m' ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m' ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m' ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m' ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m' ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m' ((c.tc : Thread Cert.AttendIdeal.nD Cert.AttendIdeal.τ).loc Cert.AttendIdeal.main_arg5))

def preserves_QuantK_QuantKIdeal : Prop :=
  True

def algebraic_QuantKIdeal_CodesKIdeal_pre_tame_k [hQuantKIdeal : Cert.QuantKIdeal.Facts] [hCodesKIdeal : Cert.CodesKIdeal.Facts] [hPre_tame_k : Cert.Pre_tame_k.Facts] : Prop :=
  ∀ (m : (ℓ : Loc Cert.QuantKIdeal.nD Cert.QuantKIdeal.τ Cert.QuantKIdeal.sig) → Buf (Elt Ideal) ℓ) (g : Dev Cert.QuantKIdeal.nD → PrngReg)
    (m' : (ℓ : Loc Cert.CodesKIdeal.nD Cert.CodesKIdeal.τ Cert.CodesKIdeal.sig) → Buf (Elt Ideal) ℓ) (g' : Dev Cert.CodesKIdeal.nD → PrngReg), Pre_QuantKIdeal_tame_k m →
    (∀ c : Dev Cert.QuantKIdeal.nD,
      m' ((c.tc : Thread Cert.CodesKIdeal.nD Cert.CodesKIdeal.τ).loc Cert.CodesKIdeal.main_arg0) = m ((c.tc : Thread Cert.QuantKIdeal.nD Cert.QuantKIdeal.τ).loc Cert.QuantKIdeal.main_arg0)) →
    ∃ (v0 : (c : Dev Cert.QuantKIdeal.nD) → Buf (Elt Ideal) ((c.tc : Thread Cert.QuantKIdeal.nD Cert.QuantKIdeal.τ).loc Cert.QuantKIdeal.main_v0_0)) (v1 : (c : Dev Cert.QuantKIdeal.nD) → Buf (Elt Ideal) ((c.tc : Thread Cert.QuantKIdeal.nD Cert.QuantKIdeal.τ).loc Cert.QuantKIdeal.main_v0_1)),
      θ_run (Cert.QuantKIdeal.defs (F := Ideal)) (onTc (τ := Cert.QuantKIdeal.τ) (Cert.QuantKIdeal.main (F := Ideal))) ⟨m, fun _ => 0, g⟩ (fun r => ∀ c : Dev Cert.QuantKIdeal.nD,
          r.2.mem ((c.tc : Thread Cert.QuantKIdeal.nD Cert.QuantKIdeal.τ).loc Cert.QuantKIdeal.main_v0_0) = v0 c
          ∧ r.2.mem ((c.tc : Thread Cert.QuantKIdeal.nD Cert.QuantKIdeal.τ).loc Cert.QuantKIdeal.main_v0_1) = v1 c
          ∧ r.2.mem ((c.tc : Thread Cert.QuantKIdeal.nD Cert.QuantKIdeal.τ).loc Cert.QuantKIdeal.main_arg0) = m ((c.tc : Thread Cert.QuantKIdeal.nD Cert.QuantKIdeal.τ).loc Cert.QuantKIdeal.main_arg0))
      ∧ θ_run (Cert.CodesKIdeal.defs (F := Ideal)) (onTc (τ := Cert.CodesKIdeal.τ) (Cert.CodesKIdeal.main (F := Ideal))) ⟨m', fun _ => 0, g'⟩ (fun r => ∀ c : Dev Cert.CodesKIdeal.nD,
          r.2.mem ((c.tc : Thread Cert.CodesKIdeal.nD Cert.CodesKIdeal.τ).loc Cert.CodesKIdeal.main_v2_0) = v0 c
          ∧ r.2.mem ((c.tc : Thread Cert.CodesKIdeal.nD Cert.CodesKIdeal.τ).loc Cert.CodesKIdeal.main_v2_1) = v1 c
          ∧ r.2.mem ((c.tc : Thread Cert.CodesKIdeal.nD Cert.CodesKIdeal.τ).loc Cert.CodesKIdeal.main_arg0) = m' ((c.tc : Thread Cert.CodesKIdeal.nD Cert.CodesKIdeal.τ).loc Cert.CodesKIdeal.main_arg0))

def Claim : Prop :=
  ∃ (hAttn : Cert.Attn.Facts) (hAttnIdeal : Cert.AttnIdeal.Facts) (hAttendIdeal : Cert.AttendIdeal.Facts) (hQuantK : Cert.QuantK.Facts) (hQuantKIdeal : Cert.QuantKIdeal.Facts) (hCodesKIdeal : Cert.CodesKIdeal.Facts) (hPre_tame : Cert.Pre_tame.Facts) (hPre_tame_k : Cert.Pre_tame_k.Facts),
    quiescent_Attn (hAttn := hAttn)
    ∧ quiescent_AttnIdeal (hAttnIdeal := hAttnIdeal)
    ∧ quiescent_AttnIdeal_pre_tame (hAttnIdeal := hAttnIdeal) (hPre_tame := hPre_tame)
    ∧ quiescent_AttendIdeal (hAttendIdeal := hAttendIdeal)
    ∧ quiescent_AttendIdeal_pre_tame (hAttendIdeal := hAttendIdeal) (hPre_tame := hPre_tame)
    ∧ quiescent_QuantK (hQuantK := hQuantK)
    ∧ quiescent_QuantKIdeal (hQuantKIdeal := hQuantKIdeal)
    ∧ quiescent_QuantKIdeal_pre_tame_k (hQuantKIdeal := hQuantKIdeal) (hPre_tame_k := hPre_tame_k)
    ∧ quiescent_CodesKIdeal (hCodesKIdeal := hCodesKIdeal)
    ∧ quiescent_CodesKIdeal_pre_tame_k (hCodesKIdeal := hCodesKIdeal) (hPre_tame_k := hPre_tame_k)
    ∧ preserves_Attn_AttnIdeal
    ∧ algebraic_AttnIdeal_AttendIdeal_pre_tame (hAttnIdeal := hAttnIdeal) (hAttendIdeal := hAttendIdeal) (hPre_tame := hPre_tame)
    ∧ preserves_QuantK_QuantKIdeal
    ∧ algebraic_QuantKIdeal_CodesKIdeal_pre_tame_k (hQuantKIdeal := hQuantKIdeal) (hCodesKIdeal := hCodesKIdeal) (hPre_tame_k := hPre_tame_k)
-- ==== Pre_tame.lean ====
abbrev S2x32768x1024 : Shape := ⟨3, ![2, 32768, 1024]⟩
abbrev S2x2x32768x128 : Shape := ⟨4, ![2, 2, 32768, 128]⟩
abbrev S2x2x32768 : Shape := ⟨3, ![2, 2, 32768]⟩
abbrev S2x2x128 : Shape := ⟨3, ![2, 2, 128]⟩
abbrev S2x32768 : Shape := ⟨2, ![2, 32768]⟩
abbrev S_ : Shape := ⟨0, ![]⟩
abbrev S2x32767 : Shape := ⟨2, ![2, 32767]⟩

class Facts : Prop where
  bitsLt_bf16_f32 : FTy.bits .bf16 < FTy.bits .f32
  bcast_S_S2x32768x1024 : S_.BroadcastsInDim S2x32768x1024 (![] : Fin 0 → Fin S2x32768x1024.rank)
  reducesTo_S2x32768x1024_S_d0_1_2 : S2x32768x1024.ReducesTo [0, 1, 2] S_
  h_S_ : 0 < S_.numel
  bcast_S_S2x32768 : S_.BroadcastsInDim S2x32768 (![] : Fin 0 → Fin S2x32768.rank)
  reducesTo_S2x32768_S_d0_1 : S2x32768.ReducesTo [0, 1] S_
  slices_S2x32768_S2x32767_0_0 : S2x32768.Slices ![0, 0] S2x32767
  slices_S2x32768_S2x32767_0_1 : S2x32768.Slices ![0, 1] S2x32767
  reducesTo_S2x32767_S_d0_1 : S2x32767.ReducesTo [0, 1] S_

variable [Facts]

def fn {F : FTy → Type} [FloatOps F] (main_arg0 : FVec F S2x32768x1024 .bf16) (main_arg1 : FVec F S2x2x32768x128 .fp8e4m3) (main_arg2 : FVec F S2x2x32768 .f32) (main_arg3 : FVec F S2x2x32768x128 .fp8e4m3) (main_arg4 : FVec F S2x2x128 .f32) (main_arg5 : IVec S2x32768 32) : IVec S_ 1 :=
  let main_v0 : FVec F S2x32768x1024 .f32 := (extf .f32 · bitsLt_bf16_f32) main_arg0
  let main_v1 : FVec F S2x32768x1024 .f32 := Host.absf main_v0
  let main_cst : FVec F S_ .f32 := constant S_ .f32 0x7F7F0000#32
  let main_v2 : FVec F S2x32768x1024 .f32 := broadcastInDim S2x32768x1024 ![] bcast_S_S2x32768x1024 main_cst
  let main_v3 : IVec S2x32768x1024 1 := cmpf .ole main_v1 main_v2
  let main_c : IVec S_ 1 := constantI S_ 1 1#1
  let main_v4 : IVec S_ 1 := (fun x v => Host.reduce IntOp.andi x v reducesTo_S2x32768x1024_S_d0_1_2 h_S_) main_v3 main_c
  let main_c_0 : IVec S_ 32 := constantI S_ 32 0#32
  let main_v5 : IVec S2x32768 32 := broadcastInDim S2x32768 ![] bcast_S_S2x32768 main_c_0
  let main_v6 : IVec S2x32768 1 := cmpi .sge main_arg5 main_v5
  let main_c_1 : IVec S_ 32 := constantI S_ 32 12#32
  let main_v7 : IVec S2x32768 32 := broadcastInDim S2x32768 ![] bcast_S_S2x32768 main_c_1
  let main_v8 : IVec S2x32768 1 := cmpi .slt main_arg5 main_v7
  let main_v9 : IVec S2x32768 1 := andi main_v6 main_v8
  let main_c_2 : IVec S_ 1 := constantI S_ 1 1#1
  let main_v10 : IVec S_ 1 := (fun x v => Host.reduce IntOp.andi x v reducesTo_S2x32768_S_d0_1 h_S_) main_v9 main_c_2
  let main_v11 : IVec S2x32767 32 := (extractStridedSlice S2x32767 ![0, 0] · slices_S2x32768_S2x32767_0_0) main_arg5
  let main_v12 : IVec S2x32767 32 := (extractStridedSlice S2x32767 ![0, 1] · slices_S2x32768_S2x32767_0_1) main_arg5
  let main_v13 : IVec S2x32767 1 := cmpi .sle main_v11 main_v12
  let main_c_3 : IVec S_ 1 := constantI S_ 1 1#1
  let main_v14 : IVec S_ 1 := (fun x v => Host.reduce IntOp.andi x v reducesTo_S2x32767_S_d0_1 h_S_) main_v13 main_c_3
  let main_v15 : IVec S_ 1 := andi main_v4 main_v10
  let main_v16 : IVec S_ 1 := andi main_v15 main_v14
  main_v16
-- ==== Pre_tame_k.lean ====
abbrev S2x32768x256 : Shape := ⟨3, ![2, 32768, 256]⟩
abbrev S2x32768x2x128 : Shape := ⟨4, ![2, 32768, 2, 128]⟩
abbrev S_ : Shape := ⟨0, ![]⟩
abbrev S2x32768x2 : Shape := ⟨3, ![2, 32768, 2]⟩

class Facts : Prop where
  bitsLt_bf16_f32 : FTy.bits .bf16 < FTy.bits .f32
  shapeCasts_S2x32768x256_S2x32768x2x128 : S2x32768x256.ShapeCasts S2x32768x2x128
  reducesTo_S2x32768x2x128_S2x32768x2_d3 : S2x32768x2x128.ReducesTo [3] S2x32768x2
  h_S_ : 0 < S_.numel
  bcast_S_S2x32768x2 : S_.BroadcastsInDim S2x32768x2 (![] : Fin 0 → Fin S2x32768x2.rank)
  reducesTo_S2x32768x2_S_d0_1_2 : S2x32768x2.ReducesTo [0, 1, 2] S_

variable [Facts]

def fn {F : FTy → Type} [FloatOps F] (main_arg0 : FVec F S2x32768x256 .bf16) : IVec S_ 1 :=
  let main_v0 : FVec F S2x32768x256 .f32 := (extf .f32 · bitsLt_bf16_f32) main_arg0
  let main_v1 : FVec F S2x32768x2x128 .f32 := shapeCast S2x32768x2x128 main_v0 shapeCasts_S2x32768x256_S2x32768x2x128
  let main_v2 : FVec F S2x32768x2x128 .f32 := Host.absf main_v1
  let main_cst : FVec F S_ .f32 := constant S_ .f32 0xFF800000#32
  let main_v3 : FVec F S2x32768x2 .f32 := (fun x v => Host.reduce FloatOps.maximumf x v reducesTo_S2x32768x2x128_S2x32768x2_d3 h_S_) main_v2 main_cst
  let main_cst_0 : FVec F S_ .f32 := constant S_ .f32 0x00000000#32
  let main_v4 : FVec F S2x32768x2 .f32 := broadcastInDim S2x32768x2 ![] bcast_S_S2x32768x2 main_cst_0
  let main_v5 : IVec S2x32768x2 1 := cmpf .oeq main_v3 main_v4
  let main_cst_1 : FVec F S_ .f32 := constant S_ .f32 0x3B124925#32
  let main_v6 : FVec F S2x32768x2 .f32 := broadcastInDim S2x32768x2 ![] bcast_S_S2x32768x2 main_cst_1
  let main_v7 : FVec F S2x32768x2 .f32 := mulf main_v3 main_v6
  let main_cst_2 : FVec F S_ .f32 := constant S_ .f32 0x00800000#32
  let main_v8 : FVec F S2x32768x2 .f32 := broadcastInDim S2x32768x2 ![] bcast_S_S2x32768x2 main_cst_2
  let main_v9 : IVec S2x32768x2 1 := cmpf .oge main_v7 main_v8
  let main_cst_3 : FVec F S_ .f32 := constant S_ .f32 0x7F7F0000#32
  let main_v10 : FVec F S2x32768x2 .f32 := broadcastInDim S2x32768x2 ![] bcast_S_S2x32768x2 main_cst_3
  let main_v11 : IVec S2x32768x2 1 := cmpf .ole main_v3 main_v10
  let main_v12 : IVec S2x32768x2 1 := andi main_v9 main_v11
  let main_v13 : IVec S2x32768x2 1 := ori main_v5 main_v12
  let main_c : IVec S_ 1 := constantI S_ 1 1#1
  let main_v14 : IVec S_ 1 := (fun x v => Host.reduce IntOp.andi x v reducesTo_S2x32768x2_S_d0_1_2 h_S_) main_v13 main_c
  main_v14
-- ==== Attn.lean ====
abbrev S2x32768x1024 : Shape := ⟨3, ![2, 32768, 1024]⟩
abbrev S2x2x32768x128 : Shape := ⟨4, ![2, 2, 32768, 128]⟩
abbrev S2x2x32768 : Shape := ⟨3, ![2, 2, 32768]⟩
abbrev S2x2x128 : Shape := ⟨3, ![2, 2, 128]⟩
abbrev S2x32768 : Shape := ⟨2, ![2, 32768]⟩
abbrev S13 : Shape := ⟨1, ![13]⟩
abbrev S2x1x32768 : Shape := ⟨3, ![2, 1, 32768]⟩
abbrev S1x13x1 : Shape := ⟨3, ![1, 13, 1]⟩
abbrev S2x13x32768 : Shape := ⟨3, ![2, 13, 32768]⟩
abbrev S_ : Shape := ⟨0, ![]⟩
abbrev S2x13 : Shape := ⟨2, ![2, 13]⟩
abbrev S2x2x1x32768 : Shape := ⟨4, ![2, 2, 1, 32768]⟩
abbrev S2x2x1x128 : Shape := ⟨4, ![2, 2, 1, 128]⟩
abbrev S1x256x128 : Shape := ⟨3, ![1, 256, 128]⟩
abbrev S1x1x32768x128 : Shape := ⟨4, ![1, 1, 32768, 128]⟩
abbrev S1x1x1x32768 : Shape := ⟨4, ![1, 1, 1, 32768]⟩
abbrev S1x1x1x128 : Shape := ⟨4, ![1, 1, 1, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x512 : Shape := ⟨2, ![1, 512]⟩
abbrev S1x1 : Shape := ⟨2, ![1, 1]⟩
abbrev S1x1x512x128 : Shape := ⟨4, ![1, 1, 512, 128]⟩
abbrev S512x128 : Shape := ⟨2, ![512, 128]⟩
abbrev S256x512 : Shape := ⟨2, ![256, 512]⟩
abbrev S1x1x1x512 : Shape := ⟨4, ![1, 1, 1, 512]⟩
abbrev S1x128 : Shape := ⟨2, ![1, 128]⟩

abbrev nBuf : Space → Nat
  | .hbm => 17
  | .vmem => 12
  | .smem => 1
  | _ => 0

abbrev bufTy : (tb : Table) → Fin (tcTables nBuf tb) → BufTy
  | .hbm, ⟨0, _⟩ => ⟨S2x32768x1024, .bf16⟩
  | .hbm, ⟨1, _⟩ => ⟨S2x2x32768x128, .fp8e4m3⟩
  | .hbm, ⟨2, _⟩ => ⟨S2x2x32768, .f32⟩
  | .hbm, ⟨3, _⟩ => ⟨S2x2x32768x128, .fp8e4m3⟩
  | .hbm, ⟨4, _⟩ => ⟨S2x2x128, .f32⟩
  | .hbm, ⟨5, _⟩ => ⟨S2x32768, .i32⟩
  | .hbm, ⟨6, _⟩ => ⟨S13, .i32⟩
  | .hbm, ⟨7, _⟩ => ⟨S2x1x32768, .i32⟩
  | .hbm, ⟨8, _⟩ => ⟨S1x13x1, .i32⟩
  | .hbm, ⟨9, _⟩ => ⟨S2x13x32768, .i32⟩
  | .hbm, ⟨10, _⟩ => ⟨S2x13x32768, .i32⟩
  | .hbm, ⟨11, _⟩ => ⟨S2x13x32768, .i1⟩
  | .hbm, ⟨12, _⟩ => ⟨S2x13x32768, .i32⟩
  | .hbm, ⟨13, _⟩ => ⟨S_, .i32⟩
  | .hbm, ⟨14, _⟩ => ⟨S2x2x1x32768, .f32⟩
  | .hbm, ⟨15, _⟩ => ⟨S2x2x1x128, .f32⟩
  | .hbm, ⟨16, _⟩ => ⟨S2x32768x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x1x32768x128, .fp8e4m3⟩
  | .local _ .vmem, ⟨3, _⟩ => ⟨S1x1x32768x128, .fp8e4m3⟩
  | .local _ .vmem, ⟨4, _⟩ => ⟨S1x1x1x32768, .f32⟩
  | .local _ .vmem, ⟨5, _⟩ => ⟨S1x1x1x32768, .f32⟩
  | .local _ .vmem, ⟨6, _⟩ => ⟨S1x1x32768x128, .fp8e4m3⟩
  | .local _ .vmem, ⟨7, _⟩ => ⟨S1x1x32768x128, .fp8e4m3⟩
  | .local _ .vmem, ⟨8, _⟩ => ⟨S1x1x1x128, .f32⟩
  | .local _ .vmem, ⟨9, _⟩ => ⟨S1x1x1x128, .f32⟩
  | .local _ .vmem, ⟨10, _⟩ => ⟨S1x256x128, .bf16⟩
  | .local _ .vmem, ⟨11, _⟩ => ⟨S1x256x128, .bf16⟩
  | .local _ .smem, ⟨0, _⟩ => ⟨S2x13, .i32⟩
  | _, _ => ⟨S2x32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 128], ![false, false, false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_13 : BitVec 32 := 0#32
  let c12_i32 : BitVec 32 := 12#32
  let v52 : BitVec 32 := Scalar.addi c0_i32_13 c12_i32
  let c1_i32_14 : BitVec 32 := 1#32
  ⟨c0_i32_13, v52, c1_i32_14⟩
def k0_off1 (i : grid0.Coords) (k0_t1 : Fin k0_t1_loop.trips) : Fin 2 → Nat :=
  let arg0 : BitVec 32 := BitVec.ofNat 32 (i 0).val
  let v53 : Index := Scalar.indexCast arg0
  let c0_i32_13 : BitVec 32 := 0#32
  let c1_i32_14 : BitVec 32 := 1#32
  let arg10 : BitVec 32 := Scf.iv c0_i32_13 c1_i32_14 k0_t1
  let v54 : Index := Scalar.indexCast arg10
  ![v53.toNat, v54.toNat]
def k0_off2 (i : grid0.Coords) (k0_t1 : Fin k0_t1_loop.trips) : Fin 2 → Nat :=
  let arg0 : BitVec 32 := BitVec.ofNat 32 (i 0).val
  let v57 : Index := Scalar.indexCast arg0
  let c0_i32_13 : BitVec 32 := 0#32
  let c1_i32_14 : BitVec 32 := 1#32
  let arg10 : BitVec 32 := Scf.iv c0_i32_13 c1_i32_14 k0_t1
  let c1_i32_16 : BitVec 32 := 1#32
  let v56 : BitVec 32 := Scalar.addi arg10 c1_i32_16
  let v58 : Index := Scalar.indexCast v56
  ![v57.toNat, v58.toNat]
@[reducible] def k0_t2_loop (v55 : BitVec 32) (v59 : BitVec 32) : Scf.Loop 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v90 : BitVec 32 := Scalar.subi v88 v86
  let c1_i32_29 : BitVec 32 := 1#32
  let v92 : BitVec 32 := Scalar.divsi v90 c1_i32_29
  let v93 : BitVec 32 := Scalar.muli v92 c1_i32_29
  let v94 : BitVec 32 := Scalar.addi v86 v93
  let c1_i32_30 : BitVec 32 := 1#32
  ⟨v86, v94, c1_i32_30⟩
def k0_cond1 (i : grid0.Coords) (v55 : BitVec 32) (v59 : BitVec 32) : BitVec 1 :=
  let arg2 : BitVec 32 := BitVec.ofNat 32 (i 2).val
  let c1_i32_17 : BitVec 32 := 1#32
  let v60 : BitVec 32 := Scalar.addi arg2 c1_i32_17
  let c256_i32_18 : BitVec 32 := 256#32
  let v61 : BitVec 32 := Scalar.muli v60 c256_i32_18
  let v62 : BitVec 1 := Scalar.cmpi .slt v55 v61
  let c256_i32_19 : BitVec 32 := 256#32
  let v63 : BitVec 32 := Scalar.muli arg2 c256_i32_19
  let v64 : BitVec 1 := Scalar.cmpi .sgt v59 v63
  let v65 : BitVec 1 := Scalar.andi v62 v64
  let v66 : BitVec 1 := Scalar.cmpi .sgt v59 v55
  let v67 : BitVec 1 := Scalar.andi v65 v66
  let v68 : BitVec 32 := Scalar.extui v67
  let c0_i32_20 : BitVec 32 := 0#32
  let v69 : BitVec 1 := Scalar.cmpi .ne v68 c0_i32_20
  v69

def k0_mult1 (v55 : BitVec 32) (v59 : BitVec 32) (k0_t2 : Fin (k0_t2_loop v55 v59).trips) : BitVec 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c1_i32_30 : BitVec 32 := 1#32
  let arg11 : BitVec 32 := Scf.iv v86 c1_i32_30 k0_t2
  let c512_i32_48 : BitVec 32 := 512#32
  let v129 : BitVec 32 := Scalar.muli arg11 c512_i32_48
  v129
def k0_off3 (v55 : BitVec 32) (v59 : BitVec 32) (k0_t2 : Fin (k0_t2_loop v55 v59).trips) : Fin 4 → Nat :=
  let c0_49 : Index := 0#32
  let c0_50 : Index := 0#32
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c1_i32_30 : BitVec 32 := 1#32
  let arg11 : BitVec 32 := Scf.iv v86 c1_i32_30 k0_t2
  let c512_i32_48 : BitVec 32 := 512#32
  let v129 : BitVec 32 := Scalar.muli arg11 c512_i32_48
  let v130 : BitVec 32 := v129
  let v131 : Index := Scalar.indexCast v130
  let c0_51 : Index := 0#32
  ![0, 0, v131.toNat, 0]
def k0_off4 (v55 : BitVec 32) (v59 : BitVec 32) (k0_t2 : Fin (k0_t2_loop v55 v59).trips) : Fin 4 → Nat :=
  let c0_53 : Index := 0#32
  let c0_54 : Index := 0#32
  let c0_55 : Index := 0#32
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c1_i32_30 : BitVec 32 := 1#32
  let arg11 : BitVec 32 := Scf.iv v86 c1_i32_30 k0_t2
  let c512_i32_48 : BitVec 32 := 512#32
  let v129 : BitVec 32 := Scalar.muli arg11 c512_i32_48
  let v130 : BitVec 32 := v129
  let v135 : Index := Scalar.indexCast v130
  ![0, 0, 0, v135.toNat]
@[reducible] def k0_t3_loop (v55 : BitVec 32) (v59 : BitVec 32) : Scf.Loop 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v90 : BitVec 32 := Scalar.subi v88 v86
  let c1_i32_29 : BitVec 32 := 1#32
  let v92 : BitVec 32 := Scalar.divsi v90 c1_i32_29
  let v93 : BitVec 32 := Scalar.muli v92 c1_i32_29
  let v94 : BitVec 32 := Scalar.addi v86 v93
  let v91 : BitVec 32 := Scalar.addi v86 v90
  let c1_i32_31 : BitVec 32 := 1#32
  ⟨v94, v91, c1_i32_31⟩
def k0_mult2 (v55 : BitVec 32) (v59 : BitVec 32) (k0_t3 : Fin (k0_t3_loop v55 v59).trips) : BitVec 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v90 : BitVec 32 := Scalar.subi v88 v86
  let c1_i32_29 : BitVec 32 := 1#32
  let v92 : BitVec 32 := Scalar.divsi v90 c1_i32_29
  let v93 : BitVec 32 := Scalar.muli v92 c1_i32_29
  let v94 : BitVec 32 := Scalar.addi v86 v93
  let c1_i32_31 : BitVec 32 := 1#32
  let arg11 : BitVec 32 := Scf.iv v94 c1_i32_31 k0_t3
  let c512_i32_48 : BitVec 32 := 512#32
  let v129 : BitVec 32 := Scalar.muli arg11 c512_i32_48
  v129
def k0_off5 (v55 : BitVec 32) (v59 : BitVec 32) (k0_t3 : Fin (k0_t3_loop v55 v59).trips) : Fin 4 → Nat :=
  let c0_49 : Index := 0#32
  let c0_50 : Index := 0#32
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v90 : BitVec 32 := Scalar.subi v88 v86
  let c1_i32_29 : BitVec 32 := 1#32
  let v92 : BitVec 32 := Scalar.divsi v90 c1_i32_29
  let v93 : BitVec 32 := Scalar.muli v92 c1_i32_29
  let v94 : BitVec 32 := Scalar.addi v86 v93
  let c1_i32_31 : BitVec 32 := 1#32
  let arg11 : BitVec 32 := Scf.iv v94 c1_i32_31 k0_t3
  let c512_i32_48 : BitVec 32 := 512#32
  let v129 : BitVec 32 := Scalar.muli arg11 c512_i32_48
  let v130 : BitVec 32 := v129
  let v131 : Index := Scalar.indexCast v130
  let c0_51 : Index := 0#32
  ![0, 0, v131.toNat, 0]
def k0_off6 (v55 : BitVec 32) (v59 : BitVec 32) (k0_t3 : Fin (k0_t3_loop v55 v59).trips) : Fin 4 → Nat :=
  let c0_53 : Index := 0#32
  let c0_54 : Index := 0#32
  let c0_55 : Index := 0#32
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v90 : BitVec 32 := Scalar.subi v88 v86
  let c1_i32_29 : BitVec 32 := 1#32
  let v92 : BitVec 32 := Scalar.divsi v90 c1_i32_29
  let v93 : BitVec 32 := Scalar.muli v92 c1_i32_29
  let v94 : BitVec 32 := Scalar.addi v86 v93
  let c1_i32_31 : BitVec 32 := 1#32
  let arg11 : BitVec 32 := Scf.iv v94 c1_i32_31 k0_t3
  let c512_i32_48 : BitVec 32 := 512#32
  let v129 : BitVec 32 := Scalar.muli arg11 c512_i32_48
  let v130 : BitVec 32 := v129
  let v135 : Index := Scalar.indexCast v130
  ![0, 0, 0, v135.toNat]
@[reducible] def k0_t4_loop (v55 : BitVec 32) (v59 : BitVec 32) : Scf.Loop 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v102 : BitVec 32 := Scalar.subi v88 v86
  let c1_i32_35 : BitVec 32 := 1#32
  let v104 : BitVec 32 := Scalar.divsi v102 c1_i32_35
  let v105 : BitVec 32 := Scalar.muli v104 c1_i32_35
  let v106 : BitVec 32 := Scalar.addi v86 v105
  let c1_i32_36 : BitVec 32 := 1#32
  ⟨v86, v106, c1_i32_36⟩
def k0_mult3 (v55 : BitVec 32) (v59 : BitVec 32) (k0_t4 : Fin (k0_t4_loop v55 v59).trips) : BitVec 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c1_i32_36 : BitVec 32 := 1#32
  let arg11 : BitVec 32 := Scf.iv v86 c1_i32_36 k0_t4
  let c512_i32_48 : BitVec 32 := 512#32
  let v129 : BitVec 32 := Scalar.muli arg11 c512_i32_48
  v129
def k0_off7 (v55 : BitVec 32) (v59 : BitVec 32) (k0_t4 : Fin (k0_t4_loop v55 v59).trips) : Fin 4 → Nat :=
  let c0_49 : Index := 0#32
  let c0_50 : Index := 0#32
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c1_i32_36 : BitVec 32 := 1#32
  let arg11 : BitVec 32 := Scf.iv v86 c1_i32_36 k0_t4
  let c512_i32_48 : BitVec 32 := 512#32
  let v129 : BitVec 32 := Scalar.muli arg11 c512_i32_48
  let v130 : BitVec 32 := v129
  let v131 : Index := Scalar.indexCast v130
  let c0_51 : Index := 0#32
  ![0, 0, v131.toNat, 0]
def k0_off8 (v55 : BitVec 32) (v59 : BitVec 32) (k0_t4 : Fin (k0_t4_loop v55 v59).trips) : Fin 4 → Nat :=
  let c0_53 : Index := 0#32
  let c0_54 : Index := 0#32
  let c0_55 : Index := 0#32
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c1_i32_36 : BitVec 32 := 1#32
  let arg11 : BitVec 32 := Scf.iv v86 c1_i32_36 k0_t4
  let c512_i32_48 : BitVec 32 := 512#32
  let v129 : BitVec 32 := Scalar.muli arg11 c512_i32_48
  let v130 : BitVec 32 := v129
  let v135 : Index := Scalar.indexCast v130
  ![0, 0, 0, v135.toNat]
def k0_mult4 (v55 : BitVec 32) (v59 : BitVec 32) (k0_t4 : Fin (k0_t4_loop v55 v59).trips) : BitVec 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c1_i32_36 : BitVec 32 := 1#32
  let arg11 : BitVec 32 := Scf.iv v86 c1_i32_36 k0_t4
  let c512_i32_58 : BitVec 32 := 512#32
  let v159 : BitVec 32 := Scalar.muli arg11 c512_i32_58
  v159
@[reducible] def k0_t5_loop (v55 : BitVec 32) (v59 : BitVec 32) : Scf.Loop 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v102 : BitVec 32 := Scalar.subi v88 v86
  let c1_i32_35 : BitVec 32 := 1#32
  let v104 : BitVec 32 := Scalar.divsi v102 c1_i32_35
  let v105 : BitVec 32 := Scalar.muli v104 c1_i32_35
  let v106 : BitVec 32 := Scalar.addi v86 v105
  let v103 : BitVec 32 := Scalar.addi v86 v102
  let c1_i32_37 : BitVec 32 := 1#32
  ⟨v106, v103, c1_i32_37⟩
def k0_mult5 (v55 : BitVec 32) (v59 : BitVec 32) (k0_t5 : Fin (k0_t5_loop v55 v59).trips) : BitVec 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v102 : BitVec 32 := Scalar.subi v88 v86
  let c1_i32_35 : BitVec 32 := 1#32
  let v104 : BitVec 32 := Scalar.divsi v102 c1_i32_35
  let v105 : BitVec 32 := Scalar.muli v104 c1_i32_35
  let v106 : BitVec 32 := Scalar.addi v86 v105
  let c1_i32_37 : BitVec 32 := 1#32
  let arg11 : BitVec 32 := Scf.iv v106 c1_i32_37 k0_t5
  let c512_i32_48 : BitVec 32 := 512#32
  let v129 : BitVec 32 := Scalar.muli arg11 c512_i32_48
  v129
def k0_off9 (v55 : BitVec 32) (v59 : BitVec 32) (k0_t5 : Fin (k0_t5_loop v55 v59).trips) : Fin 4 → Nat :=
  let c0_49 : Index := 0#32
  let c0_50 : Index := 0#32
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v102 : BitVec 32 := Scalar.subi v88 v86
  let c1_i32_35 : BitVec 32 := 1#32
  let v104 : BitVec 32 := Scalar.divsi v102 c1_i32_35
  let v105 : BitVec 32 := Scalar.muli v104 c1_i32_35
  let v106 : BitVec 32 := Scalar.addi v86 v105
  let c1_i32_37 : BitVec 32 := 1#32
  let arg11 : BitVec 32 := Scf.iv v106 c1_i32_37 k0_t5
  let c512_i32_48 : BitVec 32 := 512#32
  let v129 : BitVec 32 := Scalar.muli arg11 c512_i32_48
  let v130 : BitVec 32 := v129
  let v131 : Index := Scalar.indexCast v130
  let c0_51 : Index := 0#32
  ![0, 0, v131.toNat, 0]
def k0_off10 (v55 : BitVec 32) (v59 : BitVec 32) (k0_t5 : Fin (k0_t5_loop v55 v59).trips) : Fin 4 → Nat :=
  let c0_53 : Index := 0#32
  let c0_54 : Index := 0#32
  let c0_55 : Index := 0#32
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v102 : BitVec 32 := Scalar.subi v88 v86
  let c1_i32_35 : BitVec 32 := 1#32
  let v104 : BitVec 32 := Scalar.divsi v102 c1_i32_35
  let v105 : BitVec 32 := Scalar.muli v104 c1_i32_35
  let v106 : BitVec 32 := Scalar.addi v86 v105
  let c1_i32_37 : BitVec 32 := 1#32
  let arg11 : BitVec 32 := Scf.iv v106 c1_i32_37 k0_t5
  let c512_i32_48 : BitVec 32 := 512#32
  let v129 : BitVec 32 := Scalar.muli arg11 c512_i32_48
  let v130 : BitVec 32 := v129
  let v135 : Index := Scalar.indexCast v130
  ![0, 0, 0, v135.toNat]
def k0_mult6 (v55 : BitVec 32) (v59 : BitVec 32) (k0_t5 : Fin (k0_t5_loop v55 v59).trips) : BitVec 32 :=
  let c0_i32_21 : BitVec 32 := 0#32
  let v71 : BitVec 1 := Scalar.cmpi .sgt v55 c0_i32_21
  let v72 : BitVec 32 := Scalar.extui v71
  let c0_i32_22 : BitVec 32 := 0#32
  let v73 : BitVec 1 := Scalar.cmpi .slt v55 c0_i32_22
  let v74 : BitVec 32 := Scalar.extui v73
  let v75 : BitVec 32 := Scalar.subi v72 v74
  let c512_i32 : BitVec 32 := 512#32
  let c0_i32_23 : BitVec 32 := 0#32
  let v76 : BitVec 1 := Scalar.cmpi .sgt c512_i32 c0_i32_23
  let v77 : BitVec 32 := Scalar.extui v76
  let c0_i32_24 : BitVec 32 := 0#32
  let v78 : BitVec 1 := Scalar.cmpi .slt c512_i32 c0_i32_24
  let v79 : BitVec 32 := Scalar.extui v78
  let v80 : BitVec 32 := Scalar.subi v77 v79
  let v81 : BitVec 1 := Scalar.cmpi .ne v75 v80
  let v82 : BitVec 32 := Scalar.remsi v55 c512_i32
  let c0_i32_25 : BitVec 32 := 0#32
  let v83 : BitVec 1 := Scalar.cmpi .ne v82 c0_i32_25
  let v84 : BitVec 1 := Scalar.andi v81 v83
  let v70 : BitVec 32 := Scalar.divsi v55 c512_i32
  let c1_i32_26 : BitVec 32 := 1#32
  let v85 : BitVec 32 := Scalar.subi v70 c1_i32_26
  let v86 : BitVec 32 := Scalar.select v84 v85 v70
  let c511_i32 : BitVec 32 := 511#32
  let v87 : BitVec 32 := Scalar.addi v59 c511_i32
  let c512_i32_27 : BitVec 32 := 512#32
  let v88 : BitVec 32 := Scalar.divsi v87 c512_i32_27
  let v102 : BitVec 32 := Scalar.subi v88 v86
  let c1_i32_35 : BitVec 32 := 1#32
  let v104 : BitVec 32 := Scalar.divsi v102 c1_i32_35
  let v105 : BitVec 32 := Scalar.muli v104 c1_i32_35
  let v106 : BitVec 32 := Scalar.addi v86 v105
  let c1_i32_37 : BitVec 32 := 1#32
  let arg11 : BitVec 32 := Scf.iv v106 c1_i32_37 k0_t5
  let c512_i32_58 : BitVec 32 := 512#32
  let v159 : BitVec 32 := Scalar.muli arg11 c512_i32_58
  v159

def k0_chk1 (i : grid0.Coords) (v55 : BitVec 32) (v59 : BitVec 32) : Prop :=
  (∀ (k0_h1 : k0_cond1 i v55 v59 = 1#1), (k0_t2_loop v55 v59).OK) ∧
  (∀ k0_t2 : Fin (k0_t2_loop v55 v59).trips, ∀ (k0_h1 : k0_cond1 i v55 v59 = 1#1), 512 ∣ (k0_mult1 v55 v59 k0_t2).toNat) ∧
  (∀ k0_t2 : Fin (k0_t2_loop v55 v59).trips, ∀ (k0_h1 : k0_cond1 i v55 v59 = 1#1), ∀ a, (k0_off3 v55 v59 k0_t2) a + S1x1x512x128.size a ≤ S1x1x32768x128.size a) ∧
  (∀ k0_t2 : Fin (k0_t2_loop v55 v59).trips, ∀ (k0_h1 : k0_cond1 i v55 v59 = 1#1), ∀ a, (k0_off4 v55 v59 k0_t2) a + S1x1x1x512.size a ≤ S1x1x1x32768.size a) ∧
  (∀ (k0_h1 : k0_cond1 i v55 v59 = 1#1), (k0_t3_loop v55 v59).OK) ∧
  (∀ k0_t3 : Fin (k0_t3_loop v55 v59).trips, ∀ (k0_h1 : k0_cond1 i v55 v59 = 1#1), 512 ∣ (k0_mult2 v55 v59 k0_t3).toNat) ∧
  (∀ k0_t3 : Fin (k0_t3_loop v55 v59).trips, ∀ (k0_h1 : k0_cond1 i v55 v59 = 1#1), ∀ a, (k0_off5 v55 v59 k0_t3) a + S1x1x512x128.size a ≤ S1x1x32768x128.size a) ∧
  (∀ k0_t3 : Fin (k0_t3_loop v55 v59).trips, ∀ (k0_h1 : k0_cond1 i v55 v59 = 1#1), ∀ a, (k0_off6 v55 v59 k0_t3) a + S1x1x1x512.size a ≤ S1x1x1x32768.size a) ∧
  (∀ (k0_h1 : k0_cond1 i v55 v59 = 1#1), (k0_t4_loop v55 v59).OK) ∧
  (∀ k0_t4 : Fin (k0_t4_loop v55 v59).trips, ∀ (k0_h1 : k0_cond1 i v55 v59 = 1#1), 512 ∣ (k0_mult3 v55 v59 k0_t4).toNat) ∧
  (∀ k0_t4 : Fin (k0_t4_loop v55 v59).trips, ∀ (k0_h1 : k0_cond1 i v55 v59 = 1#1), ∀ a, (k0_off7 v55 v59 k0_t4) a + S1x1x512x128.size a ≤ S1x1x32768x128.size a) ∧
  (∀ k0_t4 : Fin (k0_t4_loop v55 v59).trips, ∀ (k0_h1 : k0_cond1 i v55 v59 = 1#1), ∀ a, (k0_off8 v55 v59 k0_t4) a + S1x1x1x512.size a ≤ S1x1x1x32768.size a) ∧
  (∀ k0_t4 : Fin (k0_t4_loop v55 v59).trips, ∀ (k0_h1 : k0_cond1 i v55 v59 = 1#1), 512 ∣ (k0_mult4 v55 v59 k0_t4).toNat) ∧
  (∀ (k0_h1 : k0_cond1 i v55 v59 = 1#1), (k0_t5_loop v55 v59).OK) ∧
  (∀ k0_t5 : Fin (k0_t5_loop v55 v59).trips, ∀ (k0_h1 : k0_cond1 i v55 v59 = 1#1), 512 ∣ (k0_mult5 v55 v59 k0_t5).toNat) ∧
  (∀ k0_t5 : Fin (k0_t5_loop v55 v59).trips, ∀ (k0_h1 : k0_cond1 i v55 v59 = 1#1), ∀ a, (k0_off9 v55 v59 k0_t5) a + S1x1x512x128.size a ≤ S1x1x32768x128.size a) ∧
  (∀ k0_t5 : Fin (k0_t5_loop v55 v59).trips, ∀ (k0_h1 : k0_cond1 i v55 v59 = 1#1), ∀ a, (k0_off10 v55 v59 k0_t5) a + S1x1x1x512.size a ≤ S1x1x1x32768.size a) ∧
  (∀ k0_t5 : Fin (k0_t5_loop v55 v59).trips, ∀ (k0_h1 : k0_cond1 i v55 v59 = 1#1), 512 ∣ (k0_mult6 v55 v59 k0_t5).toNat)
theorem k0_t2_ok : ∀ (i : grid0.Coords) (v55 : BitVec 32) (v59 : BitVec 32) (k0_hw1 : k0_chk1 i v55 v59), ∀ (k0_h1 : k0_cond1 i v55 v59 = 1#1), (k0_t2_loop v55 v59).OK := fun i v55 v59 k0_hw1 k0_h1 => k0_hw1.1 k0_h1
theorem k0_mult1_dvd : ∀ (i : grid0.Coords) (v55 : BitVec 32) (v59 : BitVec 32) (k0_hw1 : k0_chk1 i v55 v59) (k0_t2 : Fin (k0_t2_loop v55 v59).trips), ∀ (k0_h1 : k0_cond1 i v55 v59 = 1#1), 512 ∣ (k0_mult1 v55 v59 k0_t2).toNat := fun i v55 v59 k0_hw1 k0_t2 k0_h1 => k0_hw1.2.1 k0_t2 k0_h1
theorem k0_off3_inb : ∀ (i : grid0.Coords) (v55 : BitVec 32) (v59 : BitVec 32) (k0_hw1 : k0_chk1 i v55 v59) (k0_t2 : Fin (k0_t2_loop v55 v59).trips), ∀ (k0_h1 : k0_cond1 i v55 v59 = 1#1), ∀ a, (k0_off3 v55 v59 k0_t2) a + S1x1x512x128.size a ≤ S1x1x32768x128.size a := fun i v55 v59 k0_hw1 k0_t2 k0_h1 => k0_hw1.2.2.1 k0_t2 k0_h1
theorem k0_off4_inb : ∀ (i : grid0.Coords) (v55 : BitVec 32) (v59 : BitVec 32) (k0_hw1 : k0_chk1 i v55 v59) (k0_t2 : Fin (k0_t2_loop v55 v59).trips), ∀ (k0_h1 : k0_cond1 i v55 v59 = 1#1), ∀ a, (k0_off4 v55 v59 k0_t2) a + S1x1x1x512.size a ≤ S1x1x1x32768.size a := fun i v55 v59 k0_hw1 k0_t2 k0_h1 => k0_hw1.2.2.2.1 k0_t2 k0_h1
theorem k0_t3_ok : ∀ (i : grid0.Coords) (v55 : BitVec 32) (v59 : BitVec 32) (k0_hw1 : k0_chk1 i v55 v59), ∀ (k0_h1 : k0_cond1 i v55 v59 = 1#1), (k0_t3_loop v55 v59).OK := fun i v55 v59 k0_hw1 k0_h1 => k0_hw1.2.2.2.2.1 k0_h1
theorem k0_mult2_dvd : ∀ (i : grid0.Coords) (v55 : BitVec 32) (v59 : BitVec 32) (k0_hw1 : k0_chk1 i v55 v59) (k0_t3 : Fin (k0_t3_loop v55 v59).trips), ∀ (k0_h1 : k0_cond1 i v55 v59 = 1#1), 512 ∣ (k0_mult2 v55 v59 k0_t3).toNat := fun i v55 v59 k0_hw1 k0_t3 k0_h1 => k0_hw1.2.2.2.2.2.1 k0_t3 k0_h1
theorem k0_off5_inb : ∀ (i : grid0.Coords) (v55 : BitVec 32) (v59 : BitVec 32) (k0_hw1 : k0_chk1 i v55 v59) (k0_t3 : Fin (k0_t3_loop v55 v59).trips), ∀ (k0_h1 : k0_cond1 i v55 v59 = 1#1), ∀ a, (k0_off5 v55 v59 k0_t3) a + S1x1x512x128.size a ≤ S1x1x32768x128.size a := fun i v55 v59 k0_hw1 k0_t3 k0_h1 => k0_hw1.2.2.2.2.2.2.1 k0_t3 k0_h1
theorem k0_off6_inb : ∀ (i : grid0.Coords) (v55 : BitVec 32) (v59 : BitVec 32) (k0_hw1 : k0_chk1 i v55 v59) (k0_t3 : Fin (k0_t3_loop v55 v59).trips), ∀ (k0_h1 : k0_cond1 i v55 v59 = 1#1), ∀ a, (k0_off6 v55 v59 k0_t3) a + S1x1x1x512.size a ≤ S1x1x1x32768.size a := fun i v55 v59 k0_hw1 k0_t3 k0_h1 => k0_hw1.2.2.2.2.2.2.2.1 k0_t3 k0_h1
theorem k0_t4_ok : ∀ (i : grid0.Coords) (v55 : BitVec 32) (v59 : BitVec 32) (k0_hw1 : k0_chk1 i v55 v59), ∀ (k0_h1 : k0_cond1 i v55 v59 = 1#1), (k0_t4_loop v55 v59).OK := fun i v55 v59 k0_hw1 k0_h1 => k0_hw1.2.2.2.2.2.2.2.2.1 k0_h1
theorem k0_mult3_dvd : ∀ (i : grid0.Coords) (v55 : BitVec 32) (v59 : BitVec 32) (k0_hw1 : k0_chk1 i v55 v59) (k0_t4 : Fin (k0_t4_loop v55 v59).trips), ∀ (k0_h1 : k0_cond1 i v55 v59 = 1#1), 512 ∣ (k0_mult3 v55 v59 k0_t4).toNat := fun i v55 v59 k0_hw1 k0_t4 k0_h1 => k0_hw1.2.2.2.2.2.2.2.2.2.1 k0_t4 k0_h1
theorem k0_off7_inb : ∀ (i : grid0.Coords) (v55 : BitVec 32) (v59 : BitVec 32) (k0_hw1 : k0_chk1 i v55 v59) (k0_t4 : Fin (k0_t4_loop v55 v59).trips), ∀ (k0_h1 : k0_cond1 i v55 v59 = 1#1), ∀ a, (k0_off7 v55 v59 k0_t4) a + S1x1x512x128.size a ≤ S1x1x32768x128.size a := fun i v55 v59 k0_hw1 k0_t4 k0_h1 => k0_hw1.2.2.2.2.2.2.2.2.2.2.1 k0_t4 k0_h1
theorem k0_off8_inb : ∀ (i : grid0.Coords) (v55 : BitVec 32) (v59 : BitVec 32) (k0_hw1 : k0_chk1 i v55 v59) (k0_t4 : Fin (k0_t4_loop v55 v59).trips), ∀ (k0_h1 : k0_cond1 i v55 v59 = 1#1), ∀ a, (k0_off8 v55 v59 k0_t4) a + S1x1x1x512.size a ≤ S1x1x1x32768.size a := fun i v55 v59 k0_hw1 k0_t4 k0_h1 => k0_hw1.2.2.2.2.2.2.2.2.2.2.2.1 k0_t4 k0_h1
theorem k0_mult4_dvd : ∀ (i : grid0.Coords) (v55 : BitVec 32) (v59 : BitVec 32) (k0_hw1 : k0_chk1 i v55 v59) (k0_t4 : Fin (k0_t4_loop v55 v59).trips), ∀ (k0_h1 : k0_cond1 i v55 v59 = 1#1), 512 ∣ (k0_mult4 v55 v59 k0_t4).toNat := fun i v55 v59 k0_hw1 k0_t4 k0_h1 => k0_hw1.2.2.2.2.2.2.2.2.2.2.2.2.1 k0_t4 k0_h1
theorem k0_t5_ok : ∀ (i : grid0.Coords) (v55 : BitVec 32) (v59 : BitVec 32) (k0_hw1 : k0_chk1 i v55 v59), ∀ (k0_h1 : k0_cond1 i v55 v59 = 1#1), (k0_t5_loop v55 v59).OK := fun i v55 v59 k0_hw1 k0_h1 => k0_hw1.2.2.2.2.2.2.2.2.2.2.2.2.2.1 k0_h1
theorem k0_mult5_dvd : ∀ (i : grid0.Coords) (v55 : BitVec 32) (v59 : BitVec 32) (k0_hw1 : k0_chk1 i v55 v59) (k0_t5 : Fin (k0_t5_loop v55 v59).trips), ∀ (k0_h1 : k0_cond1 i v55 v59 = 1#1), 512 ∣ (k0_mult5 v55 v59 k0_t5).toNat := fun i v55 v59 k0_hw1 k0_t5 k0_h1 => k0_hw1.2.2.2.2.2.2.2.2.2.2.2.2.2.2.1 k0_t5 k0_h1
theorem k0_off9_inb : ∀ (i : grid0.Coords) (v55 : BitVec 32) (v59 : BitVec 32) (k0_hw1 : k0_chk1 i v55 v59) (k0_t5 : Fin (k0_t5_loop v55 v59).trips), ∀ (k0_h1 : k0_cond1 i v55 v59 = 1#1), ∀ a, (k0_off9 v55 v59 k0_t5) a + S1x1x512x128.size a ≤ S1x1x32768x128.size a := fun i v55 v59 k0_hw1 k0_t5 k0_h1 => k0_hw1.2.2.2.2.2.2.2.2.2.2.2.2.2.2.2.1 k0_t5 k0_h1
theorem k0_off10_inb : ∀ (i : grid0.Coords) (v55 : BitVec 32) (v59 : BitVec 32) (k0_hw1 : k0_chk1 i v55 v59) (k0_t5 : Fin (k0_t5_loop v55 v59).trips), ∀ (k0_h1 : k0_cond1 i v55 v59 = 1#1), ∀ a, (k0_off10 v55 v59 k0_t5) a + S1x1x1x512.size a ≤ S1x1x1x32768.size a := fun i v55 v59 k0_hw1 k0_t5 k0_h1 => k0_hw1.2.2.2.2.2.2.2.2.2.2.2.2.2.2.2.2.1 k0_t5 k0_h1
theorem k0_mult6_dvd : ∀ (i : grid0.Coords) (v55 : BitVec 32) (v59 : BitVec 32) (k0_hw1 : k0_chk1 i v55 v59) (k0_t5 : Fin (k0_t5_loop v55 v59).trips), ∀ (k0_h1 : k0_cond1 i v55 v59 = 1#1), 512 ∣ (k0_mult6 v55 v59 k0_t5).toNat := fun i v55 v59 k0_hw1 k0_t5 k0_h1 => k0_hw1.2.2.2.2.2.2.2.2.2.2.2.2.2.2.2.2.2 k0_t5 k0_h1

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32768x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x32768x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "cq" => some (((Real.sqrt 128)⁻¹ * (Real.log 2)⁻¹ : ℝ) : EReal)
  | _ => none
-- ==== AttendIdeal.lean ====
abbrev S2x32768x1024 : Shape := ⟨3, ![2, 32768, 1024]⟩
abbrev S2x2x32768x128 : Shape := ⟨4, ![2, 2, 32768, 128]⟩
abbrev S2x2x32768 : Shape := ⟨3, ![2, 2, 32768]⟩
abbrev S2x2x128 : Shape := ⟨3, ![2, 2, 128]⟩
abbrev S2x32768 : Shape := ⟨2, ![2, 32768]⟩
abbrev S2x32768x2x4x128 : Shape := ⟨5, ![2, 32768, 2, 4, 128]⟩
abbrev S2x2x4x32768x128 : Shape := ⟨5, ![2, 2, 4, 32768, 128]⟩
abbrev S4x131072x128 : Shape := ⟨3, ![4, 131072, 128]⟩
abbrev S2x1x1x32768 : Shape := ⟨4, ![2, 1, 1, 32768]⟩
abbrev S2x2x1x32768 : Shape := ⟨4, ![2, 2, 1, 32768]⟩
abbrev S4x1x32768 : Shape := ⟨3, ![4, 1, 32768]⟩
abbrev S2x2x4x32768 : Shape := ⟨4, ![2, 2, 4, 32768]⟩
abbrev S4x131072x1 : Shape := ⟨3, ![4, 131072, 1]⟩
abbrev S4x32768x128 : Shape := ⟨3, ![4, 32768, 128]⟩
abbrev S4x1x128 : Shape := ⟨3, ![4, 1, 128]⟩
abbrev S4x131072 : Shape := ⟨2, ![4, 131072]⟩
abbrev S4x131072x32768 : Shape := ⟨3, ![4, 131072, 32768]⟩

abbrev nBuf : Space → Nat
  | .hbm => 20
  | .vmem => 8
  | .smem => 0
  | _ => 0

abbrev bufTy : (tb : Table) → Fin (tcTables nBuf tb) → BufTy
  | .hbm, ⟨0, _⟩ => ⟨S2x32768x1024, .bf16⟩
  | .hbm, ⟨1, _⟩ => ⟨S2x2x32768x128, .fp8e4m3⟩
  | .hbm, ⟨2, _⟩ => ⟨S2x2x32768, .f32⟩
  | .hbm, ⟨3, _⟩ => ⟨S2x2x32768x128, .fp8e4m3⟩
  | .hbm, ⟨4, _⟩ => ⟨S2x2x128, .f32⟩
  | .hbm, ⟨5, _⟩ => ⟨S2x32768, .i32⟩
  | .hbm, ⟨6, _⟩ => ⟨S2x32768x2x4x128, .bf16⟩
  | .hbm, ⟨7, _⟩ => ⟨S2x2x4x32768x128, .bf16⟩
  | .hbm, ⟨8, _⟩ => ⟨S4x131072x128, .bf16⟩
  | .hbm, ⟨9, _⟩ => ⟨S2x1x1x32768, .i32⟩
  | .hbm, ⟨10, _⟩ => ⟨S2x2x1x32768, .i32⟩
  | .hbm, ⟨11, _⟩ => ⟨S4x1x32768, .i32⟩
  | .hbm, ⟨12, _⟩ => ⟨S2x1x1x32768, .i32⟩
  | .hbm, ⟨13, _⟩ => ⟨S2x2x4x32768, .i32⟩
  | .hbm, ⟨14, _⟩ => ⟨S4x131072x1, .i32⟩
  | .hbm, ⟨15, _⟩ => ⟨S4x32768x128, .fp8e4m3⟩
  | .hbm, ⟨16, _⟩ => ⟨S4x1x32768, .f32⟩
  | .hbm, ⟨17, _⟩ => ⟨S4x32768x128, .fp8e4m3⟩
  | .hbm, ⟨18, _⟩ => ⟨S4x1x128, .f32⟩
  | .hbm, ⟨19, _⟩ => ⟨S2x32768x1024, .bf16⟩
  | .local _ .vmem, ⟨0, _⟩ => ⟨S4x131072x128, .bf16⟩
  | .local _ .vmem, ⟨1, _⟩ => ⟨S4x32768x128, .fp8e4m3⟩
  | .local _ .vmem, ⟨2, _⟩ => ⟨S4x1x32768, .f32⟩
  | .local _ .vmem, ⟨3, _⟩ => ⟨S4x32768x128, .fp8e4m3⟩
  | .local _ .vmem, ⟨4, _⟩ => ⟨S4x1x128, .f32⟩
  | .local _ .vmem, ⟨5, _⟩ => ⟨S4x131072x1, .i32⟩
  | .local _ .vmem, ⟨6, _⟩ => ⟨S4x1x32768, .i32⟩
  | .local _ .vmem, ⟨7, _⟩ => ⟨S2x32768x1024, .bf16⟩
  | _, _ => ⟨S2x32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "sm" => some (((Real.sqrt 128)⁻¹ : ℝ) : EReal)
  | _ => none

abbrev grid0 : Pipeline.Grid := .none

abbrev stage0_0 : Fin 1 → Memref sig .tc .vmem S4x131072x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32768x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32768x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x131072x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x32768 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x32768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== QuantK.lean ====
abbrev S2x32768x256 : Shape := ⟨3, ![2, 32768, 256]⟩
abbrev S2x2x32768x128 : Shape := ⟨4, ![2, 2, 32768, 128]⟩
abbrev S2x2x32768 : Shape := ⟨3, ![2, 2, 32768]⟩
abbrev S1x512x256 : Shape := ⟨3, ![1, 512, 256]⟩
abbrev S1x2x512x128 : Shape := ⟨4, ![1, 2, 512, 128]⟩
abbrev S1x2x512 : Shape := ⟨3, ![1, 2, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S512x256 : Shape := ⟨2, ![512, 256]⟩
abbrev S1x1x512x128 : Shape := ⟨4, ![1, 1, 512, 128]⟩
abbrev S128x512 : Shape := ⟨2, ![128, 512]⟩
abbrev S2x512 : Shape := ⟨2, ![2, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x32768x256, .bf16⟩
  | .hbm, ⟨1, _⟩ => ⟨S2x2x32768x128, .fp8e4m3⟩
  | .hbm, ⟨2, _⟩ => ⟨S2x2x32768, .f32⟩
  | .local _ .vmem, ⟨0, _⟩ => ⟨S1x512x256, .bf16⟩
  | .local _ .vmem, ⟨1, _⟩ => ⟨S1x512x256, .bf16⟩
  | .local _ .vmem, ⟨2, _⟩ => ⟨S1x2x512x128, .fp8e4m3⟩
  | .local _ .vmem, ⟨3, _⟩ => ⟨S1x2x512x128, .fp8e4m3⟩
  | .local _ .vmem, ⟨4, _⟩ => ⟨S1x2x512, .f32⟩
  | .local _ .vmem, ⟨5, _⟩ => ⟨S1x2x512, .f32⟩
  | _, _ => ⟨S2x32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CodesKIdeal.lean ====
abbrev S2x32768x256 : Shape := ⟨3, ![2, 32768, 256]⟩
abbrev S2x32768x2x128 : Shape := ⟨4, ![2, 32768, 2, 128]⟩
abbrev S2x2x32768x128 : Shape := ⟨4, ![2, 2, 32768, 128]⟩
abbrev S2x2x32768 : Shape := ⟨3, ![2, 2, 32768]⟩
abbrev S2x2x32768x1 : Shape := ⟨4, ![2, 2, 32768, 1]⟩

abbrev nBuf : Space → Nat
  | .hbm => 5
  | .vmem => 3
  | .smem => 0
  | _ => 0

abbrev bufTy : (tb : Table) → Fin (tcTables nBuf tb) → BufTy
  | .hbm, ⟨0, _⟩ => ⟨S2x32768x256, .bf16⟩
  | .hbm, ⟨1, _⟩ => ⟨S2x32768x2x128, .bf16⟩
  | .hbm, ⟨2, _⟩ => ⟨S2x2x32768x128, .bf16⟩
  | .hbm, ⟨3, _⟩ => ⟨S2x2x32768x128, .fp8e4m3⟩
  | .hbm, ⟨4, _⟩ => ⟨S2x2x32768, .f32⟩
  | .local _ .vmem, ⟨0, _⟩ => ⟨S2x2x32768x128, .bf16⟩
  | .local _ .vmem, ⟨1, _⟩ => ⟨S2x2x32768x128, .fp8e4m3⟩
  | .local _ .vmem, ⟨2, _⟩ => ⟨S2x2x32768, .f32⟩
  | _, _ => ⟨S2x32768x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x2x32768x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x32768x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.AttnBody.lean ====
/- What one trip of the kernel's loop over documents computes, and the loop's invariant: generic in the float instance. -/
module

public import proofs.«01_k».proof.Proof.Gen.Attn
public import proofs.«01_k».proof.Proof.Gen.Attn.Skeleton
public import proofs.«01_k».proof.Proof.Gen.Attn.Loops
public import Idealize.ShloMosaic.Lib.LoopRemainder
public import Idealize.ShloMosaic.Lib.Pipeline.FrameBody
public import Idealize.ShloMosaic.Lib.WritesUnit

@[expose] public section

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values of one document -/

section Values

variable (i : grid0.Coords) (v44 : FVec F S256x128 .fp8e4m3) (v46 : FVec F S256x1 .f32) (v51 : IVec S1x512 32) (v55 : Elt F .i32) (v59 : Elt F .i32)
  (hw : k0_chk1 i v55 v59) (h1 : k0_cond1 i v55 v59 = 1#1)
  (K : Vec F S1x1x32768x128 .fp8e4m3) (KS : Vec F S1x1x1x32768 .f32) (V : Vec F S1x1x32768x128 .fp8e4m3)

/-- The block of keys (or of scales) that trip `k` of the first pass reads. -/
abbrev rK2 (k : Fin (k0_t2_loop v55 v59).trips) : Rect S1x1x32768x128 :=
  Rect.unit (s := S1x1x32768x128) (k0_off3 v55 v59 k) S1x1x512x128.size (k0_off3_inb i v55 v59 hw k h1)
abbrev rS2 (k : Fin (k0_t2_loop v55 v59).trips) : Rect S1x1x1x32768 :=
  Rect.unit (s := S1x1x1x32768) (k0_off4 v55 v59 k) S1x1x1x512.size (k0_off4_inb i v55 v59 hw k h1)
/-- The block of keys and values (or of scales) that trip `k` of the second pass reads. -/
abbrev rK4 (k : Fin (k0_t4_loop v55 v59).trips) : Rect S1x1x32768x128 :=
  Rect.unit (s := S1x1x32768x128) (k0_off7 v55 v59 k) S1x1x512x128.size (k0_off7_inb i v55 v59 hw k h1)
abbrev rS4 (k : Fin (k0_t4_loop v55 v59).trips) : Rect S1x1x1x32768 :=
  Rect.unit (s := S1x1x1x32768) (k0_off8 v55 v59 k) S1x1x1x512.size (k0_off8_inb i v55 v59 hw k h1)

/-- The running row maximum of the first pass before trip `n`. -/
def mx : ℕ → FVec F S256x1 .f32
  | 0 => k0_pay4
  | n + 1 => if h : n < (k0_t2_loop v55 v59).trips then
      k0_pay5 v44 v51 v55 v59 ⟨n, h⟩ (mx n) (View.ld K (rK2 i v55 v59 hw h1 ⟨n, h⟩)) (View.ld KS (rS2 i v55 v59 hw h1 ⟨n, h⟩))
    else mx n

/-- The running weighted sum of values and row sum of the second pass before trip `n`, the row maximum being `m`. -/
def ol (m : FVec F S256x1 .f32) : ℕ → FVec F S256x128 .f32 × FVec F S256x1 .f32
  | 0 => (k0_pay8, k0_pay9)
  | n + 1 => if h : n < (k0_t4_loop v55 v59).trips then
      (k0_pay12 v44 v46 v51 v55 v59 m ⟨n, h⟩ (ol m n).1 (View.ld K (rK4 i v55 v59 hw h1 ⟨n, h⟩)) (View.ld KS (rS4 i v55 v59 hw h1 ⟨n, h⟩)) (View.ld V (rK4 i v55 v59 hw h1 ⟨n, h⟩)),
        k0_pay11 v44 v46 v51 v55 v59 m ⟨n, h⟩ (ol m n).2 (View.ld K (rK4 i v55 v59 hw h1 ⟨n, h⟩)) (View.ld KS (rS4 i v55 v59 hw h1 ⟨n, h⟩)))
    else ol m n

/-- The row maximum of a document and its two sums, all trips made. -/
abbrev mxAll : FVec F S256x1 .f32 := mx i v44 v51 v55 v59 hw h1 K KS (k0_t2_loop v55 v59).trips
abbrev olAll : FVec F S256x128 .f32 × FVec F S256x1 .f32 :=
  ol i v44 v46 v51 v55 v59 hw h1 K KS V (mxAll i v44 v51 v55 v59 hw h1 K KS) (k0_t4_loop v55 v59).trips

variable (arg2 : BitVec 32) (VS : Vec F S1x1x1x128 .f32)

/-- The output block after a document whose bounds are the words `v55` and `v59`, the block having held `Y`. -/
def docStep (Y : Vec F S1x256x128 .bf16) : Vec F S1x256x128 .bf16 :=
  if h : k0_chk1 i v55 v59 ∧ k0_cond1 i v55 v59 = 1#1 then
    k0_pay3 arg2 v55 v59 (olAll i v44 v46 v51 v55 v59 h.1 h.2 K KS V).1 (olAll i v44 v46 v51 v55 v59 h.1 h.2 K KS V).2 VS Y
  else Y

end Values

section Fold

variable (i : grid0.Coords) (arg2 : BitVec 32) (v32 : FVec F S256x1 .f32) (v39 : FVec F S256x128 .f32) (v51 : IVec S1x512 32)
  (T : Vec F S2x13 .i32) (K : Vec F S1x1x32768x128 .fp8e4m3) (KS : Vec F S1x1x1x32768 .f32) (V : Vec F S1x1x32768x128 .fp8e4m3) (VS : Vec F S1x1x1x128 .f32)

/-- The places of the two bounds of document `k` in the table. -/
abbrev rLo (k : Fin k0_t1_loop.trips) : Rect S2x13 := Rect.unit (s := S2x13) (k0_off1 i k) S1x1.size (k0_off1_inb i k)
abbrev rHi (k : Fin k0_t1_loop.trips) : Rect S2x13 := Rect.unit (s := S2x13) (k0_off2 i k) S1x1.size (k0_off2_inb i k)
/-- The two bounds of document `k`. -/
abbrev lo (k : Fin k0_t1_loop.trips) : Elt F .i32 := View.ld T (rLo i k) ((Shape.Idx.first (numel1_S1x1.symm ▸ Nat.one_pos)))
abbrev hi (k : Fin k0_t1_loop.trips) : Elt F .i32 := View.ld T (rHi i k) ((Shape.Idx.first (numel1_S1x1.symm ▸ Nat.one_pos)))

/-- The output block before document `k`, the block having held `Y` before the first. -/
def fold (Y : Vec F S1x256x128 .bf16) : ℕ → Vec F S1x256x128 .bf16
  | 0 => Y
  | n + 1 => if h : n < k0_t1_loop.trips then
      docStep i (k0_pay1 v39) (k0_pay2 v32) v51 (lo i T ⟨n, h⟩) (hi i T ⟨n, h⟩) K KS V arg2 VS (fold Y n)
    else fold Y n

/-- The output block a grid step leaves, from the blocks it reads and the block `Y` it finds. -/
def bodyVal (X : Vec F S1x256x128 .bf16) (Y : Vec F S1x256x128 .bf16) : Vec F S1x256x128 .bf16 :=
  fold i (BitVec.ofNat 32 (i 2).val) (k0_pay18 X) (k0_pay19 X) (iota .tc S1x512 32 [1] iota_S1x512_d1_w32) T K KS V VS Y k0_t1_loop.trips

end Fold

section Whole

variable (arg8 : Memref sig .tc .vmem S1x1x1x128 .f32) (arg9 : Memref sig .tc .vmem S1x256x128 .bf16)

/-- The scales' block is loaded whole. -/
theorem readAt_scale (X : BufTy.Contents (Elt F) arg8.view.ty) :
    arg8.view.readAt (Elt F) (Rect.unit (s := S1x1x1x128) ![0, 0, 0, 0] S1x1x1x128.size inb_S1x1x1x128_S1x1x1x128_0_0_0_0).toLoadRect X = arg8.view.read (Elt F) X := by
  funext x
  refine congrArg (arg8.view.read (Elt F) X) (funext fun a => Fin.ext ?_)
  fin_cases a <;> simp [Rect.emb, Rect.unit]

/-- The output block is loaded whole. -/
theorem readAt_block (X : BufTy.Contents (Elt F) arg9.view.ty) :
    arg9.view.readAt (Elt F) (Rect.unit (s := S1x256x128) ![0, 0, 0] S1x256x128.size inb_S1x256x128_S1x256x128_0_0_0).toLoadRect X = arg9.view.read (Elt F) X := by
  funext x
  refine congrArg (arg9.view.read (Elt F) X) (funext fun a => Fin.ext ?_)
  fin_cases a <;> simp [Rect.emb, Rect.unit]

/-- The output block is stored whole. -/
theorem read_writes_block (X : BufTy.Contents (Elt F) arg9.view.ty) (w : Vec F S1x256x128 .bf16) :
    arg9.view.read (Elt F) (arg9.view.writes (Elt F) X [⟨Rect.unit (s := S1x256x128) ![0, 0, 0] S1x256x128.size inb_S1x256x128_S1x256x128_0_0_0, w⟩]) = w := by
  funext y
  exact View.read_writes_cons_unit_of_mem (v := arg9.view) (f := X) (Val := Elt F) (off := ![0, 0, 0]) (size := S1x256x128.size) inb_S1x256x128_S1x256x128_0_0_0 w [] y y rfl
    (fun a => by fin_cases a <;> simp)

end Whole

section Run

variable (c : Dev nD) (i : grid0.Coords) (arg3 : Memref sig .tc .smem S2x13 .i32) (harg3 : arg3.IsWhole) (arg4 : Memref sig .tc .vmem S1x256x128 .bf16) (harg4 : arg4.IsWhole) (arg5 : Memref sig .tc .vmem S1x1x32768x128 .fp8e4m3) (harg5 : arg5.IsWhole) (arg6 : Memref sig .tc .vmem S1x1x1x32768 .f32) (harg6 : arg6.IsWhole) (arg7 : Memref sig .tc .vmem S1x1x32768x128 .fp8e4m3) (harg7 : arg7.IsWhole) (arg8 : Memref sig .tc .vmem S1x1x1x128 .f32) (harg8 : arg8.IsWhole) (arg9 : Memref sig .tc .vmem S1x256x128 .bf16) (harg9 : arg9.IsWhole)

section St
variable (v44 : FVec F S256x128 .fp8e4m3) (v46 : FVec F S256x1 .f32) (v51 : IVec S1x512 32) (v55 : Elt F .i32) (v59 : Elt F .i32) (hw : k0_chk1 i v55 v59) (h1 : k0_cond1 i v55 v59 = 1#1)
  (X5 : BufTy.Contents (Elt F) arg5.view.ty) (X6 : BufTy.Contents (Elt F) arg6.view.ty) (X7 : BufTy.Contents (Elt F) arg7.view.ty)

set_option maxRecDepth 20000 in
theorem st2_eq (n : ℕ) :
    st_k0_t2 (F := F) Variants.none c none i arg3 harg3 arg4 harg4 arg5 harg5 arg6 harg6 arg7 harg7 arg8 harg8 arg9 harg9 v44 v46 v51 v55 v59 hw h1 X5 X6 (k0_pay4 (F := F)) n
      = mx i v44 v51 v55 v59 hw h1 (arg5.view.read (Elt F) X5) (arg6.view.read (Elt F) X6) n := by
  induction n with
  | zero => rfl
  | succ n ih =>
    rw [st_k0_t2.eq_2, mx]; unfold st_k0_t2Step
    split
    · rw [ih]; unfold tripR_k0_t2 trip_k0_t2; rfl
    · exact ih

set_option maxRecDepth 20000 in
theorem st4_eq (m : FVec F S256x1 .f32) (n : ℕ) :
    st_k0_t4 (F := F) Variants.none c none i arg3 harg3 arg4 harg4 arg5 harg5 arg6 harg6 arg7 harg7 arg8 harg8 arg9 harg9 v44 v46 v51 v55 v59 hw h1 m X5 X6 X7 (k0_pay8 (F := F), k0_pay9 (F := F)) n
      = ol i v44 v46 v51 v55 v59 hw h1 (arg5.view.read (Elt F) X5) (arg6.view.read (Elt F) X6) (arg7.view.read (Elt F) X7) m n := by
  induction n with
  | zero => rfl
  | succ n ih =>
    rw [st_k0_t4.eq_2, ol]; unfold st_k0_t4Step
    split
    · rw [ih]; unfold tripR_k0_t4 trip_k0_t4; rfl
    · exact ih

end St

variable (arg2 : BitVec 32) (v32 : FVec F S256x1 .f32) (v39 : FVec F S256x128 .f32) (v51 : IVec S1x512 32)
  (q : PosShare TreeShare) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty)

/-- What the loop over documents only reads. -/
abbrev Rd : sProp 𝕄 :=
  iprop((arg3.view.loc (c : Thread nD τ) ↦[arg3.view.set]{q} X3) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8))

/-- The loops of the steps left over make no trip. -/
theorem t3_none {σ : Type} (v55 v59 : BitVec 32) (hok : (k0_t3_loop v55 v59).OK) (x : σ) (body : Fin (k0_t3_loop v55 v59).trips → σ → Prog (TpuEff nD τ sig (Elt F) Λ₀ .tc) σ) :
    Scf.Loop.for (k0_t3_loop v55 v59) hok x body = .ret x :=
  Scf.for_eq_ret _ _ _ hok x body (Scf.rem_trips _ _)
theorem t5_none {σ : Type} (v55 v59 : BitVec 32) (hok : (k0_t5_loop v55 v59).OK) (x : σ) (body : Fin (k0_t5_loop v55 v59).trips → σ → Prog (TpuEff nD τ sig (Elt F) Λ₀ .tc) σ) :
    Scf.Loop.for (k0_t5_loop v55 v59) hok x body = .ret x :=
  Scf.for_eq_ret _ _ _ hok x body (Scf.rem_trips _ _)

/-- The keys, their scales and the values, read by the loops over the keys. -/
abbrev Kv : sProp 𝕄 := iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7))

set_option cleanup.letToHave false in
/-- The two loops over the keys of a document: they yield the accumulated products and the row sums. -/
theorem part1_run (v44 : FVec F S256x128 .fp8e4m3) (v46 : FVec F S256x1 .f32) (v55 : Elt F .i32) (v59 : Elt F .i32) (hw : k0_chk1 i v55 v59) (h1 : k0_cond1 i v55 v59 = 1#1) :
    Kv c arg5 arg6 arg7 X5 X6 X7
      ⊢ wp frame (wpE (defs₀ (F := F)) Variants.none (c : Thread nD τ) none) Set.univ
          (k0_part1 (F := F) i arg3 harg3 arg4 harg4 arg5 harg5 arg6 harg6 arg7 harg7 arg8 harg8 arg9 harg9 v44 v46 v51 v55 v59 hw h1)
          (fun r => iprop(⌜r = ⟨(olAll i v44 v46 v51 v55 v59 hw h1 (arg5.view.read (Elt F) X5) (arg6.view.read (Elt F) X6) (arg7.view.read (Elt F) X7)).1, (olAll i v44 v46 v51 v55 v59 hw h1 (arg5.view.read (Elt F) X5) (arg6.view.read (Elt F) X6) (arg7.view.read (Elt F) X7)).2⟩⌝
            ∗ Kv c arg5 arg6 arg7 X5 X6 X7)) := by
  rw [k0_part1_eq_skeleton]
  unfold k0_part1_skel
  iintro ⟨H5, H6, H7⟩
  rw [wp_bind]
  iapply (Scf.wp_for Idealize.ShloMosaic.frame (wpE (defs₀ (F := F)) Variants.none (c : Thread nD τ) none) Set.univ _ _ _ _ _ _
    (inv_k0_t2 (F := F) Variants.none c none i arg3 harg3 arg4 harg4 arg5 harg5 arg6 harg6 arg7 harg7 arg8 harg8 arg9 harg9 v44 v46 v51 v55 v59 hw h1 X5 X6 (k0_pay4 (F := F)))
    (loopInv_k0_t2 (F := F) Variants.none c none Set.univ i arg3 harg3 arg4 harg4 arg5 harg5 arg6 harg6 arg7 harg7 arg8 harg8 arg9 harg9 v44 v46 v51 v55 v59 hw h1 X5 X6 (k0_pay4 (F := F))).step)
  isplitl [H5 H6]
  · isplitl [H5]; · iexact H5
    isplitl [H6]; · iexact H6
    ipureintro; rfl
  iintro %m ⟨H5, H6, %hm⟩
  have hm' := hm.trans (st2_eq c i arg3 harg3 arg4 harg4 arg5 harg5 arg6 harg6 arg7 harg7 arg8 harg8 arg9 harg9 v44 v46 v51 v55 v59 hw h1 X5 X6 _)
  rw [hm', t3_none, Prog.bind_ret, wp_bind]
  iapply (Scf.wp_for Idealize.ShloMosaic.frame (wpE (defs₀ (F := F)) Variants.none (c : Thread nD τ) none) Set.univ _ _ _ _ _ _
    (inv_k0_t4 (F := F) Variants.none c none i arg3 harg3 arg4 harg4 arg5 harg5 arg6 harg6 arg7 harg7 arg8 harg8 arg9 harg9 v44 v46 v51 v55 v59 hw h1 (mxAll i v44 v51 v55 v59 hw h1 (arg5.view.read (Elt F) X5) (arg6.view.read (Elt F) X6)) X5 X6 X7 (k0_pay8 (F := F), k0_pay9 (F := F)))
    (loopInv_k0_t4 (F := F) Variants.none c none Set.univ i arg3 harg3 arg4 harg4 arg5 harg5 arg6 harg6 arg7 harg7 arg8 harg8 arg9 harg9 v44 v46 v51 v55 v59 hw h1 (mxAll i v44 v51 v55 v59 hw h1 (arg5.view.read (Elt F) X5) (arg6.view.read (Elt F) X6)) X5 X6 X7 (k0_pay8 (F := F), k0_pay9 (F := F))).step)
  isplitl [H5 H6 H7]
  · isplitl [H5]; · iexact H5
    isplitl [H6]; · iexact H6
    isplitl [H7]; · iexact H7
    ipureintro; rfl
  iintro %m ⟨H5, H6, H7, %hm⟩
  have hm' := hm.trans (st4_eq c i arg3 harg3 arg4 harg4 arg5 harg5 arg6 harg6 arg7 harg7 arg8 harg8 arg9 harg9 v44 v46 v51 v55 v59 hw h1 X5 X6 X7 _ _)
  clear hm
  obtain ⟨m0, m1⟩ := m
  dsimp only
  rw [t5_none, Prog.bind_ret]
  sl_step
  isplitr
  · ipureintro; rw [olAll, ← hm']
  isplitl [H5]; · iexact H5
  isplitl [H6]; · iexact H6
  iexact H7

theorem trip1 (hchk : ∀ k, k0_chk1 i (lo i (arg3.view.read (Elt F) X3) k) (hi i (arg3.view.read (Elt F) X3) k)) (k : Fin k0_t1_loop.trips) (Y : Vec F S1x256x128 .bf16) :
    iprop(Rd c arg3 arg5 arg6 arg7 arg8 q X3 X5 X6 X7 X8 ∗ ∃ f, ⌜arg9.view.read (Elt F) f = Y⌝ ∗ (arg9.view.loc (c : Thread nD τ) ↦[arg9.view.set]{fullShare} f))
      ⊢ wp frame (wpE (defs₀ (F := F)) Variants.none (c : Thread nD τ) none) Set.univ
          (k0_t1_body (F := F) i arg3 harg3 arg4 harg4 arg5 harg5 arg6 harg6 arg7 harg7 arg8 harg8 arg9 harg9 arg2 v32 v39 v51 k ())
          (fun _ => iprop(Rd c arg3 arg5 arg6 arg7 arg8 q X3 X5 X6 X7 X8 ∗ ∃ f, ⌜arg9.view.read (Elt F) f =
            docStep i (k0_pay1 v39) (k0_pay2 v32) v51 (lo i (arg3.view.read (Elt F) X3) k) (hi i (arg3.view.read (Elt F) X3) k)
              (arg5.view.read (Elt F) X5) (arg6.view.read (Elt F) X6) (arg7.view.read (Elt F) X7) arg2 (arg8.view.read (Elt F) X8) Y⌝
            ∗ (arg9.view.loc (c : Thread nD τ) ↦[arg9.view.set]{fullShare} f))) := by
  have hk := hchk k
  by_cases h1 : k0_cond1 i (lo i (arg3.view.read (Elt F) X3) k) (hi i (arg3.view.read (Elt F) X3) k) = 1#1
  · unfold k0_t1_body
    have T := part1_run (F := F) c i arg3 harg3 arg4 harg4 arg5 harg5 arg6 harg6 arg7 harg7 arg8 harg8 arg9 harg9 v51 X5 X6 X7
    generalize k0_part1 (F := F) = P at T ⊢
    iintro ⟨⟨H3, H5, H6, H7, H8⟩, %f, %hf, H9⟩
    sl_exec
    rw [wp_bind]
    iapply (wp_wand_r Idealize.ShloMosaic.frame (wpE (defs₀ (F := F)) Variants.none (c : Thread nD τ) none) Set.univ)
    isplitl [H5 H6 H7]
    · iapply (T (k0_pay1 v39) (k0_pay2 v32) _ _ hk h1)
      isplitl [H5]; · iexact H5
      isplitl [H6]; · iexact H6
      iexact H7
    · iintro %r ⟨%hr, H5, H6, H7⟩
      subst hr
      sl_exec
      sl_step
      isplitl [H3 H5 H6 H7 H8]
      · isplitl [H3]; · iexact H3
        isplitl [H5]; · iexact H5
        isplitl [H6]; · iexact H6
        isplitl [H7]; · iexact H7
        iexact H8
      · iexists _
        isplitr [H9]
        swap
        · iexact H9
        · ipureintro
          rw [docStep, dif_pos ⟨hk, h1⟩, read_writes_block, readAt_scale, readAt_block, hf]
          rfl
  · unfold k0_t1_body
    iintro ⟨⟨H3, H5, H6, H7, H8⟩, %f, %hf, H9⟩
    sl_exec
    sl_step
    isplitl [H3 H5 H6 H7 H8]
    · isplitl [H3]; · iexact H3
      isplitl [H5]; · iexact H5
      isplitl [H6]; · iexact H6
      isplitl [H7]; · iexact H7
      iexact H8
    · iexists f
      isplitr
      · ipureintro; rw [hf, docStep, dif_neg]; rintro ⟨-, h⟩; exact h1 h
      · iexact H9

/-- The loop over documents. -/
theorem loop1 (hchk : ∀ k, k0_chk1 i (lo i (arg3.view.read (Elt F) X3) k) (hi i (arg3.view.read (Elt F) X3) k)) (Y : Vec F S1x256x128 .bf16) :
    iprop(Rd c arg3 arg5 arg6 arg7 arg8 q X3 X5 X6 X7 X8 ∗ ∃ f, ⌜arg9.view.read (Elt F) f = Y⌝ ∗ (arg9.view.loc (c : Thread nD τ) ↦[arg9.view.set]{fullShare} f))
      ⊢ wp frame (wpE (defs₀ (F := F)) Variants.none (c : Thread nD τ) none) Set.univ
          (Scf.Loop.for k0_t1_loop k0_t1_ok () (k0_t1_body (F := F) i arg3 harg3 arg4 harg4 arg5 harg5 arg6 harg6 arg7 harg7 arg8 harg8 arg9 harg9 arg2 v32 v39 v51))
          (fun _ => iprop(Rd c arg3 arg5 arg6 arg7 arg8 q X3 X5 X6 X7 X8 ∗ ∃ f, ⌜arg9.view.read (Elt F) f = fold i arg2 v32 v39 v51 (arg3.view.read (Elt F) X3) (arg5.view.read (Elt F) X5) (arg6.view.read (Elt F) X6) (arg7.view.read (Elt F) X7) (arg8.view.read (Elt F) X8) Y k0_t1_loop.trips⌝
            ∗ (arg9.view.loc (c : Thread nD τ) ↦[arg9.view.set]{fullShare} f))) := by
  iintro H
  iapply (Scf.wp_for Idealize.ShloMosaic.frame (wpE (defs₀ (F := F)) Variants.none (c : Thread nD τ) none) Set.univ _ _ _ k0_t1_ok ()
    (k0_t1_body (F := F) i arg3 harg3 arg4 harg4 arg5 harg5 arg6 harg6 arg7 harg7 arg8 harg8 arg9 harg9 arg2 v32 v39 v51)
    (fun n _ => iprop(Rd c arg3 arg5 arg6 arg7 arg8 q X3 X5 X6 X7 X8 ∗ ∃ f, ⌜arg9.view.read (Elt F) f = fold i arg2 v32 v39 v51 (arg3.view.read (Elt F) X3) (arg5.view.read (Elt F) X5) (arg6.view.read (Elt F) X6) (arg7.view.read (Elt F) X7) (arg8.view.read (Elt F) X8) Y n⌝
            ∗ (arg9.view.loc (c : Thread nD τ) ↦[arg9.view.set]{fullShare} f))) ?step)
  case step =>
    intro k _
    have T := trip1 (F := F) c i arg3 harg3 arg4 harg4 arg5 harg5 arg6 harg6 arg7 harg7 arg8 harg8 arg9 harg9 arg2 v32 v39 v51 q X3 X5 X6 X7 X8 hchk k (fold i arg2 v32 v39 v51 (arg3.view.read (Elt F) X3) (arg5.view.read (Elt F) X5) (arg6.view.read (Elt F) X6) (arg7.view.read (Elt F) X7) (arg8.view.read (Elt F) X8) Y k)
    rw [fold, dif_pos k.isLt]
    exact T
  isplitl [H]
  · iexact H
  · iintro %_ H
    iexact H

/-- The body: the output block is taken through the twelve documents, everything else is left as it was. -/
theorem body_run (X4 : BufTy.Contents (Elt F) arg4.view.ty)
    (hchk : ∀ k, k0_chk1 i (lo i (arg3.view.read (Elt F) X3) k) (hi i (arg3.view.read (Elt F) X3) k)) (Y : Vec F S1x256x128 .bf16) :
    iprop((arg4.view.loc (c : Thread nD τ) ↦[arg4.view.set]{fullShare} X4) ∗ Rd c arg3 arg5 arg6 arg7 arg8 q X3 X5 X6 X7 X8
        ∗ ∃ f, ⌜arg9.view.read (Elt F) f = Y⌝ ∗ (arg9.view.loc (c : Thread nD τ) ↦[arg9.view.set]{fullShare} f))
      ⊢ wp frame (wpE (defs₀ (F := F)) Variants.none (c : Thread nD τ) none) Set.univ
          (cc0_attn (F := F) i arg3 harg3 arg4 harg4 arg5 harg5 arg6 harg6 arg7 harg7 arg8 harg8 arg9 harg9)
          (fun _ => iprop((arg4.view.loc (c : Thread nD τ) ↦[arg4.view.set]{fullShare} X4) ∗ Rd c arg3 arg5 arg6 arg7 arg8 q X3 X5 X6 X7 X8
            ∗ ∃ f, ⌜arg9.view.read (Elt F) f = bodyVal i (arg3.view.read (Elt F) X3) (arg5.view.read (Elt F) X5) (arg6.view.read (Elt F) X6) (arg7.view.read (Elt F) X7) (arg8.view.read (Elt F) X8) (arg4.view.read (Elt F) X4) Y⌝
            ∗ (arg9.view.loc (c : Thread nD τ) ↦[arg9.view.set]{fullShare} f))) := by
  rw [cc0_attn_eq_skeleton]
  unfold cc0_attn_skel
  have T := fun arg2 v32 v39 v51 => loop1 (F := F) c i arg3 harg3 arg4 harg4 arg5 harg5 arg6 harg6 arg7 harg7 arg8 harg8 arg9 harg9 arg2 v32 v39 v51 q X3 X5 X6 X7 X8 hchk Y
  generalize k0_t1_body (F := F) i arg3 harg3 arg4 harg4 arg5 harg5 arg6 harg6 arg7 harg7 arg8 harg8 arg9 harg9 = B at T ⊢
  simp only [k0_part2_eq_skeleton]
  unfold k0_part2_skel
  iintro ⟨H4, HR, HO⟩
  sl_exec
  rw [wp_bind]
  iapply (wp_wand_r Idealize.ShloMosaic.frame (wpE (defs₀ (F := F)) Variants.none (c : Thread nD τ) none) Set.univ)
  isplitl [HR HO]
  · iapply (T _ _ _ _)
    isplitl [HR]; · iexact HR
    iexact HO
  · iintro %_ ⟨HR, %f, %hf, HO⟩
    sl_step
    isplitl [H4]; · iexact H4
    isplitl [HR]; · iexact HR
    iexists f
    isplitr
    · ipureintro
      rw [hf, readAt_block arg4]
      rfl
    · iexact HO

end Run

end Cert.Proof.Attn

end
-- ==== Proof.Range.lean ====
/- The check the kernel's body assumes of two bounds of a document holds of any two words that are at most the row's length. -/
module

public import proofs.«01_k».proof.Proof.AttnBody

@[expose] public section

noncomputable section

namespace Cert.Proof.Attn

open Cert.Attn Cert.Attn.Gen
open Idealize.ShloMosaic Idealize.ShloMosaic.TcCoe Idealize.ShloMosaic.Tactic

/-- The first chunk of a document, as the kernel computes it from the lower bound. -/
def fl (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 512#32 0#32)) (Scalar.extui (Scalar.cmpi .slt 512#32 0#32))))
    (Scalar.cmpi .ne (Scalar.remsi v 512#32) 0#32)) (Scalar.subi (Scalar.divsi v 512#32) 1#32) (Scalar.divsi v 512#32)

/-- The chunk after the last one of a document, as the kernel computes it from the upper bound. -/
def ce (v : BitVec 32) : BitVec 32 := Scalar.divsi (Scalar.addi v 511#32) 512#32

theorem divsi_512 {v : BitVec 32} (h : v.toNat ≤ 40000) : Scalar.divsi v 512#32 = BitVec.ofNat 32 (v.toNat / 512) := by
  have hm : v.msb = false := by rw [BitVec.msb_eq_decide]; simp; omega
  have hm2 : (512#32 : BitVec 32).msb = false := by decide
  rw [Scalar.divsi, IntOp.divsi, if_neg (by simp [IntOp.SDivCorner]), BitVec.sdiv_eq, hm, hm2]
  dsimp only
  apply BitVec.eq_of_toNat_eq
  simp [BitVec.toNat_udiv]
  omega

theorem fl_eq {v : BitVec 32} (h : v.toNat ≤ 32768) : fl v = BitVec.ofNat 32 (v.toNat / 512) := by
  by_cases h0 : v = 0#32
  · subst h0; decide
  · have hp : 0 < v.toNat := by
      rcases Nat.eq_zero_or_pos v.toNat with h1 | h1
      · exact absurd (BitVec.eq_of_toNat_eq (by simpa using h1)) h0
      · exact h1
    have hi : v.toInt = v.toNat := by rw [BitVec.toInt_eq_toNat_cond, if_pos (by omega)]
    have h1 : Scalar.cmpi .sgt v 0#32 = 1#1 := by
      simp only [Scalar.cmpi, IntOp.cmpi, BitVec.slt_eq_decide, hi]; rw [decide_eq_true (by simp; omega)]; rfl
    have h2 : Scalar.cmpi .slt v 0#32 = 0#1 := by
      simp only [Scalar.cmpi, IntOp.cmpi, BitVec.slt_eq_decide, hi]; rw [decide_eq_false (by simp)]; rfl
    rw [← divsi_512 (by omega), fl, h1, h2]
    generalize Scalar.divsi v 512#32 = d
    generalize Scalar.remsi v 512#32 = r
    have : Scalar.cmpi .ne (Scalar.subi (Scalar.extui 1#1) (Scalar.extui 0#1)) (Scalar.subi (Scalar.extui (Scalar.cmpi .sgt 512#32 0#32)) (Scalar.extui (Scalar.cmpi .slt 512#32 0#32))) = (0#1 : BitVec 1) := by decide
    rw [this]
    simp [Scalar.select, Scalar.andi, IntOp.andi]

theorem ce_eq {v : BitVec 32} (h : v.toNat ≤ 32768) : ce v = BitVec.ofNat 32 ((v.toNat + 511) / 512) := by
  have hn : (Scalar.addi v 511#32).toNat = v.toNat + 511 := by
    simp [Scalar.addi, IntOp.addi, BitVec.toNat_add]; omega
  rw [ce, divsi_512 (by omega), hn]

theorem t2_loop_eq (v w : BitVec 32) : k0_t2_loop v w = ⟨fl v, ce w, 1#32⟩ := by
  have h : k0_t2_loop v w = ⟨fl v, Scalar.addi (fl v) (Scalar.muli (Scalar.divsi (Scalar.subi (ce w) (fl v)) 1#32) 1#32), 1#32⟩ := rfl
  rw [h, Scalar.muli_divsi_one]
  congr 1
  show fl v + (ce w - fl v) = ce w
  rw [BitVec.add_comm, BitVec.sub_add_cancel]

theorem t4_loop_eq (v w : BitVec 32) : k0_t4_loop v w = ⟨fl v, ce w, 1#32⟩ := t2_loop_eq v w

theorem toInt_small {n : ℕ} (h : n ≤ 40000) : (BitVec.ofNat 32 n).toInt = n := by
  rw [BitVec.toInt_eq_toNat_cond, BitVec.toNat_ofNat, Nat.mod_eq_of_lt (by omega), if_pos (by omega)]

/-- The loops over a document's keys make a trip at each chunk from the first to the last. -/
theorem trips_eq {v w : BitVec 32} (hv : v.toNat ≤ 32768) (hw : w.toNat ≤ 32768) :
    (k0_t2_loop v w).trips = (w.toNat + 511) / 512 - v.toNat / 512 := by
  rw [t2_loop_eq]
  show Scf.trips (fl v) (ce w) 1#32 = _
  rw [Scf.trips, fl_eq hv, ce_eq hw, toInt_small (by omega), toInt_small (by omega)]
  have : (1#32 : BitVec 32).toInt = 1 := by decide
  rw [this]; omega

theorem loop_ok {v w : BitVec 32} (hv : v.toNat ≤ 32768) (hw : w.toNat ≤ 32768) : (k0_t2_loop v w).OK := by
  have ht := trips_eq hv hw
  rw [t2_loop_eq] at ht ⊢
  show Scf.OK (fl v) (ce w) 1#32
  replace ht : Scf.trips (fl v) (ce w) 1#32 = _ := ht
  have h1 : (1#32 : BitVec 32).toInt = 1 := by decide
  rw [Scf.OK, ht, fl_eq hv, toInt_small (n := v.toNat / 512) (by omega)]
  refine ⟨by decide, ?_⟩
  rw [h1]
  have : ((2 : ℤ) ^ (32 - 1)) = 2147483648 := by decide
  omega

/-- The first key of trip `k`, a word. -/
theorem iv_eq {v : BitVec 32} (hv : v.toNat ≤ 32768) (k : ℕ) :
    Scalar.muli (Scf.iv (fl v) 1#32 k) 512#32 = BitVec.ofNat 32 ((v.toNat / 512 + k) * 512) := by
  rw [fl_eq hv]
  show (BitVec.ofNat 32 _ + BitVec.ofNat 32 k * 1#32) * 512#32 = _
  rw [BitVec.mul_one, ← BitVec.ofNat_add, ← BitVec.ofNat_mul]

theorem key_lt {v w : BitVec 32} (hv : v.toNat ≤ 32768) (hw : w.toNat ≤ 32768) {n : ℕ} (hn : n < (k0_t2_loop v w).trips) :
    (v.toNat / 512 + n) * 512 + 512 ≤ 32768 := by
  have hk := lt_of_lt_of_eq hn (trips_eq hv hw)
  omega

theorem iv_toNat {v w : BitVec 32} (hv : v.toNat ≤ 32768) (hw : w.toNat ≤ 32768) {n : ℕ} (hn : n < (k0_t2_loop v w).trips) :
    (Scalar.muli (Scf.iv (fl v) 1#32 n) 512#32).toNat = (v.toNat / 512 + n) * 512 := by
  have hk := key_lt hv hw hn
  rw [iv_eq hv, BitVec.toNat_ofNat, Nat.mod_eq_of_lt]
  omega

theorem off3_eq (v w : BitVec 32) (k : Fin (k0_t2_loop v w).trips) : k0_off3 v w k = ![0, 0, (Scalar.muli (Scf.iv (fl v) 1#32 k) 512#32).toNat, 0] := rfl
theorem off4_eq (v w : BitVec 32) (k : Fin (k0_t2_loop v w).trips) : k0_off4 v w k = ![0, 0, 0, (Scalar.muli (Scf.iv (fl v) 1#32 k) 512#32).toNat] := rfl

/-- The check. -/
theorem chk1 (i : grid0.Coords) {v w : BitVec 32} (hv : v.toNat ≤ 32768) (hw : w.toNat ≤ 32768) : k0_chk1 i v w := by
  have m (k : Fin (k0_t2_loop v w).trips) : 512 ∣ (Scalar.muli (Scf.iv (fl v) 1#32 k) 512#32).toNat := by
    rw [iv_toNat hv hw k.isLt]; exact Dvd.intro_left _ rfl
  have o3 (k : Fin (k0_t2_loop v w).trips) (a : Fin 4) : k0_off3 v w k a + S1x1x512x128.size a ≤ S1x1x32768x128.size a := by
    have := key_lt hv hw k.isLt
    rw [off3_eq, iv_toNat hv hw k.isLt]
    fin_cases a <;> simp <;> omega
  have o4 (k : Fin (k0_t2_loop v w).trips) (a : Fin 4) : k0_off4 v w k a + S1x1x1x512.size a ≤ S1x1x1x32768.size a := by
    have := key_lt hv hw k.isLt
    rw [off4_eq, iv_toNat hv hw k.isLt]
    fin_cases a <;> simp <;> omega
  have n3 (k : Fin (k0_t3_loop v w).trips) : False := Scf.rem_no_trip _ _ k
  have n5 (k : Fin (k0_t5_loop v w).trips) : False := Scf.rem_no_trip _ _ k
  exact ⟨fun _ => loop_ok hv hw, fun k _ => m k, fun k _ => o3 k, fun k _ => o4 k, fun _ => Scf.rem_ok _ _, fun k => (n3 k).elim, fun k => (n3 k).elim, fun k => (n3 k).elim,
    fun _ => loop_ok hv hw, fun k _ => m k, fun k _ => o3 k, fun k _ => o4 k, fun k _ => m k, fun _ => Scf.rem_ok _ _, fun k => (n5 k).elim, fun k => (n5 k).elim, fun k => (n5 k).elim, fun k => (n5 k).elim⟩

end Cert.Proof.Attn

end
-- ==== Proof.Frame.lean ====
/- The run of the attention program: every launch terminates with nothing faulting, the arguments end unchanged, and every
   block of the result is the value `bodyVal` of the blocks of the arguments at its grid point. -/
module

public import proofs.«01_k».proof.Proof.Range
public import proofs.«01_k».proof.Proof.Gen.Attn.Launch
public import Idealize.ShloMosaic.Lib.Pipeline.Frame
public import Idealize.ShloMosaic.Lib.IndicatorCount

@[expose] public section

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (g : Dev nD → PrngReg)

/-! ## The buffers when the kernel is entered -/

/-- Core `c`'s buffers when the kernel is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [hostOps0, List.Forall]
  repeat' apply And.intro
  all_goals rfl

theorem V_arg (c : Dev nD) (b : Ref sig .tc)
    (h : b = main_arg0 ∨ b = main_arg1 ∨ b = main_arg2 ∨ b = main_arg3 ∨ b = main_arg4 ∨ b = main_arg5) :
    V m c b = m ((c : Thread nD τ).loc b) := by
  refine StableHlo.after_of_forall_not_mem (b := Proc.devRef .tc b) _ _ (List.forall_iff_forall_mem.mp ?_)
  simp only [hostOps0, List.Forall, StableHlo.nullary_writes, StableHlo.unary_writes, StableHlo.binary_writes, Finset.mem_singleton]
  rcases h with rfl | rfl | rfl | rfl | rfl | rfl
  all_goals
    repeat' apply And.intro
    all_goals exact StableHlo.devRef_ne_of_ne (by decide)

theorem hmain : HMainP (Ix := Unit) (Name := ℕ) (U := UR sig nD τ) (Lvl := ℕ) (pcfgs (F := F)) 0 defs₀ Variants.none m (main (F := F)) (V m) :=
  hmainP_prefix (pcfgs (F := F)) 0 defs₀ Variants.none m main hostOps0 hostOps0_sub hostOps0_fresh main_chain

/-! ## The table of bounds -/

/-- The bounds of the documents: for row `b` and document `d`, how many positions carry an id below `d`. -/
def tbl : Vec F S2x13 .i32 := V m (0 : Dev nD) main_v7

theorem reduces_bounds : S2x13x32768.Reduces [2] S2x13 := by decide

/-- The bits the bounds count. -/
def below : IVec S2x13x32768 1 := V m (0 : Dev nD) main_v5

theorem tbl_eq : tbl m = Host.reduce IntOp.addi (extui 32 (below m) natLt_1_32) (constantI S_ 32 0#32) reducesTo_S2x13x32768_S2x13_d2 h_S_ := by
  unfold tbl below V
  after_results

theorem tbl_count (x : S2x13.Idx) :
    tbl m x = BitVec.ofNat 32 (Finset.univ.filter fun s : Fin 32768 => below m (reduces_bounds.lift x s) = 1#1).card := by
  rw [tbl_eq]
  rw [Host.reduce_eq_fold_single IntOp.addi _ _ _ reduces_bounds _ x]
  exact IndicatorCount.fold_addi_setWidth_eq_card (w := 32) (fun s : Fin 32768 => below m (reduces_bounds.lift x s)) Finset.univ

theorem tbl_le (x : S2x13.Idx) : (tbl m x).toNat ≤ 32768 := by
  rw [tbl_count, BitVec.toNat_ofNat]
  refine (Nat.mod_le _ _).trans ((Finset.card_le_univ _).trans ?_)
  simp

/-! ## The launch -/

/-- The table as the contents the pipeline runs at. -/
def pf : pre0.Contents (Elt F) := fun j => V m (0 : Dev nD) (pre0.ref j)
abbrev adm : (pcfg0 (F := F)).Adm := ⟨pf m, trivial⟩
abbrev cfgM : Pipeline.Cfg sig Λ₀ := cfg0 (adm m)

theorem V_pre (c : Dev nD) (j : Fin 1) : V m c (pre0.ref j) = pf m j := by
  obtain rfl : c = 0 := Subsingleton.elim _ _; rfl

/-- The blocks of the arguments at a grid point. -/
def xB (c : Dev nD) (t : Fin (cfgM m).N) : Vec F S1x256x128 .bf16 := (((cfgM m).win 0).blk t).view.read (Elt F) (V m c main_arg0)
def kB (c : Dev nD) (t : Fin (cfgM m).N) : Vec F S1x1x32768x128 .fp8e4m3 := (((cfgM m).win 1).blk t).view.read (Elt F) (V m c main_arg1)
def ksB (c : Dev nD) (t : Fin (cfgM m).N) : Vec F S1x1x1x32768 .f32 := (((cfgM m).win 2).blk t).view.read (Elt F) (V m c main_v8)
def vB (c : Dev nD) (t : Fin (cfgM m).N) : Vec F S1x1x32768x128 .fp8e4m3 := (((cfgM m).win 3).blk t).view.read (Elt F) (V m c main_arg3)
def vsB (c : Dev nD) (t : Fin (cfgM m).N) : Vec F S1x1x1x128 .f32 := (((cfgM m).win 4).blk t).view.read (Elt F) (V m c main_v9)

/-- What the body leaves in the result's buffer at a grid point, if it held `Y`. -/
def outB (c : Dev nD) (t : Fin (cfgM m).N) (Y : Vec F S1x256x128 .bf16) : Vec F S1x256x128 .bf16 :=
  bodyVal (grid0.coords t) (tbl m) (kB m c t) (ksB m c t) (vB m c t) (vsB m c t) (xB m c t) Y

/-- What the launch is run at: the inputs' buffers end as they were found, the result's at `outB`. -/
def rdat (c : Dev nD) : RDat τ (Elt F) Unit ℕ (UR sig nD τ) ℕ (cfgM m) c where
  A w := V m c (arrRef spec0 w)
  after w t := match w with
    | ⟨5, _⟩ => fun Y X => X = outB m c t Y
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
  Φ _ := iprop(ΦA spec0 c ∗ ΦT pre0 (pf m) c)
  q _ := fullShare
  owed _ := 0

theorem finds_0 (c : Dev nD) (t : Fin (cfgM m).N) (Y) (h : (rdat m c).Finds (0 : Fin 6) t Y) : Y = xB m c t := by
  obtain ⟨d, rfl⟩ := (rdat m c).finds_in_eq_fetched (0 : Fin 6) rfl (fun _ _ _ => rfl) (fun _ _ _ h => h) t Y h
  rfl
theorem finds_1 (c : Dev nD) (t : Fin (cfgM m).N) (Y) (h : (rdat m c).Finds (1 : Fin 6) t Y) : Y = kB m c t := by
  obtain ⟨d, rfl⟩ := (rdat m c).finds_in_eq_fetched (1 : Fin 6) rfl (fun _ _ _ => rfl) (fun _ _ _ h => h) t Y h
  rfl
theorem finds_2 (c : Dev nD) (t : Fin (cfgM m).N) (Y) (h : (rdat m c).Finds (2 : Fin 6) t Y) : Y = ksB m c t := by
  obtain ⟨d, rfl⟩ := (rdat m c).finds_in_eq_fetched (2 : Fin 6) rfl (fun _ _ _ => rfl) (fun _ _ _ h => h) t Y h
  rfl
theorem finds_3 (c : Dev nD) (t : Fin (cfgM m).N) (Y) (h : (rdat m c).Finds (3 : Fin 6) t Y) : Y = vB m c t := by
  obtain ⟨d, rfl⟩ := (rdat m c).finds_in_eq_fetched (3 : Fin 6) rfl (fun _ _ _ => rfl) (fun _ _ _ h => h) t Y h
  rfl
theorem finds_4 (c : Dev nD) (t : Fin (cfgM m).N) (Y) (h : (rdat m c).Finds (4 : Fin 6) t Y) : Y = vsB m c t := by
  obtain ⟨d, rfl⟩ := (rdat m c).finds_in_eq_fetched (4 : Fin 6) rfl (fun _ _ _ => rfl) (fun _ _ _ h => h) t Y h
  rfl

/-! ## The body at a grid point -/

/-- The body as the pipeline calls it. -/
abbrev bodyAt (t : Fin (cfgM m).N) : Prog (TpuEff nD τ sig (Elt F) Λ₀ .tc) PUnit :=
  cc0_attn (grid0.coords t) (Memref.whole main_v7) (Memref.isWhole_whole _) (spec0_0.stage ((cfgM m).slots t 0)) (hstage0_0 (((cfgM m).slots t 0).cast nbuf0_0))
    (spec0_1.stage ((cfgM m).slots t 1)) (hstage0_1 (((cfgM m).slots t 1).cast nbuf0_1)) (spec0_2.stage ((cfgM m).slots t 2)) (hstage0_2 (((cfgM m).slots t 2).cast nbuf0_2))
    (spec0_3.stage ((cfgM m).slots t 3)) (hstage0_3 (((cfgM m).slots t 3).cast nbuf0_3)) (spec0_4.stage ((cfgM m).slots t 4)) (hstage0_4 (((cfgM m).slots t 4).cast nbuf0_4))
    (spec0_5.stage ((cfgM m).slots t 5)) (hstage0_5 (((cfgM m).slots t 5).cast nbuf0_5))

theorem defs_row (t : Fin (cfgM m).N) : defs₀ .tc (cfgM m).body ((cfgM m).bodyArgs t ((cfgM m).slots t)) = bodyAt m t := by
  unfold defs₀; rw [Defs.onTc_tc]

/-- The table's half the body reads. -/
theorem PhiT_eq (c : Dev nD) :
    (ΦT pre0 (pf m) c : sProp 𝕄)
      = iprop((Memref.whole main_v7 : Memref sig .tc .smem S2x13 .i32).view.loc (c : Thread nD τ) ↦[(Memref.whole main_v7 : Memref sig .tc .smem S2x13 .i32).view.set]{fullShare.right} (tbl m : Buf (Elt F) ((c : Thread nD τ).loc main_v7))) := by
  unfold ΦT prefHeld
  rw [show (Finset.univ : Finset (Fin 1)) = {(0 : Fin 1)} from by decide, bigSep_singleton,
    show (Memref.whole main_v7 : Memref sig .tc .smem S2x13 .i32).view.set = Finset.univ from View.set_whole _]
  rfl

theorem tbl_ok (t : Fin (cfgM m).N) (k) :
    k0_chk1 (grid0.coords t) (lo (grid0.coords t) (tbl m) k) (hi (grid0.coords t) (tbl m) k) :=
  chk1 _ (tbl_le m _) (tbl_le m _)

set_option maxHeartbeats 1000000 in
theorem sound_body (c : Dev nD) : (rdat m c).BodyObligation (defs₀ (F := F)) Variants.none () Set.univ := by
  intro t Y hY
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  rw [bigSep_W0, bigSep_W0, defs_row]
  rw [show (rdat m c).Φ t.castSucc = iprop(ΦA spec0 c ∗ ΦT pre0 (pf m) c) from rfl, show (rdat m c).Φ t.succ = iprop(ΦA spec0 c ∗ ΦT pre0 (pf m) c) from rfl, PhiT_eq]
  unfold owns
  iintro ⟨⟨HA, HT⟩, HW, ⟨%f0, %h0, H0⟩, ⟨%f1, %h1, H1⟩, ⟨%f2, %h2, H2⟩, ⟨%f3, %h3, H3⟩, ⟨%f4, %h4, H4⟩, ⟨%f5, %h5, H5⟩⟩
  iapply (wp_wand_r Idealize.ShloMosaic.frame (wpE (defs₀ (F := F)) Variants.none (c : Thread nD τ) none) Set.univ)
  isplitl [HT H0 H1 H2 H3 H4 H5]
  · iapply (body_run (F := F) c (grid0.coords t) (Memref.whole main_v7) (Memref.isWhole_whole _) (spec0_0.stage ((cfgM m).slots t 0)) (hstage0_0 (((cfgM m).slots t 0).cast nbuf0_0))
      (spec0_1.stage ((cfgM m).slots t 1)) (hstage0_1 (((cfgM m).slots t 1).cast nbuf0_1)) (spec0_2.stage ((cfgM m).slots t 2)) (hstage0_2 (((cfgM m).slots t 2).cast nbuf0_2))
      (spec0_3.stage ((cfgM m).slots t 3)) (hstage0_3 (((cfgM m).slots t 3).cast nbuf0_3)) (spec0_4.stage ((cfgM m).slots t 4)) (hstage0_4 (((cfgM m).slots t 4).cast nbuf0_4))
      (spec0_5.stage ((cfgM m).slots t 5)) (hstage0_5 (((cfgM m).slots t 5).cast nbuf0_5)) fullShare.right (tbl m) f1 f2 f3 f4 f0 (tbl_ok m t) (Y 5))
    isplitl [H0]; · iexact H0
    isplitr [H5]
    · isplitl [HT]; · iexact HT
      isplitl [H1]; · iexact H1
      isplitl [H2]; · iexact H2
      isplitl [H3]; · iexact H3
      iexact H4
    · iexists f5
      isplitr
      · ipureintro; exact h5
      iexact H5
  · iintro %_ ⟨H0, ⟨HT, H1, H2, H3, H4⟩, %f, %hf, H5⟩
    have hT : (Memref.whole main_v7 : Memref sig .tc .smem S2x13 .i32).view.read (Elt F) (tbl m : Buf (Elt F) ((c : Thread nD τ).loc main_v7)) = tbl m := rfl
    rw [hT, h0, h1, h2, h3, h4, e0, e1, e2, e3, e4] at hf
    isplitl [HA HT]
    · isplitl [HA]; · iexact HA
      iexact HT
    isplitl [HW]; · iexact HW
    isplitl [H0]
    · iexists (Y 0); isplitr; · ipureintro; rfl
      iexists f0; isplitr; · ipureintro; exact h0
      iexact H0
    isplitl [H1]
    · iexists (Y 1); isplitr; · ipureintro; rfl
      iexists f1; isplitr; · ipureintro; exact h1
      iexact H1
    isplitl [H2]
    · iexists (Y 2); isplitr; · ipureintro; rfl
      iexists f2; isplitr; · ipureintro; exact h2
      iexact H2
    isplitl [H3]
    · iexists (Y 3); isplitr; · ipureintro; rfl
      iexists f3; isplitr; · ipureintro; exact h3
      iexact H3
    isplitl [H4]
    · iexists (Y 4); isplitr; · ipureintro; rfl
      iexists f4; isplitr; · ipureintro; exact h4
      iexact H4
    · iexists (outB m c t (Y 5)); isplitr; · ipureintro; rfl
      iexists f; isplitr; · ipureintro; exact hf
      iexact H5

/-! ## The run -/

-- the launch theorem's implicit arguments are found by unifying its conclusion with this one
set_option backward.isDefEq.respectTransparency.types false in
/-- Every launch ends with the result's blocks as `rdat` says, every other buffer as it was when the kernel was entered. -/
theorem run_main : θ_run (defs (F := F)) (onTc (τ := τ) (main (F := F))) ⟨m, fun _ => 0, g⟩
    (fun r => RDat.FramePost (cfgM m) (rdat m) (V m) r ∧ r.2.sem = fun _ => 0) :=
  RDat.θ_run_frameP (pcfgs (F := F)) (fun _ => adm m) (0 : Fin 1) launch0 defs₀ Variants.none (rdat m) m g main
    (hbody := sound_body m) (hshare := fun c w => (rdat m c).share_full (fun _ => rfl) w)
    (howed := fun _ _ => rfl) (V := V m) (hmain := hmain m) (hA := fun _ _ => rfl) (hpf := V_pre m)
    (hΦ := fun _ _ => rfl) _ (fun _ h => h)

theorem frame_run : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(RDat.FramePost.arr_in h.1 c (0 : Fin 6) rfl).trans (V_arg m c main_arg0 (by simp)),
     (RDat.FramePost.arr_in h.1 c (1 : Fin 6) rfl).trans (V_arg m c main_arg1 (by simp)),
     ((h.1 c).2 main_arg2 (by decide : main_arg2 ∈ restRefs sig spec0)).trans (V_arg m c main_arg2 (by simp)),
     (RDat.FramePost.arr_in h.1 c (3 : Fin 6) rfl).trans (V_arg m c main_arg3 (by simp)),
     ((h.1 c).2 main_arg4 (by decide : main_arg4 ∈ restRefs sig spec0)).trans (V_arg m c main_arg4 (by simp)),
     ((h.1 c).2 main_arg5 (by decide : main_arg5 ∈ restRefs sig spec0)).trans (V_arg m c main_arg5 (by simp))⟩, h.2⟩) (run_main m g)

end Cert.Proof.Attn

end
-- ==== Proof.IdealBody.lean ====
/- What one trip of the kernel's loop over documents computes, and the loop's invariant: generic in the float instance. -/
module

public import proofs.«01_k».proof.Proof.Gen.AttnIdeal
public import proofs.«01_k».proof.Proof.Gen.AttnIdeal.Skeleton
public import proofs.«01_k».proof.Proof.Gen.AttnIdeal.Loops
public import Idealize.ShloMosaic.Lib.LoopRemainder
public import Idealize.ShloMosaic.Lib.Pipeline.FrameBody
public import Idealize.ShloMosaic.Lib.WritesUnit

@[expose] public section

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The values of one document -/

section Values

variable (i : grid0.Coords) (v44 : FVec F S256x128 .fp8e4m3) (v46 : FVec F S256x1 .f32) (v51 : IVec S1x512 32) (v55 : Elt F .i32) (v59 : Elt F .i32)
  (hw : k0_chk1 i v55 v59) (h1 : k0_cond1 i v55 v59 = 1#1)
  (K : Vec F S1x1x32768x128 .fp8e4m3) (KS : Vec F S1x1x1x32768 .f32) (V : Vec F S1x1x32768x128 .fp8e4m3)

/-- The block of keys (or of scales) that trip `k` of the first pass reads. -/
abbrev rK2 (k : Fin (k0_t2_loop v55 v59).trips) : Rect S1x1x32768x128 :=
  Rect.unit (s := S1x1x32768x128) (k0_off3 v55 v59 k) S1x1x512x128.size (k0_off3_inb i v55 v59 hw k h1)
abbrev rS2 (k : Fin (k0_t2_loop v55 v59).trips) : Rect S1x1x1x32768 :=
  Rect.unit (s := S1x1x1x32768) (k0_off4 v55 v59 k) S1x1x1x512.size (k0_off4_inb i v55 v59 hw k h1)
/-- The block of keys and values (or of scales) that trip `k` of the second pass reads. -/
abbrev rK4 (k : Fin (k0_t4_loop v55 v59).trips) : Rect S1x1x32768x128 :=
  Rect.unit (s := S1x1x32768x128) (k0_off7 v55 v59 k) S1x1x512x128.size (k0_off7_inb i v55 v59 hw k h1)
abbrev rS4 (k : Fin (k0_t4_loop v55 v59).trips) : Rect S1x1x1x32768 :=
  Rect.unit (s := S1x1x1x32768) (k0_off8 v55 v59 k) S1x1x1x512.size (k0_off8_inb i v55 v59 hw k h1)

/-- The running row maximum of the first pass before trip `n`. -/
def mx : ℕ → FVec F S256x1 .f32
  | 0 => k0_pay4
  | n + 1 => if h : n < (k0_t2_loop v55 v59).trips then
      k0_pay5 v44 v51 v55 v59 ⟨n, h⟩ (mx n) (View.ld K (rK2 i v55 v59 hw h1 ⟨n, h⟩)) (View.ld KS (rS2 i v55 v59 hw h1 ⟨n, h⟩))
    else mx n

/-- The running weighted sum of values and row sum of the second pass before trip `n`, the row maximum being `m`. -/
def ol (m : FVec F S256x1 .f32) : ℕ → FVec F S256x128 .f32 × FVec F S256x1 .f32
  | 0 => (k0_pay8, k0_pay9)
  | n + 1 => if h : n < (k0_t4_loop v55 v59).trips then
      (k0_pay12 v44 v46 v51 v55 v59 m ⟨n, h⟩ (ol m n).1 (View.ld K (rK4 i v55 v59 hw h1 ⟨n, h⟩)) (View.ld KS (rS4 i v55 v59 hw h1 ⟨n, h⟩)) (View.ld V (rK4 i v55 v59 hw h1 ⟨n, h⟩)),
        k0_pay11 v44 v46 v51 v55 v59 m ⟨n, h⟩ (ol m n).2 (View.ld K (rK4 i v55 v59 hw h1 ⟨n, h⟩)) (View.ld KS (rS4 i v55 v59 hw h1 ⟨n, h⟩)))
    else ol m n

/-- The row maximum of a document and its two sums, all trips made. -/
abbrev mxAll : FVec F S256x1 .f32 := mx i v44 v51 v55 v59 hw h1 K KS (k0_t2_loop v55 v59).trips
abbrev olAll : FVec F S256x128 .f32 × FVec F S256x1 .f32 :=
  ol i v44 v46 v51 v55 v59 hw h1 K KS V (mxAll i v44 v51 v55 v59 hw h1 K KS) (k0_t4_loop v55 v59).trips

variable (arg2 : BitVec 32) (VS : Vec F S1x1x1x128 .f32)

/-- The output block after a document whose bounds are the words `v55` and `v59`, the block having held `Y`. -/
def docStep (Y : Vec F S1x256x128 .bf16) : Vec F S1x256x128 .bf16 :=
  if h : k0_chk1 i v55 v59 ∧ k0_cond1 i v55 v59 = 1#1 then
    k0_pay3 arg2 v55 v59 (olAll i v44 v46 v51 v55 v59 h.1 h.2 K KS V).1 (olAll i v44 v46 v51 v55 v59 h.1 h.2 K KS V).2 VS Y
  else Y

end Values

section Fold

variable (i : grid0.Coords) (arg2 : BitVec 32) (v32 : FVec F S256x1 .f32) (v39 : FVec F S256x128 .f32) (v51 : IVec S1x512 32)
  (T : Vec F S2x13 .i32) (K : Vec F S1x1x32768x128 .fp8e4m3) (KS : Vec F S1x1x1x32768 .f32) (V : Vec F S1x1x32768x128 .fp8e4m3) (VS : Vec F S1x1x1x128 .f32)

/-- The places of the two bounds of document `k` in the table. -/
abbrev rLo (k : Fin k0_t1_loop.trips) : Rect S2x13 := Rect.unit (s := S2x13) (k0_off1 i k) S1x1.size (k0_off1_inb i k)
abbrev rHi (k : Fin k0_t1_loop.trips) : Rect S2x13 := Rect.unit (s := S2x13) (k0_off2 i k) S1x1.size (k0_off2_inb i k)
/-- The two bounds of document `k`. -/
abbrev lo (k : Fin k0_t1_loop.trips) : Elt F .i32 := View.ld T (rLo i k) ((Shape.Idx.first (numel1_S1x1.symm ▸ Nat.one_pos)))
abbrev hi (k : Fin k0_t1_loop.trips) : Elt F .i32 := View.ld T (rHi i k) ((Shape.Idx.first (numel1_S1x1.symm ▸ Nat.one_pos)))

/-- The output block before document `k`, the block having held `Y` before the first. -/
def fold (Y : Vec F S1x256x128 .bf16) : ℕ → Vec F S1x256x128 .bf16
  | 0 => Y
  | n + 1 => if h : n < k0_t1_loop.trips then
      docStep i (k0_pay1 v39) (k0_pay2 v32) v51 (lo i T ⟨n, h⟩) (hi i T ⟨n, h⟩) K KS V arg2 VS (fold Y n)
    else fold Y n

/-- The output block a grid step leaves, from the blocks it reads and the block `Y` it finds. -/
def bodyVal (X : Vec F S1x256x128 .bf16) (Y : Vec F S1x256x128 .bf16) : Vec F S1x256x128 .bf16 :=
  fold i (BitVec.ofNat 32 (i 2).val) (k0_pay18 X) (k0_pay19 X) (iota .tc S1x512 32 [1] iota_S1x512_d1_w32) T K KS V VS Y k0_t1_loop.trips

end Fold

section Whole

variable (arg8 : Memref sig .tc .vmem S1x1x1x128 .f32) (arg9 : Memref sig .tc .vmem S1x256x128 .bf16)

/-- The scales' block is loaded whole. -/
theorem readAt_scale (X : BufTy.Contents (Elt F) arg8.view.ty) :
    arg8.view.readAt (Elt F) (Rect.unit (s := S1x1x1x128) ![0, 0, 0, 0] S1x1x1x128.size inb_S1x1x1x128_S1x1x1x128_0_0_0_0).toLoadRect X = arg8.view.read (Elt F) X := by
  funext x
  refine congrArg (arg8.view.read (Elt F) X) (funext fun a => Fin.ext ?_)
  fin_cases a <;> simp [Rect.emb, Rect.unit]

/-- The output block is loaded whole. -/
theorem readAt_block (X : BufTy.Contents (Elt F) arg9.view.ty) :
    arg9.view.readAt (Elt F) (Rect.unit (s := S1x256x128) ![0, 0, 0] S1x256x128.size inb_S1x256x128_S1x256x128_0_0_0).toLoadRect X = arg9.view.read (Elt F) X := by
  funext x
  refine congrArg (arg9.view.read (Elt F) X) (funext fun a => Fin.ext ?_)
  fin_cases a <;> simp [Rect.emb, Rect.unit]

/-- The output block is stored whole. -/
theorem read_writes_block (X : BufTy.Contents (Elt F) arg9.view.ty) (w : Vec F S1x256x128 .bf16) :
    arg9.view.read (Elt F) (arg9.view.writes (Elt F) X [⟨Rect.unit (s := S1x256x128) ![0, 0, 0] S1x256x128.size inb_S1x256x128_S1x256x128_0_0_0, w⟩]) = w := by
  funext y
  exact View.read_writes_cons_unit_of_mem (v := arg9.view) (f := X) (Val := Elt F) (off := ![0, 0, 0]) (size := S1x256x128.size) inb_S1x256x128_S1x256x128_0_0_0 w [] y y rfl
    (fun a => by fin_cases a <;> simp)

end Whole

section Run

variable (c : Dev nD) (i : grid0.Coords) (arg3 : Memref sig .tc .smem S2x13 .i32) (harg3 : arg3.IsWhole) (arg4 : Memref sig .tc .vmem S1x256x128 .bf16) (harg4 : arg4.IsWhole) (arg5 : Memref sig .tc .vmem S1x1x32768x128 .fp8e4m3) (harg5 : arg5.IsWhole) (arg6 : Memref sig .tc .vmem S1x1x1x32768 .f32) (harg6 : arg6.IsWhole) (arg7 : Memref sig .tc .vmem S1x1x32768x128 .fp8e4m3) (harg7 : arg7.IsWhole) (arg8 : Memref sig .tc .vmem S1x1x1x128 .f32) (harg8 : arg8.IsWhole) (arg9 : Memref sig .tc .vmem S1x256x128 .bf16) (harg9 : arg9.IsWhole)

section St
variable (v44 : FVec F S256x128 .fp8e4m3) (v46 : FVec F S256x1 .f32) (v51 : IVec S1x512 32) (v55 : Elt F .i32) (v59 : Elt F .i32) (hw : k0_chk1 i v55 v59) (h1 : k0_cond1 i v55 v59 = 1#1)
  (X5 : BufTy.Contents (Elt F) arg5.view.ty) (X6 : BufTy.Contents (Elt F) arg6.view.ty) (X7 : BufTy.Contents (Elt F) arg7.view.ty)

set_option maxRecDepth 20000 in
theorem st2_eq (n : ℕ) :
    st_k0_t2 (F := F) Variants.none c none i arg3 harg3 arg4 harg4 arg5 harg5 arg6 harg6 arg7 harg7 arg8 harg8 arg9 harg9 v44 v46 v51 v55 v59 hw h1 X5 X6 (k0_pay4 (F := F)) n
      = mx i v44 v51 v55 v59 hw h1 (arg5.view.read (Elt F) X5) (arg6.view.read (Elt F) X6) n := by
  induction n with
  | zero => rfl
  | succ n ih =>
    rw [st_k0_t2.eq_2, mx]; unfold st_k0_t2Step
    split
    · rw [ih]; unfold tripR_k0_t2 trip_k0_t2; rfl
    · exact ih

set_option maxRecDepth 20000 in
theorem st4_eq (m : FVec F S256x1 .f32) (n : ℕ) :
    st_k0_t4 (F := F) Variants.none c none i arg3 harg3 arg4 harg4 arg5 harg5 arg6 harg6 arg7 harg7 arg8 harg8 arg9 harg9 v44 v46 v51 v55 v59 hw h1 m X5 X6 X7 (k0_pay8 (F := F), k0_pay9 (F := F)) n
      = ol i v44 v46 v51 v55 v59 hw h1 (arg5.view.read (Elt F) X5) (arg6.view.read (Elt F) X6) (arg7.view.read (Elt F) X7) m n := by
  induction n with
  | zero => rfl
  | succ n ih =>
    rw [st_k0_t4.eq_2, ol]; unfold st_k0_t4Step
    split
    · rw [ih]; unfold tripR_k0_t4 trip_k0_t4; rfl
    · exact ih

end St

variable (arg2 : BitVec 32) (v32 : FVec F S256x1 .f32) (v39 : FVec F S256x128 .f32) (v51 : IVec S1x512 32)
  (q : PosShare TreeShare) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty)

/-- What the loop over documents only reads. -/
abbrev Rd : sProp 𝕄 :=
  iprop((arg3.view.loc (c : Thread nD τ) ↦[arg3.view.set]{q} X3) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8))

/-- The loops of the steps left over make no trip. -/
theorem t3_none {σ : Type} (v55 v59 : BitVec 32) (hok : (k0_t3_loop v55 v59).OK) (x : σ) (body : Fin (k0_t3_loop v55 v59).trips → σ → Prog (TpuEff nD τ sig (Elt F) Λ₀ .tc) σ) :
    Scf.Loop.for (k0_t3_loop v55 v59) hok x body = .ret x :=
  Scf.for_eq_ret _ _ _ hok x body (Scf.rem_trips _ _)
theorem t5_none {σ : Type} (v55 v59 : BitVec 32) (hok : (k0_t5_loop v55 v59).OK) (x : σ) (body : Fin (k0_t5_loop v55 v59).trips → σ → Prog (TpuEff nD τ sig (Elt F) Λ₀ .tc) σ) :
    Scf.Loop.for (k0_t5_loop v55 v59) hok x body = .ret x :=
  Scf.for_eq_ret _ _ _ hok x body (Scf.rem_trips _ _)

/-- The keys, their scales and the values, read by the loops over the keys. -/
abbrev Kv : sProp 𝕄 := iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7))

set_option cleanup.letToHave false in
/-- The two loops over the keys of a document: they yield the accumulated products and the row sums. -/
theorem part1_run (v44 : FVec F S256x128 .fp8e4m3) (v46 : FVec F S256x1 .f32) (v55 : Elt F .i32) (v59 : Elt F .i32) (hw : k0_chk1 i v55 v59) (h1 : k0_cond1 i v55 v59 = 1#1) :
    Kv c arg5 arg6 arg7 X5 X6 X7
      ⊢ wp frame (wpE (defs₀ (F := F)) Variants.none (c : Thread nD τ) none) Set.univ
          (k0_part1 (F := F) i arg3 harg3 arg4 harg4 arg5 harg5 arg6 harg6 arg7 harg7 arg8 harg8 arg9 harg9 v44 v46 v51 v55 v59 hw h1)
          (fun r => iprop(⌜r = ⟨(olAll i v44 v46 v51 v55 v59 hw h1 (arg5.view.read (Elt F) X5) (arg6.view.read (Elt F) X6) (arg7.view.read (Elt F) X7)).1, (olAll i v44 v46 v51 v55 v59 hw h1 (arg5.view.read (Elt F) X5) (arg6.view.read (Elt F) X6) (arg7.view.read (Elt F) X7)).2⟩⌝
            ∗ Kv c arg5 arg6 arg7 X5 X6 X7)) := by
  rw [k0_part1_eq_skeleton]
  unfold k0_part1_skel
  iintro ⟨H5, H6, H7⟩
  rw [wp_bind]
  iapply (Scf.wp_for Idealize.ShloMosaic.frame (wpE (defs₀ (F := F)) Variants.none (c : Thread nD τ) none) Set.univ _ _ _ _ _ _
    (inv_k0_t2 (F := F) Variants.none c none i arg3 harg3 arg4 harg4 arg5 harg5 arg6 harg6 arg7 harg7 arg8 harg8 arg9 harg9 v44 v46 v51 v55 v59 hw h1 X5 X6 (k0_pay4 (F := F)))
    (loopInv_k0_t2 (F := F) Variants.none c none Set.univ i arg3 harg3 arg4 harg4 arg5 harg5 arg6 harg6 arg7 harg7 arg8 harg8 arg9 harg9 v44 v46 v51 v55 v59 hw h1 X5 X6 (k0_pay4 (F := F))).step)
  isplitl [H5 H6]
  · isplitl [H5]; · iexact H5
    isplitl [H6]; · iexact H6
    ipureintro; rfl
  iintro %m ⟨H5, H6, %hm⟩
  have hm' := hm.trans (st2_eq c i arg3 harg3 arg4 harg4 arg5 harg5 arg6 harg6 arg7 harg7 arg8 harg8 arg9 harg9 v44 v46 v51 v55 v59 hw h1 X5 X6 _)
  rw [hm', t3_none, Prog.bind_ret, wp_bind]
  iapply (Scf.wp_for Idealize.ShloMosaic.frame (wpE (defs₀ (F := F)) Variants.none (c : Thread nD τ) none) Set.univ _ _ _ _ _ _
    (inv_k0_t4 (F := F) Variants.none c none i arg3 harg3 arg4 harg4 arg5 harg5 arg6 harg6 arg7 harg7 arg8 harg8 arg9 harg9 v44 v46 v51 v55 v59 hw h1 (mxAll i v44 v51 v55 v59 hw h1 (arg5.view.read (Elt F) X5) (arg6.view.read (Elt F) X6)) X5 X6 X7 (k0_pay8 (F := F), k0_pay9 (F := F)))
    (loopInv_k0_t4 (F := F) Variants.none c none Set.univ i arg3 harg3 arg4 harg4 arg5 harg5 arg6 harg6 arg7 harg7 arg8 harg8 arg9 harg9 v44 v46 v51 v55 v59 hw h1 (mxAll i v44 v51 v55 v59 hw h1 (arg5.view.read (Elt F) X5) (arg6.view.read (Elt F) X6)) X5 X6 X7 (k0_pay8 (F := F), k0_pay9 (F := F))).step)
  isplitl [H5 H6 H7]
  · isplitl [H5]; · iexact H5
    isplitl [H6]; · iexact H6
    isplitl [H7]; · iexact H7
    ipureintro; rfl
  iintro %m ⟨H5, H6, H7, %hm⟩
  have hm' := hm.trans (st4_eq c i arg3 harg3 arg4 harg4 arg5 harg5 arg6 harg6 arg7 harg7 arg8 harg8 arg9 harg9 v44 v46 v51 v55 v59 hw h1 X5 X6 X7 _ _)
  clear hm
  obtain ⟨m0, m1⟩ := m
  dsimp only
  rw [t5_none, Prog.bind_ret]
  sl_step
  isplitr
  · ipureintro; rw [olAll, ← hm']
  isplitl [H5]; · iexact H5
  isplitl [H6]; · iexact H6
  iexact H7

theorem trip1 (hchk : ∀ k, k0_chk1 i (lo i (arg3.view.read (Elt F) X3) k) (hi i (arg3.view.read (Elt F) X3) k)) (k : Fin k0_t1_loop.trips) (Y : Vec F S1x256x128 .bf16) :
    iprop(Rd c arg3 arg5 arg6 arg7 arg8 q X3 X5 X6 X7 X8 ∗ ∃ f, ⌜arg9.view.read (Elt F) f = Y⌝ ∗ (arg9.view.loc (c : Thread nD τ) ↦[arg9.view.set]{fullShare} f))
      ⊢ wp frame (wpE (defs₀ (F := F)) Variants.none (c : Thread nD τ) none) Set.univ
          (k0_t1_body (F := F) i arg3 harg3 arg4 harg4 arg5 harg5 arg6 harg6 arg7 harg7 arg8 harg8 arg9 harg9 arg2 v32 v39 v51 k ())
          (fun _ => iprop(Rd c arg3 arg5 arg6 arg7 arg8 q X3 X5 X6 X7 X8 ∗ ∃ f, ⌜arg9.view.read (Elt F) f =
            docStep i (k0_pay1 v39) (k0_pay2 v32) v51 (lo i (arg3.view.read (Elt F) X3) k) (hi i (arg3.view.read (Elt F) X3) k)
              (arg5.view.read (Elt F) X5) (arg6.view.read (Elt F) X6) (arg7.view.read (Elt F) X7) arg2 (arg8.view.read (Elt F) X8) Y⌝
            ∗ (arg9.view.loc (c : Thread nD τ) ↦[arg9.view.set]{fullShare} f))) := by
  have hk := hchk k
  by_cases h1 : k0_cond1 i (lo i (arg3.view.read (Elt F) X3) k) (hi i (arg3.view.read (Elt F) X3) k) = 1#1
  · unfold k0_t1_body
    have T := part1_run (F := F) c i arg3 harg3 arg4 harg4 arg5 harg5 arg6 harg6 arg7 harg7 arg8 harg8 arg9 harg9 v51 X5 X6 X7
    generalize k0_part1 (F := F) = P at T ⊢
    iintro ⟨⟨H3, H5, H6, H7, H8⟩, %f, %hf, H9⟩
    sl_exec
    rw [wp_bind]
    iapply (wp_wand_r Idealize.ShloMosaic.frame (wpE (defs₀ (F := F)) Variants.none (c : Thread nD τ) none) Set.univ)
    isplitl [H5 H6 H7]
    · iapply (T (k0_pay1 v39) (k0_pay2 v32) _ _ hk h1)
      isplitl [H5]; · iexact H5
      isplitl [H6]; · iexact H6
      iexact H7
    · iintro %r ⟨%hr, H5, H6, H7⟩
      subst hr
      sl_exec
      sl_step
      isplitl [H3 H5 H6 H7 H8]
      · isplitl [H3]; · iexact H3
        isplitl [H5]; · iexact H5
        isplitl [H6]; · iexact H6
        isplitl [H7]; · iexact H7
        iexact H8
      · iexists _
        isplitr [H9]
        swap
        · iexact H9
        · ipureintro
          rw [docStep, dif_pos ⟨hk, h1⟩, read_writes_block, readAt_scale, readAt_block, hf]
          rfl
  · unfold k0_t1_body
    iintro ⟨⟨H3, H5, H6, H7, H8⟩, %f, %hf, H9⟩
    sl_exec
    sl_step
    isplitl [H3 H5 H6 H7 H8]
    · isplitl [H3]; · iexact H3
      isplitl [H5]; · iexact H5
      isplitl [H6]; · iexact H6
      isplitl [H7]; · iexact H7
      iexact H8
    · iexists f
      isplitr
      · ipureintro; rw [hf, docStep, dif_neg]; rintro ⟨-, h⟩; exact h1 h
      · iexact H9

/-- The loop over documents. -/
theorem loop1 (hchk : ∀ k, k0_chk1 i (lo i (arg3.view.read (Elt F) X3) k) (hi i (arg3.view.read (Elt F) X3) k)) (Y : Vec F S1x256x128 .bf16) :
    iprop(Rd c arg3 arg5 arg6 arg7 arg8 q X3 X5 X6 X7 X8 ∗ ∃ f, ⌜arg9.view.read (Elt F) f = Y⌝ ∗ (arg9.view.loc (c : Thread nD τ) ↦[arg9.view.set]{fullShare} f))
      ⊢ wp frame (wpE (defs₀ (F := F)) Variants.none (c : Thread nD τ) none) Set.univ
          (Scf.Loop.for k0_t1_loop k0_t1_ok () (k0_t1_body (F := F) i arg3 harg3 arg4 harg4 arg5 harg5 arg6 harg6 arg7 harg7 arg8 harg8 arg9 harg9 arg2 v32 v39 v51))
          (fun _ => iprop(Rd c arg3 arg5 arg6 arg7 arg8 q X3 X5 X6 X7 X8 ∗ ∃ f, ⌜arg9.view.read (Elt F) f = fold i arg2 v32 v39 v51 (arg3.view.read (Elt F) X3) (arg5.view.read (Elt F) X5) (arg6.view.read (Elt F) X6) (arg7.view.read (Elt F) X7) (arg8.view.read (Elt F) X8) Y k0_t1_loop.trips⌝
            ∗ (arg9.view.loc (c : Thread nD τ) ↦[arg9.view.set]{fullShare} f))) := by
  iintro H
  iapply (Scf.wp_for Idealize.ShloMosaic.frame (wpE (defs₀ (F := F)) Variants.none (c : Thread nD τ) none) Set.univ _ _ _ k0_t1_ok ()
    (k0_t1_body (F := F) i arg3 harg3 arg4 harg4 arg5 harg5 arg6 harg6 arg7 harg7 arg8 harg8 arg9 harg9 arg2 v32 v39 v51)
    (fun n _ => iprop(Rd c arg3 arg5 arg6 arg7 arg8 q X3 X5 X6 X7 X8 ∗ ∃ f, ⌜arg9.view.read (Elt F) f = fold i arg2 v32 v39 v51 (arg3.view.read (Elt F) X3) (arg5.view.read (Elt F) X5) (arg6.view.read (Elt F) X6) (arg7.view.read (Elt F) X7) (arg8.view.read (Elt F) X8) Y n⌝
            ∗ (arg9.view.loc (c : Thread nD τ) ↦[arg9.view.set]{fullShare} f))) ?step)
  case step =>
    intro k _
    have T := trip1 (F := F) c i arg3 harg3 arg4 harg4 arg5 harg5 arg6 harg6 arg7 harg7 arg8 harg8 arg9 harg9 arg2 v32 v39 v51 q X3 X5 X6 X7 X8 hchk k (fold i arg2 v32 v39 v51 (arg3.view.read (Elt F) X3) (arg5.view.read (Elt F) X5) (arg6.view.read (Elt F) X6) (arg7.view.read (Elt F) X7) (arg8.view.read (Elt F) X8) Y k)
    rw [fold, dif_pos k.isLt]
    exact T
  isplitl [H]
  · iexact H
  · iintro %_ H
    iexact H

/-- The body: the output block is taken through the twelve documents, everything else is left as it was. -/
theorem body_run (X4 : BufTy.Contents (Elt F) arg4.view.ty)
    (hchk : ∀ k, k0_chk1 i (lo i (arg3.view.read (Elt F) X3) k) (hi i (arg3.view.read (Elt F) X3) k)) (Y : Vec F S1x256x128 .bf16) :
    iprop((arg4.view.loc (c : Thread nD τ) ↦[arg4.view.set]{fullShare} X4) ∗ Rd c arg3 arg5 arg6 arg7 arg8 q X3 X5 X6 X7 X8
        ∗ ∃ f, ⌜arg9.view.read (Elt F) f = Y⌝ ∗ (arg9.view.loc (c : Thread nD τ) ↦[arg9.view.set]{fullShare} f))
      ⊢ wp frame (wpE (defs₀ (F := F)) Variants.none (c : Thread nD τ) none) Set.univ
          (cc0_attn (F := F) i arg3 harg3 arg4 harg4 arg5 harg5 arg6 harg6 arg7 harg7 arg8 harg8 arg9 harg9)
          (fun _ => iprop((arg4.view.loc (c : Thread nD τ) ↦[arg4.view.set]{fullShare} X4) ∗ Rd c arg3 arg5 arg6 arg7 arg8 q X3 X5 X6 X7 X8
            ∗ ∃ f, ⌜arg9.view.read (Elt F) f = bodyVal i (arg3.view.read (Elt F) X3) (arg5.view.read (Elt F) X5) (arg6.view.read (Elt F) X6) (arg7.view.read (Elt F) X7) (arg8.view.read (Elt F) X8) (arg4.view.read (Elt F) X4) Y⌝
            ∗ (arg9.view.loc (c : Thread nD τ) ↦[arg9.view.set]{fullShare} f))) := by
  rw [cc0_attn_eq_skeleton]
  unfold cc0_attn_skel
  have T := fun arg2 v32 v39 v51 => loop1 (F := F) c i arg3 harg3 arg4 harg4 arg5 harg5 arg6 harg6 arg7 harg7 arg8 harg8 arg9 harg9 arg2 v32 v39 v51 q X3 X5 X6 X7 X8 hchk Y
  generalize k0_t1_body (F := F) i arg3 harg3 arg4 harg4 arg5 harg5 arg6 harg6 arg7 harg7 arg8 harg8 arg9 harg9 = B at T ⊢
  simp only [k0_part2_eq_skeleton]
  unfold k0_part2_skel
  iintro ⟨H4, HR, HO⟩
  sl_exec
  rw [wp_bind]
  iapply (wp_wand_r Idealize.ShloMosaic.frame (wpE (defs₀ (F := F)) Variants.none (c : Thread nD τ) none) Set.univ)
  isplitl [HR HO]
  · iapply (T _ _ _ _)
    isplitl [HR]; · iexact HR
    iexact HO
  · iintro %_ ⟨HR, %f, %hf, HO⟩
    sl_step
    isplitl [H4]; · iexact H4
    isplitl [HR]; · iexact HR
    iexists f
    isplitr
    · ipureintro
      rw [hf, readAt_block arg4]
      rfl
    · iexact HO

end Run

end Cert.Proof.AttnIdeal

end
-- ==== Proof.IdealRange.lean ====
/- The check the kernel's body assumes of two bounds of a document holds of any two words that are at most the row's length. -/
module

public import proofs.«01_k».proof.Proof.IdealBody

@[expose] public section

noncomputable section

namespace Cert.Proof.AttnIdeal

open Cert.AttnIdeal Cert.AttnIdeal.Gen
open Idealize.ShloMosaic Idealize.ShloMosaic.TcCoe Idealize.ShloMosaic.Tactic

/-- The first chunk of a document, as the kernel computes it from the lower bound. -/
def fl (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 512#32 0#32)) (Scalar.extui (Scalar.cmpi .slt 512#32 0#32))))
    (Scalar.cmpi .ne (Scalar.remsi v 512#32) 0#32)) (Scalar.subi (Scalar.divsi v 512#32) 1#32) (Scalar.divsi v 512#32)

/-- The chunk after the last one of a document, as the kernel computes it from the upper bound. -/
def ce (v : BitVec 32) : BitVec 32 := Scalar.divsi (Scalar.addi v 511#32) 512#32

theorem divsi_512 {v : BitVec 32} (h : v.toNat ≤ 40000) : Scalar.divsi v 512#32 = BitVec.ofNat 32 (v.toNat / 512) := by
  have hm : v.msb = false := by rw [BitVec.msb_eq_decide]; simp; omega
  have hm2 : (512#32 : BitVec 32).msb = false := by decide
  rw [Scalar.divsi, IntOp.divsi, if_neg (by simp [IntOp.SDivCorner]), BitVec.sdiv_eq, hm, hm2]
  dsimp only
  apply BitVec.eq_of_toNat_eq
  simp [BitVec.toNat_udiv]
  omega

theorem fl_eq {v : BitVec 32} (h : v.toNat ≤ 32768) : fl v = BitVec.ofNat 32 (v.toNat / 512) := by
  by_cases h0 : v = 0#32
  · subst h0; decide
  · have hp : 0 < v.toNat := by
      rcases Nat.eq_zero_or_pos v.toNat with h1 | h1
      · exact absurd (BitVec.eq_of_toNat_eq (by simpa using h1)) h0
      · exact h1
    have hi : v.toInt = v.toNat := by rw [BitVec.toInt_eq_toNat_cond, if_pos (by omega)]
    have h1 : Scalar.cmpi .sgt v 0#32 = 1#1 := by
      simp only [Scalar.cmpi, IntOp.cmpi, BitVec.slt_eq_decide, hi]; rw [decide_eq_true (by simp; omega)]; rfl
    have h2 : Scalar.cmpi .slt v 0#32 = 0#1 := by
      simp only [Scalar.cmpi, IntOp.cmpi, BitVec.slt_eq_decide, hi]; rw [decide_eq_false (by simp)]; rfl
    rw [← divsi_512 (by omega), fl, h1, h2]
    generalize Scalar.divsi v 512#32 = d
    generalize Scalar.remsi v 512#32 = r
    have : Scalar.cmpi .ne (Scalar.subi (Scalar.extui 1#1) (Scalar.extui 0#1)) (Scalar.subi (Scalar.extui (Scalar.cmpi .sgt 512#32 0#32)) (Scalar.extui (Scalar.cmpi .slt 512#32 0#32))) = (0#1 : BitVec 1) := by decide
    rw [this]
    simp [Scalar.select, Scalar.andi, IntOp.andi]

theorem ce_eq {v : BitVec 32} (h : v.toNat ≤ 32768) : ce v = BitVec.ofNat 32 ((v.toNat + 511) / 512) := by
  have hn : (Scalar.addi v 511#32).toNat = v.toNat + 511 := by
    simp [Scalar.addi, IntOp.addi, BitVec.toNat_add]; omega
  rw [ce, divsi_512 (by omega), hn]

theorem t2_loop_eq (v w : BitVec 32) : k0_t2_loop v w = ⟨fl v, ce w, 1#32⟩ := by
  have h : k0_t2_loop v w = ⟨fl v, Scalar.addi (fl v) (Scalar.muli (Scalar.divsi (Scalar.subi (ce w) (fl v)) 1#32) 1#32), 1#32⟩ := rfl
  rw [h, Scalar.muli_divsi_one]
  congr 1
  show fl v + (ce w - fl v) = ce w
  rw [BitVec.add_comm, BitVec.sub_add_cancel]

theorem t4_loop_eq (v w : BitVec 32) : k0_t4_loop v w = ⟨fl v, ce w, 1#32⟩ := t2_loop_eq v w

theorem toInt_small {n : ℕ} (h : n ≤ 40000) : (BitVec.ofNat 32 n).toInt = n := by
  rw [BitVec.toInt_eq_toNat_cond, BitVec.toNat_ofNat, Nat.mod_eq_of_lt (by omega), if_pos (by omega)]

/-- The loops over a document's keys make a trip at each chunk from the first to the last. -/
theorem trips_eq {v w : BitVec 32} (hv : v.toNat ≤ 32768) (hw : w.toNat ≤ 32768) :
    (k0_t2_loop v w).trips = (w.toNat + 511) / 512 - v.toNat / 512 := by
  rw [t2_loop_eq]
  show Scf.trips (fl v) (ce w) 1#32 = _
  rw [Scf.trips, fl_eq hv, ce_eq hw, toInt_small (by omega), toInt_small (by omega)]
  have : (1#32 : BitVec 32).toInt = 1 := by decide
  rw [this]; omega

theorem loop_ok {v w : BitVec 32} (hv : v.toNat ≤ 32768) (hw : w.toNat ≤ 32768) : (k0_t2_loop v w).OK := by
  have ht := trips_eq hv hw
  rw [t2_loop_eq] at ht ⊢
  show Scf.OK (fl v) (ce w) 1#32
  replace ht : Scf.trips (fl v) (ce w) 1#32 = _ := ht
  have h1 : (1#32 : BitVec 32).toInt = 1 := by decide
  rw [Scf.OK, ht, fl_eq hv, toInt_small (n := v.toNat / 512) (by omega)]
  refine ⟨by decide, ?_⟩
  rw [h1]
  have : ((2 : ℤ) ^ (32 - 1)) = 2147483648 := by decide
  omega

/-- The first key of trip `k`, a word. -/
theorem iv_eq {v : BitVec 32} (hv : v.toNat ≤ 32768) (k : ℕ) :
    Scalar.muli (Scf.iv (fl v) 1#32 k) 512#32 = BitVec.ofNat 32 ((v.toNat / 512 + k) * 512) := by
  rw [fl_eq hv]
  show (BitVec.ofNat 32 _ + BitVec.ofNat 32 k * 1#32) * 512#32 = _
  rw [BitVec.mul_one, ← BitVec.ofNat_add, ← BitVec.ofNat_mul]

theorem key_lt {v w : BitVec 32} (hv : v.toNat ≤ 32768) (hw : w.toNat ≤ 32768) {n : ℕ} (hn : n < (k0_t2_loop v w).trips) :
    (v.toNat / 512 + n) * 512 + 512 ≤ 32768 := by
  have hk := lt_of_lt_of_eq hn (trips_eq hv hw)
  omega

theorem iv_toNat {v w : BitVec 32} (hv : v.toNat ≤ 32768) (hw : w.toNat ≤ 32768) {n : ℕ} (hn : n < (k0_t2_loop v w).trips) :
    (Scalar.muli (Scf.iv (fl v) 1#32 n) 512#32).toNat = (v.toNat / 512 + n) * 512 := by
  have hk := key_lt hv hw hn
  rw [iv_eq hv, BitVec.toNat_ofNat, Nat.mod_eq_of_lt]
  omega

theorem off3_eq (v w : BitVec 32) (k : Fin (k0_t2_loop v w).trips) : k0_off3 v w k = ![0, 0, (Scalar.muli (Scf.iv (fl v) 1#32 k) 512#32).toNat, 0] := rfl
theorem off4_eq (v w : BitVec 32) (k : Fin (k0_t2_loop v w).trips) : k0_off4 v w k = ![0, 0, 0, (Scalar.muli (Scf.iv (fl v) 1#32 k) 512#32).toNat] := rfl

/-- The check. -/
theorem chk1 (i : grid0.Coords) {v w : BitVec 32} (hv : v.toNat ≤ 32768) (hw : w.toNat ≤ 32768) : k0_chk1 i v w := by
  have m (k : Fin (k0_t2_loop v w).trips) : 512 ∣ (Scalar.muli (Scf.iv (fl v) 1#32 k) 512#32).toNat := by
    rw [iv_toNat hv hw k.isLt]; exact Dvd.intro_left _ rfl
  have o3 (k : Fin (k0_t2_loop v w).trips) (a : Fin 4) : k0_off3 v w k a + S1x1x512x128.size a ≤ S1x1x32768x128.size a := by
    have := key_lt hv hw k.isLt
    rw [off3_eq, iv_toNat hv hw k.isLt]
    fin_cases a <;> simp <;> omega
  have o4 (k : Fin (k0_t2_loop v w).trips) (a : Fin 4) : k0_off4 v w k a + S1x1x1x512.size a ≤ S1x1x1x32768.size a := by
    have := key_lt hv hw k.isLt
    rw [off4_eq, iv_toNat hv hw k.isLt]
    fin_cases a <;> simp <;> omega
  have n3 (k : Fin (k0_t3_loop v w).trips) : False := Scf.rem_no_trip _ _ k
  have n5 (k : Fin (k0_t5_loop v w).trips) : False := Scf.rem_no_trip _ _ k
  exact ⟨fun _ => loop_ok hv hw, fun k _ => m k, fun k _ => o3 k, fun k _ => o4 k, fun _ => Scf.rem_ok _ _, fun k => (n3 k).elim, fun k => (n3 k).elim, fun k => (n3 k).elim,
    fun _ => loop_ok hv hw, fun k _ => m k, fun k _ => o3 k, fun k _ => o4 k, fun k _ => m k, fun _ => Scf.rem_ok _ _, fun k => (n5 k).elim, fun k => (n5 k).elim, fun k => (n5 k).elim, fun k => (n5 k).elim⟩

end Cert.Proof.AttnIdeal

end
-- ==== Proof.IdealFrame.lean ====
/- The run of the attention program: every launch terminates with nothing faulting, the arguments end unchanged, and every
   block of the result is the value `bodyVal` of the blocks of the arguments at its grid point. -/
module

public import proofs.«01_k».proof.Proof.IdealRange
public import proofs.«01_k».proof.Proof.Gen.AttnIdeal.Launch
public import Idealize.ShloMosaic.Lib.Pipeline.Frame
public import Idealize.ShloMosaic.Lib.IndicatorCount

@[expose] public section

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (g : Dev nD → PrngReg)

/-! ## The buffers when the kernel is entered -/

/-- Core `c`'s buffers when the kernel is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [hostOps0, List.Forall]
  repeat' apply And.intro
  all_goals rfl

theorem V_arg (c : Dev nD) (b : Ref sig .tc)
    (h : b = main_arg0 ∨ b = main_arg1 ∨ b = main_arg2 ∨ b = main_arg3 ∨ b = main_arg4 ∨ b = main_arg5) :
    V m c b = m ((c : Thread nD τ).loc b) := by
  refine StableHlo.after_of_forall_not_mem (b := Proc.devRef .tc b) _ _ (List.forall_iff_forall_mem.mp ?_)
  simp only [hostOps0, List.Forall, StableHlo.nullary_writes, StableHlo.unary_writes, StableHlo.binary_writes, Finset.mem_singleton]
  rcases h with rfl | rfl | rfl | rfl | rfl | rfl
  all_goals
    repeat' apply And.intro
    all_goals exact StableHlo.devRef_ne_of_ne (by decide)

theorem hmain : HMainP (Ix := Unit) (Name := ℕ) (U := UR sig nD τ) (Lvl := ℕ) (pcfgs (F := F)) 0 defs₀ Variants.none m (main (F := F)) (V m) :=
  hmainP_prefix (pcfgs (F := F)) 0 defs₀ Variants.none m main hostOps0 hostOps0_sub hostOps0_fresh main_chain

/-! ## The table of bounds -/

/-- The bounds of the documents: for row `b` and document `d`, how many positions carry an id below `d`. -/
def tbl : Vec F S2x13 .i32 := V m (0 : Dev nD) main_v7

theorem reduces_bounds : S2x13x32768.Reduces [2] S2x13 := by decide

/-- The bits the bounds count. -/
def below : IVec S2x13x32768 1 := V m (0 : Dev nD) main_v5

theorem tbl_eq : tbl m = Host.reduce IntOp.addi (extui 32 (below m) natLt_1_32) (constantI S_ 32 0#32) reducesTo_S2x13x32768_S2x13_d2 h_S_ := by
  unfold tbl below V
  after_results

theorem tbl_count (x : S2x13.Idx) :
    tbl m x = BitVec.ofNat 32 (Finset.univ.filter fun s : Fin 32768 => below m (reduces_bounds.lift x s) = 1#1).card := by
  rw [tbl_eq]
  rw [Host.reduce_eq_fold_single IntOp.addi _ _ _ reduces_bounds _ x]
  exact IndicatorCount.fold_addi_setWidth_eq_card (w := 32) (fun s : Fin 32768 => below m (reduces_bounds.lift x s)) Finset.univ

theorem tbl_le (x : S2x13.Idx) : (tbl m x).toNat ≤ 32768 := by
  rw [tbl_count, BitVec.toNat_ofNat]
  refine (Nat.mod_le _ _).trans ((Finset.card_le_univ _).trans ?_)
  simp

/-! ## The launch -/

/-- The table as the contents the pipeline runs at. -/
def pf : pre0.Contents (Elt F) := fun j => V m (0 : Dev nD) (pre0.ref j)
abbrev adm : (pcfg0 (F := F)).Adm := ⟨pf m, trivial⟩
abbrev cfgM : Pipeline.Cfg sig Λ₀ := cfg0 (adm m)

theorem V_pre (c : Dev nD) (j : Fin 1) : V m c (pre0.ref j) = pf m j := by
  obtain rfl : c = 0 := Subsingleton.elim _ _; rfl

/-- The blocks of the arguments at a grid point. -/
def xB (c : Dev nD) (t : Fin (cfgM m).N) : Vec F S1x256x128 .bf16 := (((cfgM m).win 0).blk t).view.read (Elt F) (V m c main_arg0)
def kB (c : Dev nD) (t : Fin (cfgM m).N) : Vec F S1x1x32768x128 .fp8e4m3 := (((cfgM m).win 1).blk t).view.read (Elt F) (V m c main_arg1)
def ksB (c : Dev nD) (t : Fin (cfgM m).N) : Vec F S1x1x1x32768 .f32 := (((cfgM m).win 2).blk t).view.read (Elt F) (V m c main_v8)
def vB (c : Dev nD) (t : Fin (cfgM m).N) : Vec F S1x1x32768x128 .fp8e4m3 := (((cfgM m).win 3).blk t).view.read (Elt F) (V m c main_arg3)
def vsB (c : Dev nD) (t : Fin (cfgM m).N) : Vec F S1x1x1x128 .f32 := (((cfgM m).win 4).blk t).view.read (Elt F) (V m c main_v9)

/-- What the body leaves in the result's buffer at a grid point, if it held `Y`. -/
def outB (c : Dev nD) (t : Fin (cfgM m).N) (Y : Vec F S1x256x128 .bf16) : Vec F S1x256x128 .bf16 :=
  bodyVal (grid0.coords t) (tbl m) (kB m c t) (ksB m c t) (vB m c t) (vsB m c t) (xB m c t) Y

/-- What the launch is run at: the inputs' buffers end as they were found, the result's at `outB`. -/
def rdat (c : Dev nD) : RDat τ (Elt F) Unit ℕ (UR sig nD τ) ℕ (cfgM m) c where
  A w := V m c (arrRef spec0 w)
  after w t := match w with
    | ⟨5, _⟩ => fun Y X => X = outB m c t Y
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
  Φ _ := iprop(ΦA spec0 c ∗ ΦT pre0 (pf m) c)
  q _ := fullShare
  owed _ := 0

theorem finds_0 (c : Dev nD) (t : Fin (cfgM m).N) (Y) (h : (rdat m c).Finds (0 : Fin 6) t Y) : Y = xB m c t := by
  obtain ⟨d, rfl⟩ := (rdat m c).finds_in_eq_fetched (0 : Fin 6) rfl (fun _ _ _ => rfl) (fun _ _ _ h => h) t Y h
  rfl
theorem finds_1 (c : Dev nD) (t : Fin (cfgM m).N) (Y) (h : (rdat m c).Finds (1 : Fin 6) t Y) : Y = kB m c t := by
  obtain ⟨d, rfl⟩ := (rdat m c).finds_in_eq_fetched (1 : Fin 6) rfl (fun _ _ _ => rfl) (fun _ _ _ h => h) t Y h
  rfl
theorem finds_2 (c : Dev nD) (t : Fin (cfgM m).N) (Y) (h : (rdat m c).Finds (2 : Fin 6) t Y) : Y = ksB m c t := by
  obtain ⟨d, rfl⟩ := (rdat m c).finds_in_eq_fetched (2 : Fin 6) rfl (fun _ _ _ => rfl) (fun _ _ _ h => h) t Y h
  rfl
theorem finds_3 (c : Dev nD) (t : Fin (cfgM m).N) (Y) (h : (rdat m c).Finds (3 : Fin 6) t Y) : Y = vB m c t := by
  obtain ⟨d, rfl⟩ := (rdat m c).finds_in_eq_fetched (3 : Fin 6) rfl (fun _ _ _ => rfl) (fun _ _ _ h => h) t Y h
  rfl
theorem finds_4 (c : Dev nD) (t : Fin (cfgM m).N) (Y) (h : (rdat m c).Finds (4 : Fin 6) t Y) : Y = vsB m c t := by
  obtain ⟨d, rfl⟩ := (rdat m c).finds_in_eq_fetched (4 : Fin 6) rfl (fun _ _ _ => rfl) (fun _ _ _ h => h) t Y h
  rfl

/-! ## The body at a grid point -/

/-- The body as the pipeline calls it. -/
abbrev bodyAt (t : Fin (cfgM m).N) : Prog (TpuEff nD τ sig (Elt F) Λ₀ .tc) PUnit :=
  cc0_attn (grid0.coords t) (Memref.whole main_v7) (Memref.isWhole_whole _) (spec0_0.stage ((cfgM m).slots t 0)) (hstage0_0 (((cfgM m).slots t 0).cast nbuf0_0))
    (spec0_1.stage ((cfgM m).slots t 1)) (hstage0_1 (((cfgM m).slots t 1).cast nbuf0_1)) (spec0_2.stage ((cfgM m).slots t 2)) (hstage0_2 (((cfgM m).slots t 2).cast nbuf0_2))
    (spec0_3.stage ((cfgM m).slots t 3)) (hstage0_3 (((cfgM m).slots t 3).cast nbuf0_3)) (spec0_4.stage ((cfgM m).slots t 4)) (hstage0_4 (((cfgM m).slots t 4).cast nbuf0_4))
    (spec0_5.stage ((cfgM m).slots t 5)) (hstage0_5 (((cfgM m).slots t 5).cast nbuf0_5))

theorem defs_row (t : Fin (cfgM m).N) : defs₀ .tc (cfgM m).body ((cfgM m).bodyArgs t ((cfgM m).slots t)) = bodyAt m t := by
  unfold defs₀; rw [Defs.onTc_tc]

/-- The table's half the body reads. -/
theorem PhiT_eq (c : Dev nD) :
    (ΦT pre0 (pf m) c : sProp 𝕄)
      = iprop((Memref.whole main_v7 : Memref sig .tc .smem S2x13 .i32).view.loc (c : Thread nD τ) ↦[(Memref.whole main_v7 : Memref sig .tc .smem S2x13 .i32).view.set]{fullShare.right} (tbl m : Buf (Elt F) ((c : Thread nD τ).loc main_v7))) := by
  unfold ΦT prefHeld
  rw [show (Finset.univ : Finset (Fin 1)) = {(0 : Fin 1)} from by decide, bigSep_singleton,
    show (Memref.whole main_v7 : Memref sig .tc .smem S2x13 .i32).view.set = Finset.univ from View.set_whole _]
  rfl

theorem tbl_ok (t : Fin (cfgM m).N) (k) :
    k0_chk1 (grid0.coords t) (lo (grid0.coords t) (tbl m) k) (hi (grid0.coords t) (tbl m) k) :=
  chk1 _ (tbl_le m _) (tbl_le m _)

set_option maxHeartbeats 1000000 in
theorem sound_body (c : Dev nD) : (rdat m c).BodyObligation (defs₀ (F := F)) Variants.none () Set.univ := by
  intro t Y hY
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  rw [bigSep_W0, bigSep_W0, defs_row]
  rw [show (rdat m c).Φ t.castSucc = iprop(ΦA spec0 c ∗ ΦT pre0 (pf m) c) from rfl, show (rdat m c).Φ t.succ = iprop(ΦA spec0 c ∗ ΦT pre0 (pf m) c) from rfl, PhiT_eq]
  unfold owns
  iintro ⟨⟨HA, HT⟩, HW, ⟨%f0, %h0, H0⟩, ⟨%f1, %h1, H1⟩, ⟨%f2, %h2, H2⟩, ⟨%f3, %h3, H3⟩, ⟨%f4, %h4, H4⟩, ⟨%f5, %h5, H5⟩⟩
  iapply (wp_wand_r Idealize.ShloMosaic.frame (wpE (defs₀ (F := F)) Variants.none (c : Thread nD τ) none) Set.univ)
  isplitl [HT H0 H1 H2 H3 H4 H5]
  · iapply (body_run (F := F) c (grid0.coords t) (Memref.whole main_v7) (Memref.isWhole_whole _) (spec0_0.stage ((cfgM m).slots t 0)) (hstage0_0 (((cfgM m).slots t 0).cast nbuf0_0))
      (spec0_1.stage ((cfgM m).slots t 1)) (hstage0_1 (((cfgM m).slots t 1).cast nbuf0_1)) (spec0_2.stage ((cfgM m).slots t 2)) (hstage0_2 (((cfgM m).slots t 2).cast nbuf0_2))
      (spec0_3.stage ((cfgM m).slots t 3)) (hstage0_3 (((cfgM m).slots t 3).cast nbuf0_3)) (spec0_4.stage ((cfgM m).slots t 4)) (hstage0_4 (((cfgM m).slots t 4).cast nbuf0_4))
      (spec0_5.stage ((cfgM m).slots t 5)) (hstage0_5 (((cfgM m).slots t 5).cast nbuf0_5)) fullShare.right (tbl m) f1 f2 f3 f4 f0 (tbl_ok m t) (Y 5))
    isplitl [H0]; · iexact H0
    isplitr [H5]
    · isplitl [HT]; · iexact HT
      isplitl [H1]; · iexact H1
      isplitl [H2]; · iexact H2
      isplitl [H3]; · iexact H3
      iexact H4
    · iexists f5
      isplitr
      · ipureintro; exact h5
      iexact H5
  · iintro %_ ⟨H0, ⟨HT, H1, H2, H3, H4⟩, %f, %hf, H5⟩
    have hT : (Memref.whole main_v7 : Memref sig .tc .smem S2x13 .i32).view.read (Elt F) (tbl m : Buf (Elt F) ((c : Thread nD τ).loc main_v7)) = tbl m := rfl
    rw [hT, h0, h1, h2, h3, h4, e0, e1, e2, e3, e4] at hf
    isplitl [HA HT]
    · isplitl [HA]; · iexact HA
      iexact HT
    isplitl [HW]; · iexact HW
    isplitl [H0]
    · iexists (Y 0); isplitr; · ipureintro; rfl
      iexists f0; isplitr; · ipureintro; exact h0
      iexact H0
    isplitl [H1]
    · iexists (Y 1); isplitr; · ipureintro; rfl
      iexists f1; isplitr; · ipureintro; exact h1
      iexact H1
    isplitl [H2]
    · iexists (Y 2); isplitr; · ipureintro; rfl
      iexists f2; isplitr; · ipureintro; exact h2
      iexact H2
    isplitl [H3]
    · iexists (Y 3); isplitr; · ipureintro; rfl
      iexists f3; isplitr; · ipureintro; exact h3
      iexact H3
    isplitl [H4]
    · iexists (Y 4); isplitr; · ipureintro; rfl
      iexists f4; isplitr; · ipureintro; exact h4
      iexact H4
    · iexists (outB m c t (Y 5)); isplitr; · ipureintro; rfl
      iexists f; isplitr; · ipureintro; exact hf
      iexact H5

/-! ## The run -/

-- the launch theorem's implicit arguments are found by unifying its conclusion with this one
set_option backward.isDefEq.respectTransparency.types false in
/-- Every launch ends with the result's blocks as `rdat` says, every other buffer as it was when the kernel was entered. -/
theorem run_main : θ_run (defs (F := F)) (onTc (τ := τ) (main (F := F))) ⟨m, fun _ => 0, g⟩
    (fun r => RDat.FramePost (cfgM m) (rdat m) (V m) r ∧ r.2.sem = fun _ => 0) :=
  RDat.θ_run_frameP (pcfgs (F := F)) (fun _ => adm m) (0 : Fin 1) launch0 defs₀ Variants.none (rdat m) m g main
    (hbody := sound_body m) (hshare := fun c w => (rdat m c).share_full (fun _ => rfl) w)
    (howed := fun _ _ => rfl) (V := V m) (hmain := hmain m) (hA := fun _ _ => rfl) (hpf := V_pre m)
    (hΦ := fun _ _ => rfl) _ (fun _ h => h)

theorem frame_run : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(RDat.FramePost.arr_in h.1 c (0 : Fin 6) rfl).trans (V_arg m c main_arg0 (by simp)),
     (RDat.FramePost.arr_in h.1 c (1 : Fin 6) rfl).trans (V_arg m c main_arg1 (by simp)),
     ((h.1 c).2 main_arg2 (by decide : main_arg2 ∈ restRefs sig spec0)).trans (V_arg m c main_arg2 (by simp)),
     (RDat.FramePost.arr_in h.1 c (3 : Fin 6) rfl).trans (V_arg m c main_arg3 (by simp)),
     ((h.1 c).2 main_arg4 (by decide : main_arg4 ∈ restRefs sig spec0)).trans (V_arg m c main_arg4 (by simp)),
     ((h.1 c).2 main_arg5 (by decide : main_arg5 ∈ restRefs sig spec0)).trans (V_arg m c main_arg5 (by simp))⟩, h.2⟩) (run_main m g)

end Cert.Proof.AttnIdeal

end
-- ==== Proof.Softmax.lean ====
/- Extended-real arithmetic of one row of attention: the constants, the quantiser whose scale is a power of two, and the softmax
   whose exponent is taken in base two and shifted. -/
module

public import Idealize.ShloMosaic.PureOps.Ideal
public import Mathlib.Data.EReal.Inv
public import Mathlib.Analysis.SpecialFunctions.Pow.Real
public import Mathlib.Analysis.SpecialFunctions.Log.Basic
public import Mathlib.Tactic.NormNum
public import Mathlib.Tactic.FieldSimp
public import Mathlib.Tactic.Linarith
public import Mathlib.Tactic.Ring

@[expose] public section

noncomputable section

namespace Cert.Proof.Row

open Idealize.ShloMosaic

/-! ## The constants -/

theorem bits_bot : Ideal.ofBits .f32 0xFF800000#32 = ⊥ := by
  simp [Ideal.ofBits, Ideal.ieee, -EReal.coe_mul]
theorem bits_448 : Ideal.ofBits .f32 0x43E00000#32 = ((448 : ℝ) : EReal) := by
  simp [Ideal.ofBits, Ideal.ieee, -EReal.coe_mul]; norm_num
theorem bits_neg448 : Ideal.ofBits .f32 0xC3E00000#32 = ((-448 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_8 : Ideal.ofBits .f32 0x41000000#32 = ((8 : ℝ) : EReal) := by
  simp [Ideal.ofBits, Ideal.ieee, -EReal.coe_mul]; norm_num
theorem bits_inv : Ideal.ofBits .f32 0x3B124925#32 = ((9586981 / 4294967296 : ℝ) : EReal) := by
  simp [Ideal.ofBits, Ideal.ieee, -EReal.coe_mul]; norm_num

/-- The reciprocal of 448 as the programs write it: a little more than it. -/
abbrev k448 : ℝ := 9586981 / 4294967296

/-! ## Positive factors -/

theorem pos_mul_add {r : ℝ} (hr : 0 < r) (a b : EReal) : (r : EReal) * (a + b) = r * a + r * b :=
  EReal.left_distrib_of_nonneg_of_ne_top (by exact_mod_cast hr.le) (EReal.coe_ne_top r) a b

theorem pos_mul_sum {ι : Type*} (s : Finset ι) {r : ℝ} (hr : 0 < r) (f : ι → EReal) : ∑ j ∈ s, (r : EReal) * f j = r * ∑ j ∈ s, f j := by
  classical
  induction s using Finset.induction_on with
  | empty => simp
  | insert a s ha ih => rw [Finset.sum_insert ha, Finset.sum_insert ha, ih, pos_mul_add hr]

theorem sum_mul_pos {ι : Type*} (s : Finset ι) {r : ℝ} (hr : 0 < r) (f : ι → EReal) : ∑ j ∈ s, f j * (r : EReal) = (∑ j ∈ s, f j) * r := by
  rw [mul_comm, ← pos_mul_sum s hr]; exact Finset.sum_congr rfl fun _ _ => mul_comm _ _

theorem mul_inv_cancel_pos {r : ℝ} (hr : 0 < r) : (r : EReal) * ((r⁻¹ : ℝ) : EReal) = 1 := by
  rw [← EReal.coe_mul, mul_inv_cancel₀ hr.ne']; rfl

theorem sup_mul_pos {ι : Type*} (s : Finset ι) {r : ℝ} (hr : 0 < r) (f : ι → EReal) : s.sup (fun j => f j * (r : EReal)) = s.sup f * r := by
  have hm : Monotone fun x : EReal => x * (r : EReal) := fun a b h => mul_le_mul_of_nonneg_right h (by exact_mod_cast hr.le)
  exact (Finset.comp_sup_eq_sup_comp (fun x : EReal => x * (r : EReal)) (fun a b => hm.map_sup a b) (EReal.bot_mul_coe_of_pos hr)).symm

theorem div_mul_pos {r : ℝ} (hr : 0 < r) (x y : EReal) : Ideal.div (r * x) (r * y) = Ideal.div x y := by
  have hr0 : (0 : EReal) < r := by exact_mod_cast hr
  by_cases hy : y = 0
  · simp only [Ideal.div, hy, mul_zero, if_true]
    have : (0 < (r : EReal) * x) ↔ 0 < x := by
      constructor
      · intro h; by_contra hx
        exact absurd h (not_lt.2 (mul_nonpos_of_nonneg_of_nonpos hr0.le (not_lt.1 hx)))
      · exact fun h => EReal.mul_pos hr0 h
    simp only [this]
  · have hry : (r : EReal) * y ≠ 0 := mul_ne_zero hr0.ne' hy
    rw [Ideal.div, if_neg hry, Ideal.div, if_neg hy, EReal.mul_inv, mul_comm (r : EReal) x, mul_assoc, ← mul_assoc (r : EReal),
      ← EReal.coe_inv, mul_inv_cancel_pos hr, one_mul]

/-! ## Softmax -/

/-- The factor between the two bases of the exponent. -/
abbrev perLog2 : ℝ := (Real.log 2)⁻¹

theorem perLog2_pos : 0 < perLog2 := inv_pos.2 (Real.log_pos (by norm_num))

/-- The exponential in base two, shifted by eight, is 256 times the exponential. -/
theorem exp2_shift {u M : EReal} (h : u ≤ M) :
    Ideal.exp2 (u * (perLog2 : EReal) - (M * (perLog2 : EReal) - ((8 : ℝ) : EReal))) = ((256 : ℝ) : EReal) * Ideal.exp (u - M) := by
  have hz : ((256 : ℝ) : EReal) * Ideal.exp ⊥ = 0 := by rw [show Ideal.exp ⊥ = 0 from rfl, mul_zero]
  induction M with
  | bot =>
    obtain rfl : u = ⊥ := le_bot_iff.1 h
    rw [EReal.bot_mul_coe_of_pos perLog2_pos, show (⊥ : EReal) - ((8 : ℝ) : EReal) = ⊥ from rfl, show (⊥ : EReal) - ⊥ = ⊥ from rfl, hz]; rfl
  | top =>
    rw [EReal.top_mul_coe_of_pos perLog2_pos, show (⊤ : EReal) - ((8 : ℝ) : EReal) = ⊤ from rfl, EReal.sub_top, EReal.sub_top, hz]; rfl
  | coe M =>
    induction u with
    | bot =>
      rw [EReal.bot_mul_coe_of_pos perLog2_pos, ← EReal.coe_mul, ← EReal.coe_sub, EReal.bot_sub, EReal.bot_sub, hz]; rfl
    | top => exact absurd h (by simp)
    | coe u =>
      rw [← EReal.coe_mul, ← EReal.coe_mul, ← EReal.coe_sub, ← EReal.coe_sub, ← EReal.coe_sub]
      show ((Real.rpow 2 _ : ℝ) : EReal) = _ * ((Real.exp _ : ℝ) : EReal)
      rw [← EReal.coe_mul]
      congr 1
      show (2 : ℝ) ^ (_ : ℝ) = _
      have hl : Real.log 2 ≠ 0 := (Real.log_pos (by norm_num)).ne'
      rw [show u * perLog2 - (M * perLog2 - 8) = 8 + (u - M) * perLog2 by ring, Real.rpow_add (by norm_num),
        Real.rpow_def_of_pos (by norm_num : (0 : ℝ) < 2) ((u - M) * perLog2),
        show Real.log 2 * ((u - M) * perLog2) = u - M by simp only [perLog2]; field_simp]
      norm_num

variable {ι : Type} [Fintype ι]

/-- The scores of a row against the keys of its document, and the bottom elsewhere. -/
def score (X : Fin 128 → EReal) (K : ι → Fin 128 → EReal) (KS : ι → EReal) (same : ι → Prop) [DecidablePred same] (j : ι) : EReal :=
  if same j then (∑ d, X d * K j d) * (((Real.sqrt 128)⁻¹ : ℝ) : EReal) * KS j else ⊥

/-- The weight of a key. -/
def weight (u : ι → EReal) (j : ι) : EReal := Ideal.exp (u j - Finset.univ.sup u)

/-- The weighted mean of the values, scaled. -/
def attend (u : ι → EReal) (V : ι → EReal) (vs : EReal) : EReal :=
  Ideal.div ((∑ j, weight u j * V j) * vs) (∑ j, weight u j)

/-- A weight is a real between 0 and 1. -/
theorem weight_real (u : ι → EReal) (j : ι) : ∃ p : ℝ, weight u j = p ∧ 0 ≤ p ∧ p ≤ 1 := by
  unfold weight
  have h : u j ≤ Finset.univ.sup u := Finset.le_sup (Finset.mem_univ j)
  generalize Finset.univ.sup u = M at h
  generalize u j = v at h
  have hz : ∃ p : ℝ, Ideal.exp ⊥ = p ∧ 0 ≤ p ∧ p ≤ 1 := ⟨0, rfl, le_rfl, zero_le_one⟩
  induction M with
  | bot => rwa [show v - ⊥ = ⊥ by rw [le_bot_iff.1 h]; rfl]
  | top => rwa [EReal.sub_top]
  | coe M =>
    induction v with
    | bot => rwa [EReal.bot_sub]
    | top => exact absurd h (by simp)
    | coe v =>
      refine ⟨Real.exp (v - M), rfl, (Real.exp_pos _).le, ?_⟩
      rw [Real.exp_le_one_iff]
      have : v ≤ M := by exact_mod_cast h
      linarith

/-- A masked key weighs nothing. -/
theorem weight_bot {u : ι → EReal} {j : ι} (h : u j = ⊥) : weight u j = 0 := by
  unfold weight; rw [h, EReal.bot_sub]; rfl

/-! ## The quantiser -/

/-- The exponent of a quantiser's scale: of the smallest power of two above `a / 448`. -/
def expo (a : EReal) : EReal :=
  if a = 0 then 0 else Ideal.liftRound Int.floor (Ideal.div (Ideal.log (a * (k448 : EReal))) (Ideal.log ((2 : ℝ) : EReal))) + 1

/-- The clip of a code does nothing to what is at most 448 in magnitude. -/
theorem clip_eq {v : ℝ} (h : |v| ≤ 448) : min ((448 : ℝ) : EReal) (max ((-448 : ℝ) : EReal) (v : EReal)) = v := by
  obtain ⟨h1, h2⟩ := abs_le.1 h
  rw [max_eq_right (by exact_mod_cast h1), min_eq_right (by exact_mod_cast h2)]

theorem expo_spec {a : ℝ} (ha : 0 ≤ a) : ∃ r : ℝ, 0 < r ∧ Ideal.exp2 (expo a) = r ∧ Ideal.exp2 (0 - expo a) = ((r⁻¹ : ℝ) : EReal) ∧ a * k448 ≤ r := by
  have main : ∃ e : ℝ, expo a = e ∧ a * k448 ≤ (2 : ℝ) ^ e := by
    unfold expo
    by_cases h : a = 0
    · exact ⟨0, by simp [h], by simp [h]⟩
    · have hp : 0 < a := lt_of_le_of_ne ha (Ne.symm h)
      have hy : 0 < a * k448 := mul_pos hp (by norm_num)
      have hl : 0 < Real.log 2 := Real.log_pos (by norm_num)
      have e1 : Ideal.log ((a : EReal) * (k448 : EReal)) = ((Real.log (a * k448) : ℝ) : EReal) := by
        rw [← EReal.coe_mul]; show (if a * k448 ≤ 0 then ⊥ else _) = _; rw [if_neg (not_le.2 hy)]
      have e2 : Ideal.log ((2 : ℝ) : EReal) = ((Real.log 2 : ℝ) : EReal) := by
        show (if (2 : ℝ) ≤ 0 then ⊥ else _) = _; rw [if_neg (by norm_num)]
      rw [if_neg (by exact_mod_cast h), e1, e2, Ideal.div_coe hl.ne', ← EReal.coe_mul, mul_one_div]
      refine ⟨(⌊Real.log (a * k448) / Real.log 2⌋ : ℝ) + 1, rfl, ?_⟩
      rw [← Real.log_le_log_iff hy (by positivity), Real.log_rpow (by norm_num)]
      have := (Int.lt_floor_add_one (Real.log (a * k448) / Real.log 2)).le
      rwa [div_le_iff₀ hl] at this
  obtain ⟨e, he, hle⟩ := main
  refine ⟨(2 : ℝ) ^ e, by positivity, by rw [he]; rfl, ?_, hle⟩
  rw [he, zero_sub, ← EReal.coe_neg]
  show ((Real.rpow 2 (-e) : ℝ) : EReal) = _
  congr 1
  exact Real.rpow_neg (by norm_num) e

/-- A code is what it quantises over the scale. -/
theorem code_eq {a r v : ℝ} (hr : 0 < r) (ha : a * k448 ≤ r) (hv : |v| ≤ a) :
    min ((448 : ℝ) : EReal) (max ((-448 : ℝ) : EReal) ((v : EReal) * ((r⁻¹ : ℝ) : EReal))) = (v : EReal) * ((r⁻¹ : ℝ) : EReal) := by
  rw [← EReal.coe_mul]
  apply clip_eq
  rw [abs_mul, abs_of_pos (inv_pos.2 hr), ← div_eq_mul_inv, div_le_iff₀ hr]
  have : (1 : ℝ) / 448 ≤ k448 := by norm_num
  have h0 : 0 ≤ a := (abs_nonneg v).trans hv
  have h1 := mul_le_mul_of_nonneg_left this h0
  simp only [k448] at *
  linarith

theorem absf_coe (x : ℝ) : FloatOps.absf (F := Ideal) (φ := .f32) (x : EReal) = ((|x| : ℝ) : EReal) := by
  show max (x : EReal) (-(x : EReal)) = _
  rw [← EReal.coe_neg, abs]; exact (EReal.coe_strictMono.monotone.map_sup x (-x)).symm

/-- The greatest magnitude of finitely many reals. -/
theorem amax_real [Nonempty ι] (x : ι → ℝ) :
    ∃ a : ℝ, (Finset.univ.fold max ⊥ fun d => FloatOps.absf (F := Ideal) (φ := .f32) (x d : EReal)) = a ∧ 0 ≤ a ∧ ∀ d, |x d| ≤ a := by
  simp only [absf_coe]
  obtain ⟨i, -, hi⟩ := Finset.exists_mem_eq_sup (Finset.univ : Finset ι) Finset.univ_nonempty (fun d => ((|x d| : ℝ) : EReal))
  refine ⟨|x i|, hi, abs_nonneg _, fun d => ?_⟩
  have := Finset.le_sup (f := fun d => ((|x d| : ℝ) : EReal)) (Finset.mem_univ d)
  rw [hi] at this
  exact_mod_cast this

/-- A sum against the codes, times the scale, is the sum against what they quantise. -/
theorem quant_sum [Nonempty ι] (X : ι → EReal) (hX : ∀ d, ∃ x : ℝ, X d = x) (K : ι → EReal) (A : EReal)
    (hA : A = Finset.univ.fold max ⊥ fun d => FloatOps.absf (F := Ideal) (φ := .f32) (X d)) :
    (∑ d, min ((448 : ℝ) : EReal) (max ((-448 : ℝ) : EReal) (X d * Ideal.exp2 (0 - expo A))) * K d) * Ideal.exp2 (expo A) = ∑ d, X d * K d := by
  choose x hx using hX
  obtain rfl : X = fun d => (x d : EReal) := funext hx
  obtain ⟨a, ha, h0, hle⟩ := amax_real x
  rw [ha] at hA
  subst hA
  obtain ⟨r, hr, e1, e2, h⟩ := expo_spec h0
  rw [e1, e2]
  have : ∀ d, min ((448 : ℝ) : EReal) (max ((-448 : ℝ) : EReal) ((x d : EReal) * ((r⁻¹ : ℝ) : EReal))) * K d = ((r⁻¹ : ℝ) : EReal) * ((x d : EReal) * K d) := by
    intro d; rw [code_eq hr h (hle d), mul_comm (x d : EReal), mul_assoc]
  simp only [this]
  rw [pos_mul_sum _ (inv_pos.2 hr), mul_comm, ← mul_assoc, mul_inv_cancel_pos hr, one_mul]

end Cert.Proof.Row

end
-- ==== Proof.Spec.lean ====
/- The attention of the arguments, entry by entry: the value both programs are shown to leave. -/
module

public import proofs.«01_k».proof.Proof.Softmax

@[expose] public section

noncomputable section

namespace Cert.Proof

/-- The key head a column of the result belongs to. -/
def headOf (c : Fin 1024) : Fin 2 := ⟨c / 512, by omega⟩

/-- The lane of a column within its head. -/
def laneOf (c : Fin 1024) : Fin 128 := ⟨c % 128, by omega⟩

/-- The column that holds lane `d` of the query head of column `c`. -/
def queryOf (c : Fin 1024) (d : Fin 128) : Fin 1024 := ⟨c / 128 * 128 + d, by omega⟩

variable (x : Fin 2 → Fin 32768 → Fin 1024 → EReal) (k : Fin 2 → Fin 2 → Fin 32768 → Fin 128 → EReal) (ks : Fin 2 → Fin 2 → Fin 32768 → EReal)
  (v : Fin 2 → Fin 2 → Fin 32768 → Fin 128 → EReal) (vs : Fin 2 → Fin 2 → Fin 128 → EReal) (seg : Fin 2 → Fin 32768 → BitVec 32)

/-- The scores of the query at position `s` and column `c`, over all positions. -/
def scores (b : Fin 2) (s : Fin 32768) (c : Fin 1024) : Fin 32768 → EReal :=
  Row.score (fun d => x b s (queryOf c d)) (k b (headOf c)) (ks b (headOf c)) (fun j => seg b s = seg b j)

/-- Attention of the arguments. -/
def attention (b : Fin 2) (s : Fin 32768) (c : Fin 1024) : EReal :=
  Row.attend (scores x k ks seg b s c) (fun j => v b (headOf c) j (laneOf c)) (vs b (headOf c) (laneOf c))

end Cert.Proof

end
-- ==== Proof.Docs.lean ====
/- Sorted ids: the positions of one document are those between two counts. -/
module

public import Mathlib.Data.Fintype.Card
public import Mathlib.Data.Fintype.Fin
public import Mathlib.Order.Interval.Finset.Fin
public import Mathlib.Tactic.Common

@[expose] public section

namespace Cert.Proof

/-- Among sorted ids, those below `k` lie before position `j` exactly if the id at `j` is not below `k`. -/
theorem count_le_iff {n : ℕ} {f : Fin n → ℤ} (hf : Monotone f) (k : ℤ) (j : Fin n) :
    (Finset.univ.filter fun s => f s < k).card ≤ (j : ℕ) ↔ k ≤ f j := by
  constructor
  · intro h
    by_contra hk
    have hs : Finset.Iic j ⊆ Finset.univ.filter fun s => f s < k := fun s hs =>
      Finset.mem_filter.mpr ⟨Finset.mem_univ _, lt_of_le_of_lt (hf (Finset.mem_Iic.mp hs)) (not_le.mp hk)⟩
    have := Finset.card_le_card hs
    rw [Fin.card_Iic] at this
    omega
  · intro h
    have hs : (Finset.univ.filter fun s => f s < k) ⊆ Finset.Iio j := fun s hs =>
      Finset.mem_Iio.mpr (lt_of_not_ge fun q => absurd (Finset.mem_filter.mp hs).2 (not_lt.mpr (h.trans (hf q))))
    exact (Finset.card_le_card hs).trans_eq (Fin.card_Iio j)

/-- The positions between the counts below `k` and below `k + 1` are those whose id is `k`. -/
theorem between_iff {n : ℕ} {f : Fin n → ℤ} (hf : Monotone f) (k : ℤ) (j : Fin n) :
    (Finset.univ.filter fun s => f s < k).card ≤ (j : ℕ) ∧ (j : ℕ) < (Finset.univ.filter fun s => f s < k + 1).card ↔ f j = k := by
  have a := count_le_iff hf k j
  have b := count_le_iff hf (k + 1) j
  rw [a, ← not_le, b]
  omega

/-- Ids that never fall from one position to the next are sorted. -/
theorem sorted_of_step {n : ℕ} {f : Fin (n + 1) → ℤ} (h : ∀ i : Fin n, f i.castSucc ≤ f i.succ) : Monotone f :=
  Fin.monotone_iff_le_succ.mpr h

end Cert.Proof
-- ==== Proof.KerBlocks.lean ====
/- The arrays the kernel's blocks are cut from, entry by entry, and where each block lies. -/
module

public import proofs.«01_k».proof.Proof.IdealFrame
public import proofs.«01_k».proof.Proof.Spec
public import proofs.«01_k».proof.Proof.Docs
public import Idealize.ShloMosaic.Lib.Pipeline.ValueKit.Geometry
public import Idealize.ShloMosaic.Lib.Pipeline.ArrRel
public import Idealize.ShloMosaic.Lib.Pointwise

@[expose] public section

noncomputable section

namespace Cert.Proof.AttnIdeal

open Cert.AttnIdeal Cert.AttnIdeal.Gen
open Idealize.ShloMosaic Idealize.ShloMosaic.TcCoe

variable (m : (ℓ : Loc nD τ sig) → Buf (Elt Ideal) ℓ)

/-! ## The arguments -/

def aX (c : Dev nD) : Vec Ideal S2x32768x1024 .bf16 := m (c, Proc.tc.devRef main_arg0)
def aK (c : Dev nD) : Vec Ideal S2x2x32768x128 .fp8e4m3 := m (c, Proc.tc.devRef main_arg1)
def aKs (c : Dev nD) : Vec Ideal S2x2x32768 .f32 := m (c, Proc.tc.devRef main_arg2)
def aV (c : Dev nD) : Vec Ideal S2x2x32768x128 .fp8e4m3 := m (c, Proc.tc.devRef main_arg3)
def aVs (c : Dev nD) : Vec Ideal S2x2x128 .f32 := m (c, Proc.tc.devRef main_arg4)
def aSeg (c : Dev nD) : Vec Ideal S2x32768 .i32 := m (c, Proc.tc.devRef main_arg5)

theorem v8_apply (c : Dev nD) (b : Fin 2) (h : Fin 2) (j : Fin 32768) :
    (V m c main_v8 : Vec Ideal S2x2x1x32768 .f32) (ix4 b h 0 j) = aKs m c (ix3 b h j) := by
  unfold V
  after_results
  pointwise []
  rfl

theorem v9_apply (c : Dev nD) (b : Fin 2) (h : Fin 2) (d : Fin 128) :
    (V m c main_v9 : Vec Ideal S2x2x1x128 .f32) (ix4 b h 0 d) = aVs m c (ix3 b h d) := by
  unfold V
  after_results
  pointwise []
  rfl

theorem below_apply (b : Fin 2) (k : Fin 13) (s : Fin 32768) :
    below m (ix3 b k s) = BitVec.ofBool ((aSeg m 0 (ix2 b s) : BitVec 32).slt (BitVec.ofNat 32 k)) := by
  unfold below V
  after_results
  pointwise []
  rfl

/-! ## Where the blocks lie -/

theorem tr0 : ∀ t : Fin grid0.N, cc0_transform_0 (grid0.coords t) = ![(grid0.coords t 0).val, (grid0.coords t 2).val, (grid0.coords t 1).val] := by decide +kernel
theorem tr1 : ∀ t : Fin grid0.N, cc0_transform_1 (grid0.coords t) = ![(grid0.coords t 0).val, (grid0.coords t 1).val / 4, 0, 0] := by decide +kernel
theorem tr2 : ∀ t : Fin grid0.N, cc0_transform_2 (grid0.coords t) = ![(grid0.coords t 0).val, (grid0.coords t 1).val / 4, 0, 0] := by decide +kernel
theorem tr3 : ∀ t : Fin grid0.N, cc0_transform_3 (grid0.coords t) = ![(grid0.coords t 0).val, (grid0.coords t 1).val / 4, 0, 0] := by decide +kernel
theorem tr4 : ∀ t : Fin grid0.N, cc0_transform_4 (grid0.coords t) = ![(grid0.coords t 0).val, (grid0.coords t 1).val / 4, 0, 0] := by decide +kernel
theorem tr5 : ∀ t : Fin grid0.N, cc0_transform_5 (grid0.coords t) = ![(grid0.coords t 0).val, (grid0.coords t 2).val, (grid0.coords t 1).val] := by decide +kernel

end Cert.Proof.AttnIdeal

end
-- ==== Proof.KerReads.lean ====
/- The blocks a grid step of the kernel reads, entry by entry, from the argument arrays. -/
module

public import proofs.«01_k».proof.Proof.KerBlocks

@[expose] public section

noncomputable section

namespace Cert.Proof.AttnIdeal

open Cert.AttnIdeal Cert.AttnIdeal.Gen
open Idealize.ShloMosaic Idealize.ShloMosaic.TcCoe

variable (m : (ℓ : Loc nD τ sig) → Buf (Elt Ideal) ℓ)

/-- The sequence, the place in it and the column that an entry of a grid step's block stands for. -/
def seqAt (t : Fin grid0.N) : Fin 2 := grid0.coords t 0
def headAt (t : Fin grid0.N) : Fin 2 := ⟨(grid0.coords t 1).val / 4, by have h : (grid0.coords t 1).val < 8 := (grid0.coords t 1).isLt; omega⟩
def posAt (t : Fin grid0.N) (r : Fin 256) : Fin 32768 :=
  ⟨(grid0.coords t 2).val * 256 + r, by have h : (grid0.coords t 2).val < 128 := (grid0.coords t 2).isLt; omega⟩
def colAt (t : Fin grid0.N) (d : Fin 128) : Fin 1024 :=
  ⟨(grid0.coords t 1).val * 128 + d, by have h : (grid0.coords t 1).val < 8 := (grid0.coords t 1).isLt; omega⟩

theorem xB_apply (c : Dev nD) (t : Fin grid0.N) (r : Fin 256) (d : Fin 128) :
    xB m c t (ix3 0 r d) = aX m c (ix3 (seqAt t) (posAt t r) (colAt t d)) := by
  unfold xB
  rw [V_arg m c main_arg0 (by simp)]
  refine (View.read_apply _ _).trans ?_
  show aX m c ((((cfgM m).win 0).blk t).view.emb (ix3 0 r d)) = _
  congr 1
  funext a
  apply Fin.ext
  refine (((cfgM m).win 0).rect_emb_val t (ix3 0 r d) a).trans ?_
  show cc0_transform_0 (grid0.coords t) a * S1x256x128.size a + ((ix3 0 r d : S1x256x128.Idx) a : ℕ) = _
  rw [tr0]
  fin_cases a
  · exact (Nat.add_zero _).trans (Nat.mul_one _)
  · rfl
  · rfl

theorem kB_apply (c : Dev nD) (t : Fin grid0.N) (j : Fin 32768) (d : Fin 128) :
    kB m c t (ix4 0 0 j d) = aK m c (ix4 (seqAt t) (headAt t) j d) := by
  unfold kB
  rw [V_arg m c main_arg1 (by simp)]
  refine (View.read_apply _ _).trans ?_
  show aK m c ((((cfgM m).win 1).blk t).view.emb (ix4 0 0 j d)) = _
  congr 1
  funext a
  apply Fin.ext
  refine (((cfgM m).win 1).rect_emb_val t (ix4 0 0 j d) a).trans ?_
  show cc0_transform_1 (grid0.coords t) a * S1x1x32768x128.size a + ((ix4 0 0 j d : S1x1x32768x128.Idx) a : ℕ) = _
  rw [tr1]
  fin_cases a
  · exact (Nat.add_zero _).trans (Nat.mul_one _)
  · exact (Nat.add_zero _).trans (Nat.mul_one _)
  · exact (congrArg (· + (j : ℕ)) (Nat.zero_mul 32768)).trans (Nat.zero_add _)
  · exact (congrArg (· + (d : ℕ)) (Nat.zero_mul 128)).trans (Nat.zero_add _)

theorem vB_apply (c : Dev nD) (t : Fin grid0.N) (j : Fin 32768) (d : Fin 128) :
    vB m c t (ix4 0 0 j d) = aV m c (ix4 (seqAt t) (headAt t) j d) := by
  unfold vB
  rw [V_arg m c main_arg3 (by simp)]
  refine (View.read_apply _ _).trans ?_
  show aV m c ((((cfgM m).win 3).blk t).view.emb (ix4 0 0 j d)) = _
  congr 1
  funext a
  apply Fin.ext
  refine (((cfgM m).win 3).rect_emb_val t (ix4 0 0 j d) a).trans ?_
  show cc0_transform_3 (grid0.coords t) a * S1x1x32768x128.size a + ((ix4 0 0 j d : S1x1x32768x128.Idx) a : ℕ) = _
  rw [tr3]
  fin_cases a
  · exact (Nat.add_zero _).trans (Nat.mul_one _)
  · exact (Nat.add_zero _).trans (Nat.mul_one _)
  · exact (congrArg (· + (j : ℕ)) (Nat.zero_mul 32768)).trans (Nat.zero_add _)
  · exact (congrArg (· + (d : ℕ)) (Nat.zero_mul 128)).trans (Nat.zero_add _)

theorem ksB_apply (c : Dev nD) (t : Fin grid0.N) (j : Fin 32768) :
    ksB m c t (ix4 0 0 0 j) = aKs m c (ix3 (seqAt t) (headAt t) j) := by
  unfold ksB
  rw [← v8_apply]
  refine (View.read_apply _ _).trans ?_
  show (V m c main_v8 : Vec Ideal S2x2x1x32768 .f32) ((((cfgM m).win 2).blk t).view.emb (ix4 0 0 0 j)) = _
  congr 1
  funext a
  apply Fin.ext
  refine (((cfgM m).win 2).rect_emb_val t (ix4 0 0 0 j) a).trans ?_
  show cc0_transform_2 (grid0.coords t) a * S1x1x1x32768.size a + ((ix4 0 0 0 j : S1x1x1x32768.Idx) a : ℕ) = _
  rw [tr2]
  fin_cases a
  · exact (Nat.add_zero _).trans (Nat.mul_one _)
  · exact (Nat.add_zero _).trans (Nat.mul_one _)
  · rfl
  · exact (congrArg (· + (j : ℕ)) (Nat.zero_mul 32768)).trans (Nat.zero_add _)

theorem vsB_apply (c : Dev nD) (t : Fin grid0.N) (d : Fin 128) :
    vsB m c t (ix4 0 0 0 d) = aVs m c (ix3 (seqAt t) (headAt t) d) := by
  unfold vsB
  rw [← v9_apply]
  refine (View.read_apply _ _).trans ?_
  show (V m c main_v9 : Vec Ideal S2x2x1x128 .f32) ((((cfgM m).win 4).blk t).view.emb (ix4 0 0 0 d)) = _
  congr 1
  funext a
  apply Fin.ext
  refine (((cfgM m).win 4).rect_emb_val t (ix4 0 0 0 d) a).trans ?_
  show cc0_transform_4 (grid0.coords t) a * S1x1x1x128.size a + ((ix4 0 0 0 d : S1x1x1x128.Idx) a : ℕ) = _
  rw [tr4]
  fin_cases a
  · exact (Nat.add_zero _).trans (Nat.mul_one _)
  · exact (Nat.add_zero _).trans (Nat.mul_one _)
  · rfl
  · exact (congrArg (· + (d : ℕ)) (Nat.zero_mul 128)).trans (Nat.zero_add _)

end Cert.Proof.AttnIdeal

end
-- ==== Proof.Chunks.lean ====
/- A row of attention taken chunk by chunk, with weights 256 times too large, from the quantised row. -/
module

public import proofs.«01_k».proof.Proof.Softmax

@[expose] public section

noncomputable section

namespace Cert.Proof.Row

open Idealize.ShloMosaic

/-! ## Chunks -/

theorem sum_step (f : ℕ → EReal) (A n : ℕ) :
    ∑ i ∈ Finset.range ((n + 1) * 512), f (A + i) = ∑ i ∈ Finset.range (n * 512), f (A + i) + ∑ x : Fin 512, f (A + n * 512 + x) := by
  have e : ∑ x ∈ Finset.range 512, f (A + (n * 512 + x)) = ∑ x : Fin 512, f (A + n * 512 + x) := by
    rw [Finset.sum_range (fun x => f (A + (n * 512 + x)))]
    exact Finset.sum_congr rfl fun x _ => by rw [← Nat.add_assoc]
  rw [Nat.succ_mul, Finset.sum_range_add, e]

theorem sup_step (f : ℕ → EReal) (A n : ℕ) :
    (Finset.range ((n + 1) * 512)).sup (fun i => f (A + i))
      = max ((Finset.range (n * 512)).sup fun i => f (A + i)) (Finset.univ.sup fun x : Fin 512 => f (A + n * 512 + x)) := by
  apply le_antisymm
  · refine Finset.sup_le fun i hi => ?_
    have hi := Finset.mem_range.1 hi
    by_cases h : i < n * 512
    · exact le_max_of_le_left (Finset.le_sup (f := fun i => f (A + i)) (Finset.mem_range.2 h))
    · refine le_max_of_le_right ?_
      have := Finset.le_sup (f := fun x : Fin 512 => f (A + n * 512 + x)) (Finset.mem_univ (⟨i - n * 512, by omega⟩ : Fin 512))
      dsimp only at this
      rwa [show A + n * 512 + (i - n * 512) = A + i by omega] at this
  · refine max_le (Finset.sup_le fun i hi => ?_) (Finset.sup_le fun x _ => ?_)
    · have hi := Finset.mem_range.1 hi
      exact Finset.le_sup (f := fun i => f (A + i)) (Finset.mem_range.2 (by omega))
    · have := Finset.le_sup (f := fun i => f (A + i)) (Finset.mem_range.2 (show n * 512 + (x : ℕ) < (n + 1) * 512 by omega))
      rwa [← Nat.add_assoc] at this

variable {f : ℕ → EReal} {A N L H : ℕ}

theorem sum_whole (hf : ∀ j, ¬ (L ≤ j ∧ j < H) → f j = 0) (h1 : A ≤ L) (h2 : H ≤ A + N) (h3 : A + N ≤ 32768) :
    ∑ i ∈ Finset.range N, f (A + i) = ∑ j : Fin 32768, f j := by
  have e : ∑ i ∈ Finset.range N, f (A + i) = ∑ j ∈ Finset.Ico A (A + N), f j := by
    rw [Finset.sum_Ico_eq_sum_range, Nat.add_sub_cancel_left]
  rw [e, ← Finset.sum_range (fun j => f j)]
  refine Finset.sum_subset (fun j hj => ?_) (fun j _ hj => hf j fun h => hj ?_)
  · have := Finset.mem_Ico.1 hj
    exact Finset.mem_range.2 (by omega)
  · exact Finset.mem_Ico.2 (by omega)

theorem sup_whole (hf : ∀ j, ¬ (L ≤ j ∧ j < H) → f j = ⊥) (h1 : A ≤ L) (h2 : H ≤ A + N) (h3 : A + N ≤ 32768) :
    (Finset.range N).sup (fun i => f (A + i)) = Finset.univ.sup fun j : Fin 32768 => f j := by
  apply le_antisymm
  · refine Finset.sup_le fun i hi => ?_
    have hi := Finset.mem_range.1 hi
    exact Finset.le_sup (f := fun j : Fin 32768 => f j) (Finset.mem_univ (⟨A + i, by omega⟩ : Fin 32768))
  · refine Finset.sup_le fun j _ => ?_
    by_cases h : L ≤ (j : ℕ) ∧ (j : ℕ) < H
    · have := Finset.le_sup (f := fun i => f (A + i)) (Finset.mem_range.2 (show (j : ℕ) - A < N by omega))
      rwa [show A + ((j : ℕ) - A) = j by omega] at this
    · rw [hf _ h]; exact bot_le

/-! ## A row -/

variable (X : Fin 128 → EReal) (K : Fin 32768 → Fin 128 → EReal) (KS : Fin 32768 → EReal) (same : Fin 32768 → Prop) [DecidablePred same]

/-- The factor that turns a product of codes into a power of two's exponent. -/
abbrev perScore (s : ℝ) : EReal := (s : EReal) * (((Real.sqrt 128)⁻¹ * (Real.log 2)⁻¹ : ℝ) : EReal)

/-- The products of a row's codes and the keys, masked. -/
def products (s : ℝ) (j : Fin 32768) : EReal := if same j then (∑ d, ((s⁻¹ : ℝ) : EReal) * X d * K j d) * KS j else ⊥

/-- The weight of a product, 256 times too large. -/
def bigWeight (s : ℝ) (U : Fin 32768 → EReal) (u : EReal) : EReal := Ideal.exp2 (u * perScore s - (Finset.univ.sup U * perScore s - ((8 : ℝ) : EReal)))

theorem sqrt_pos' : 0 < (Real.sqrt 128)⁻¹ := inv_pos.2 (Real.sqrt_pos.2 (by norm_num))

theorem products_mul {s : ℝ} (hs : 0 < s) (j : Fin 32768) : products X K KS same s j * perScore s = score X K KS same j * (perLog2 : EReal) := by
  unfold products score
  split
  · have e : ∑ d, ((s⁻¹ : ℝ) : EReal) * X d * K j d = ((s⁻¹ : ℝ) : EReal) * ∑ d, X d * K j d := by
      rw [← pos_mul_sum _ (inv_pos.2 hs)]
      exact Finset.sum_congr rfl fun d _ => mul_assoc _ _ _
    rw [e, perScore, EReal.coe_mul]
    generalize ∑ d, X d * K j d = P
    calc ((s⁻¹ : ℝ) : EReal) * P * KS j * ((s : EReal) * ((((Real.sqrt 128)⁻¹ : ℝ) : EReal) * (((Real.log 2)⁻¹ : ℝ) : EReal)))
        = ((s : EReal) * ((s⁻¹ : ℝ) : EReal)) * (P * (((Real.sqrt 128)⁻¹ : ℝ) : EReal) * KS j * (((Real.log 2)⁻¹ : ℝ) : EReal)) := by ac_rfl
      _ = _ := by rw [mul_inv_cancel_pos hs, one_mul]
  · rw [perScore, ← EReal.coe_mul, EReal.bot_mul_coe_of_pos (mul_pos hs (mul_pos sqrt_pos' perLog2_pos)), EReal.bot_mul_coe_of_pos perLog2_pos]

theorem bigWeight_eq {s : ℝ} (hs : 0 < s) (j : Fin 32768) :
    bigWeight s (products X K KS same s) (products X K KS same s j) = ((256 : ℝ) : EReal) * weight (score X K KS same) j := by
  unfold bigWeight weight
  have hp : 0 < s * ((Real.sqrt 128)⁻¹ * (Real.log 2)⁻¹) := mul_pos hs (mul_pos sqrt_pos' perLog2_pos)
  have e : Finset.univ.sup (products X K KS same s) * perScore s = Finset.univ.sup (score X K KS same) * (perLog2 : EReal) := by
    rw [← sup_mul_pos _ perLog2_pos, perScore, ← EReal.coe_mul, ← sup_mul_pos _ hp]
    congr 1
    funext j
    rw [EReal.coe_mul]
    exact products_mul X K KS same hs j
  rw [products_mul X K KS same hs, e]
  exact exp2_shift (Finset.le_sup (Finset.mem_univ j))

/-- The row the kernel computes is attention of the row. -/
theorem attend_of_products {s : ℝ} (hs : 0 < s) (V : Fin 32768 → EReal) (vs : EReal) :
    Ideal.div ((∑ j, bigWeight s (products X K KS same s) (products X K KS same s j) * V j) * vs) (∑ j, bigWeight s (products X K KS same s) (products X K KS same s j))
      = attend (score X K KS same) V vs := by
  unfold attend
  simp only [bigWeight_eq X K KS same hs, mul_assoc]
  rw [pos_mul_sum _ (by norm_num), pos_mul_sum _ (by norm_num), mul_assoc, div_mul_pos (by norm_num)]

end Cert.Proof.Row

end
-- ==== Proof.KerRead.lean ====
/- The kernel's values at an index, over the extended reals. -/
module

public import proofs.«01_k».proof.Proof.IdealRange
public import proofs.«01_k».proof.Proof.Softmax
public import Idealize.ShloMosaic.Lib.Pointwise

@[expose] public section

noncomputable section

namespace Cert.Proof.AttnIdeal

open Cert.AttnIdeal Cert.AttnIdeal.Gen
open Idealize.ShloMosaic Idealize.ShloMosaic.TcCoe

/-- Whether the key of word `k` lies in the document of bounds `v` and `w`, as the kernel asks it. -/
def inDoc (k v w : BitVec 32) : BitVec 1 := IntOp.andi (IntOp.cmpi .sge k v) (IntOp.cmpi .slt k w)

/-- The masked products of a chunk of keys, `n` the word of its first key. -/
def scr (v44 : FVec Ideal S256x128 .fp8e4m3) (v51 : IVec S1x512 32) (v55 v59 n : BitVec 32) (v132 : Vec Ideal S1x1x512x128 .fp8e4m3) (v136 : Vec Ideal S1x1x1x512 .f32) :
    FVec Ideal S256x512 .f32 :=
  select (broadcastTo S256x512 (shapeCast S1x512 (andi (cmpi .sge (addi (broadcast S1x512 n) v51) (broadcast S1x512 v55)) (cmpi .slt (addi (broadcast S1x512 n) v51) (broadcast S1x512 v59)))
      shapeCasts_S1x512_S1x512) broadcasts_S1x512_S256x512)
    (mulf (matmul dot_S256x128_S512x128_S256x512_1_1_0_0_n_n none v44 (shapeCast S512x128 v132 shapeCasts_S1x1x512x128_S512x128 : FVec Ideal S512x128 .fp8e4m3) (constant S256x512 .f32 0x00000000#32))
      (broadcastTo S256x512 (shapeCast S1x512 v136 shapeCasts_S1x1x1x512_S1x512 : FVec Ideal S1x512 .f32) broadcasts_S1x512_S256x512))
    (broadcast S256x512 (Scalar.ofBits .f32 0xFF800000#32))

theorem scr_apply (v44 : FVec Ideal S256x128 .fp8e4m3) (v51 : IVec S1x512 32) (v55 v59 n : BitVec 32) (v132 : Vec Ideal S1x1x512x128 .fp8e4m3) (v136 : Vec Ideal S1x1x1x512 .f32)
    (r : Fin 256) (x : Fin 512) :
    scr v44 v51 v55 v59 n v132 v136 (ix2 r x) = Scalar.select (inDoc (n + v51 (ix2 0 x)) v55 v59)
      ((∑ d : Fin 128, v44 (ix2 r d) * v132 (ix4 0 0 x d)) * v136 (ix4 0 0 0 x)) (⊥ : EReal) := by
  rw [← Row.bits_bot]
  unfold scr inDoc
  pointwise [dot_S256x128_S512x128_S256x512_1_1_0_0_n_n]
  rfl

variable (v44 : FVec Ideal S256x128 .fp8e4m3) (v46 : FVec Ideal S256x1 .f32) (v51 : IVec S1x512 32) (v55 v59 : BitVec 32)
  (v132 : Vec Ideal S1x1x512x128 .fp8e4m3) (v136 : Vec Ideal S1x1x1x512 .f32)

/-- The first word of the keys of trip `k`. -/
abbrev key0 (v : BitVec 32) (k : ℕ) : BitVec 32 := Scalar.muli (Scf.iv (fl v) 1#32 k) 512#32

/-- The greatest entries of the rows. -/
def rmax (a : FVec Ideal S256x512 .f32) : FVec Ideal S256x1 .f32 :=
  shapeCast S256x1 (multiReduction .maximumf [1] S256 a 0xFF800000#32 reduces_S256x512_S256 (.inl rfl) rfl) shapeCasts_S256_S256x1

theorem rmax_apply (a : FVec Ideal S256x512 .f32) (r : Fin 256) :
    rmax a (ix2 r 0) = Finset.univ.fold max (Ideal.ofBits .f32 0xFF800000#32) fun x : Fin 512 => a (ix2 r x) := by
  unfold rmax
  pointwise

theorem pay5_eq (k : Fin (k0_t2_loop v55 v59).trips) (m : FVec Ideal S256x1 .f32) :
    k0_pay5 (F := Ideal) v44 v51 v55 v59 k m v132 v136 = maximumf m (rmax (scr v44 v51 v55 v59 (key0 v55 k) v132 v136)) := rfl

theorem pay5_apply (k : Fin (k0_t2_loop v55 v59).trips) (m : FVec Ideal S256x1 .f32) (r : Fin 256) :
    k0_pay5 (F := Ideal) v44 v51 v55 v59 k m v132 v136 (ix2 r 0)
      = max (m (ix2 r 0)) (Finset.univ.sup fun x : Fin 512 => scr v44 v51 v55 v59 (key0 v55 k) v132 v136 (ix2 r x)) := by
  rw [pay5_eq]
  show max (m (ix2 r 0)) (rmax _ (ix2 r 0)) = _
  rw [rmax_apply, Row.bits_bot]
  rfl

/-- The weights of a chunk from its products. -/
def wts (a : FVec Ideal S256x512 .f32) (v46 m : FVec Ideal S256x1 .f32) : FVec Ideal S256x512 .f32 :=
  exp2 (subf (mulf a (broadcastTo S256x512 v46 broadcasts_S256x1_S256x512)) (broadcastTo S256x512 (k0_pay7 v46 m) broadcasts_S256x1_S256x512))

theorem wts_apply (a : FVec Ideal S256x512 .f32) (m : FVec Ideal S256x1 .f32) (r : Fin 256) (x : Fin 512) :
    wts a v46 m (ix2 r x) = Ideal.exp2 (a (ix2 r x) * v46 (ix2 r 0) - (m (ix2 r 0) * v46 (ix2 r 0) - ((8 : ℝ) : EReal))) := by
  rw [← Row.bits_8]
  unfold wts
  pointwise [k0_pay7]
  rfl

theorem pay10_eq (m : FVec Ideal S256x1 .f32) (k : Fin (k0_t4_loop v55 v59).trips) :
    k0_pay10 (F := Ideal) v44 v46 v51 v55 v59 m k v132 v136 = wts (scr v44 v51 v55 v59 (key0 v55 k) v132 v136) v46 m := rfl

theorem pay11_apply (m : FVec Ideal S256x1 .f32) (k : Fin (k0_t4_loop v55 v59).trips) (l : FVec Ideal S256x1 .f32) (r : Fin 256) :
    k0_pay11 (F := Ideal) v44 v46 v51 v55 v59 m k l v132 v136 (ix2 r 0)
      = l (ix2 r 0) + ∑ x : Fin 512, wts (scr v44 v51 v55 v59 (key0 v55 k) v132 v136) v46 m (ix2 r x) := by
  rw [← pay10_eq]
  pointwise [k0_pay11]

theorem pay12_apply (m : FVec Ideal S256x1 .f32) (k : Fin (k0_t4_loop v55 v59).trips) (o : FVec Ideal S256x128 .f32) (v163 : Vec Ideal S1x1x512x128 .fp8e4m3) (r : Fin 256) (d : Fin 128) :
    k0_pay12 (F := Ideal) v44 v46 v51 v55 v59 m k o v132 v136 v163 (ix2 r d)
      = o (ix2 r d) + ∑ x : Fin 512, wts (scr v44 v51 v55 v59 (key0 v55 k) v132 v136) v46 m (ix2 r x) * v163 (ix4 0 0 x d) := by
  rw [← pay10_eq]
  pointwise [k0_pay12, dot_S256x512_S512x128_S256x128_1_0_0_1_n_n]

theorem pay3_apply (arg2 : BitVec 32) (o : FVec Ideal S256x128 .f32) (l : FVec Ideal S256x1 .f32) (v109 : Vec Ideal S1x1x1x128 .f32) (Y : Vec Ideal S1x256x128 .bf16) (r : Fin 256) (d : Fin 128) :
    k0_pay3 (F := Ideal) arg2 v55 v59 o l v109 Y (ix3 0 r d)
      = Scalar.select (inDoc (arg2 * 256#32 + BitVec.ofNat 32 r) v55 v59) (Ideal.div (o (ix2 r d) * v109 (ix4 0 0 0 d)) (l (ix2 r 0))) (Y (ix3 0 r d)) := by
  unfold inDoc
  pointwise [k0_pay3]
  rfl

theorem pay2_apply (v32 : FVec Ideal S256x1 .f32) (r : Fin 256) :
    k0_pay2 (F := Ideal) v32 (ix2 r 0) = v32 (ix2 r 0) * (((Real.sqrt 128)⁻¹ * (Real.log 2)⁻¹ : ℝ) : EReal) := by
  have hk : (Named.named κ "cq" 0x3E0293EE#32 : Ideal .f32) = (((Real.sqrt 128)⁻¹ * (Real.log 2)⁻¹ : ℝ) : EReal) :=
    IdealRules.named_const.ideal_named_scalar _ _ _ _ rfl
  rw [← hk]
  pointwise [k0_pay2]

theorem pay1_apply (v39 : FVec Ideal S256x128 .f32) (r : Fin 256) (d : Fin 128) :
    k0_pay1 (F := Ideal) v39 (ix2 r d) = min ((448 : ℝ) : EReal) (max ((-448 : ℝ) : EReal) (v39 (ix2 r d))) := by
  rw [← Row.bits_448, ← Row.bits_neg448]
  pointwise [k0_pay1]

theorem pay4_apply (r : Fin 256) : k0_pay4 (F := Ideal) (ix2 r 0) = (⊥ : EReal) := by
  rw [← Row.bits_bot]
  pointwise [k0_pay4]

theorem pay8_apply (r : Fin 256) (d : Fin 128) : k0_pay8 (F := Ideal) (ix2 r d) = (0 : EReal) := by
  pointwise [k0_pay8]

theorem pay9_apply (r : Fin 256) : k0_pay9 (F := Ideal) (ix2 r 0) = (0 : EReal) := by
  pointwise [k0_pay9]

theorem iota_apply_col (x : Fin 512) : (iota .tc S1x512 32 [1] iota_S1x512_d1_w32) (ix2 0 x) = BitVec.ofNat 32 x := by
  pointwise

end Cert.Proof.AttnIdeal

end
-- ==== Proof.Scale.lean ====
/- The kernel's scale of a row: a power of two, from a count of the powers of two at most `amax / 448`. -/
module

public import proofs.«01_k».proof.Proof.KerRead
public import Idealize.ShloMosaic.Lib.IndicatorCount

@[expose] public section

noncomputable section

namespace Cert.Proof.AttnIdeal

open Cert.AttnIdeal Cert.AttnIdeal.Gen
open Idealize.ShloMosaic Idealize.ShloMosaic.TcCoe

/-- The word whose float is a power of two of field `x`. -/
theorem shl_bits : ∀ x : Fin 256, (IntOp.shli .vector (BitVec.ofNat 32 x) 23#32).extractLsb' 31 1 = 0#1
    ∧ ((IntOp.shli .vector (BitVec.ofNat 32 x) 23#32).extractLsb' 23 8).toNat = x ∧ ((IntOp.shli .vector (BitVec.ofNat 32 x) 23#32).extractLsb' 0 23).toNat = 0 := by
  decide +kernel

theorem word_pow (w : BitVec 32) {x : ℕ} (h1 : 1 ≤ x) (h2 : x ≤ 254) (a : w.extractLsb' (8 + 23) 1 = 0#1) (b : (w.extractLsb' 23 8).toNat = x)
    (c : (w.extractLsb' 0 23).toNat = 0) : Ideal.ofBits .f32 w = (((2 : ℝ) ^ ((x : ℤ) - 127) : ℝ) : EReal) := by
  have e : Ideal.ofBits .f32 w = Ideal.ieee 8 23 w := rfl
  have z : ((x : ℤ) - 127 : ℤ) = ((x : ℤ) - (2 ^ (8 - 1) - 1) - (23 : ℕ)) + 23 := by norm_num
  have k : (2 : ℝ) ^ ((x : ℤ) - 127) = 1 * ((2 ^ 23 + 0 : ℕ) : ℝ) * (2 : ℝ) ^ ((x : ℤ) - (2 ^ (8 - 1) - 1) - (23 : ℕ)) := by
    rw [z, zpow_add₀ (by norm_num : (2 : ℝ) ≠ 0), mul_comm]
    norm_num
  rw [e, k]
  unfold Ideal.ieee
  dsimp only
  rw [a, b, c, if_neg (by omega), if_neg (by omega), if_neg (by decide)]

theorem pow2_bits {x : ℕ} (h1 : 1 ≤ x) (h2 : x ≤ 254) :
    Ideal.ofBits .f32 (IntOp.shli .vector (BitVec.ofNat 32 x) 23#32) = (((2 : ℝ) ^ ((x : ℤ) - 127) : ℝ) : EReal) := by
  obtain ⟨a, b, c⟩ := shl_bits ⟨x, by omega⟩
  exact word_pow _ h1 h2 a b c

theorem word_top (w : BitVec 32) (a : w.extractLsb' (8 + 23) 1 = 0#1) (b : (w.extractLsb' 23 8).toNat = 255)
    (c : (w.extractLsb' 0 23).toNat = 0) : Ideal.ofBits .f32 w = ⊤ := by
  have e : Ideal.ofBits .f32 w = Ideal.ieee 8 23 w := rfl
  rw [e]
  unfold Ideal.ieee
  dsimp only
  rw [a, b, c, if_pos (by norm_num), if_pos rfl, if_neg (by decide)]

theorem top_bits : Ideal.ofBits .f32 (IntOp.shli .vector (BitVec.ofNat 32 255) 23#32) = ⊤ := by
  obtain ⟨a, b, c⟩ := shl_bits ⟨255, by omega⟩
  exact word_top _ a b c

/-- The fields of the powers of two at most `y`. -/
def fields (y : ℝ) : Finset (Fin 256) :=
  Finset.univ.filter fun x => 0 < (x : ℕ) ∧ Ideal.ofBits .f32 (IntOp.shli .vector (BitVec.ofNat 32 x) 23#32) ≤ (y : EReal)

theorem mem_fields {y : ℝ} {x : Fin 256} : x ∈ fields y ↔ 1 ≤ (x : ℕ) ∧ (x : ℕ) ≤ 254 ∧ (2 : ℝ) ^ (((x : ℕ) : ℤ) - 127) ≤ y := by
  unfold fields
  rw [Finset.mem_filter]
  constructor
  · rintro ⟨-, h1, h2⟩
    by_cases hx : (x : ℕ) ≤ 254
    · rw [pow2_bits h1 hx] at h2
      exact ⟨h1, hx, by exact_mod_cast h2⟩
    · have : (x : ℕ) = 255 := by omega
      rw [this, top_bits] at h2
      exact absurd (top_le_iff.1 h2) (EReal.coe_ne_top y)
  · rintro ⟨h1, h2, h3⟩
    refine ⟨Finset.mem_univ _, h1, ?_⟩
    rw [pow2_bits h1 h2]
    exact_mod_cast h3

/-- The count of the fields gives a power of two above `y`. -/
theorem lt_pow {y : ℝ} (hy : y < (2 : ℝ) ^ (120 : ℤ)) : (fields y).card ≤ 246 ∧ y < (2 : ℝ) ^ (((fields y).card : ℤ) - 126) := by
  have mono : ∀ {a b : ℤ}, a ≤ b → (2 : ℝ) ^ a ≤ (2 : ℝ) ^ b := fun h => zpow_le_zpow_right₀ (by norm_num) h
  have hsub : ∀ x ∈ fields y, 1 ≤ (x : ℕ) ∧ (x : ℕ) ≤ 246 := by
    intro x hx
    obtain ⟨h1, h2, h3⟩ := mem_fields.1 hx
    refine ⟨h1, ?_⟩
    by_contra hc
    have := mono (show (120 : ℤ) ≤ ((x : ℕ) : ℤ) - 127 by omega)
    linarith
  have hcard : (fields y).card ≤ 246 := by
    have : (fields y).card ≤ (Finset.Icc 1 246).card := by
      refine Finset.card_le_card_of_injOn (fun x : Fin 256 => (x : ℕ)) (fun x hx => ?_) (fun a _ b _ h => Fin.ext h)
      have := hsub x hx
      simp only [Finset.coe_Icc, Set.mem_Icc]
      exact this
    simpa using this
  refine ⟨hcard, ?_⟩
  by_contra hc
  have hc := not_lt.1 hc
  have hall : Finset.Icc 1 ((fields y).card + 1) ⊆ (fields y).image (fun x : Fin 256 => (x : ℕ)) := by
    intro n hn
    obtain ⟨n1, n2⟩ := Finset.mem_Icc.1 hn
    refine Finset.mem_image.2 ⟨⟨n, by omega⟩, mem_fields.2 ⟨n1, by show n ≤ 254; omega, ?_⟩, rfl⟩
    refine (mono ?_).trans hc
    show (n : ℤ) - 127 ≤ _
    omega
  have := (Finset.card_le_card hall).trans Finset.card_image_le
  simp at this

/-! ## The kernel's payloads -/

/-- The rows' greatest magnitudes over 448. -/
def yv (v0 : Vec Ideal S1x256x128 .bf16) : FVec Ideal S256x1 .f32 :=
  mulf (shapeCast S256x1 (multiReduction .maximumf [1] S256 (absf (k0_pay16 v0)) 0xFF800000#32 reduces_S256x128_S256 (.inl rfl) rfl) shapeCasts_S256_S256x1)
    (broadcast S256x1 (Scalar.ofBits .f32 0x3B124925#32))

theorem pay16_apply (v0 : Vec Ideal S1x256x128 .bf16) (r : Fin 256) (d : Fin 128) : k0_pay16 (F := Ideal) v0 (ix2 r d) = v0 (ix3 0 r d) := by
  pointwise [k0_pay16]

theorem yv_apply (v0 : Vec Ideal S1x256x128 .bf16) (r : Fin 256) :
    yv v0 (ix2 r 0) = (Finset.univ.fold max (⊥ : EReal) fun d : Fin 128 => FloatOps.absf (F := Ideal) (φ := .f32) (v0 (ix3 0 r d))) * (Row.k448 : EReal) := by
  rw [← Row.bits_bot, ← Row.bits_inv]
  unfold yv
  pointwise [k0_pay16]

/-- The counts of the fields of the powers of two at most the rows' entries of `y`. -/
def nv (y : FVec Ideal S256x1 .f32) : IVec S256x1 32 :=
  shapeCast S256x1 (multiReductionI .add [1] S256 (select (andi (cmpi .sgt (iota .tc S256x256 32 [1] iota_S256x256_d1_w32) (broadcast S256x256 0#32))
      (cmpf .oge (broadcastTo S256x256 y broadcasts_S256x1_S256x256) (bitcastToFloat .f32 (shli (iota .tc S256x256 32 [1] iota_S256x256_d1_w32) (broadcast S256x256 23#32)))))
    (broadcast S256x256 1#32) (broadcast S256x256 0#32)) 0#32 reduces_S256x256_S256 rfl) shapeCasts_S256_S256x1

theorem select_width : ∀ c : BitVec 1, Scalar.select c 1#32 0#32 = c.setWidth 32 := by decide

theorem andi_one : ∀ a b : BitVec 1, IntOp.andi a b = 1#1 ↔ a = 1#1 ∧ b = 1#1 := by decide

theorem ofBool_one : ∀ b : Bool, BitVec.ofBool b = 1#1 ↔ b = true := by decide

theorem sgt_zero : ∀ x : Fin 256, IntOp.cmpi .sgt (BitVec.ofNat 32 x) 0#32 = 1#1 ↔ 0 < (x : ℕ) := by decide +kernel

theorem nv_apply (y : FVec Ideal S256x1 .f32) (r : Fin 256) {z : ℝ} (hz : y (ix2 r 0) = (z : EReal)) :
    nv y (ix2 r 0) = BitVec.ofNat 32 (fields z).card := by
  unfold nv
  pointwise
  simp only [select_width]
  rw [IndicatorCount.fold_addi_setWidth_eq_card]
  congr 2
  ext x
  unfold fields
  simp only [Finset.mem_filter, Finset.mem_univ, true_and, andi_one, ofBool_one, sgt_zero, decide_eq_true_eq, hz]

theorem pay17_eq (v0 : Vec Ideal S1x256x128 .bf16) :
    k0_pay17 (F := Ideal) v0 = select (cmpi .eq (nv (yv v0)) (broadcast S256x1 0#32)) (broadcast S256x1 0#32) (subi (nv (yv v0)) (broadcast S256x1 126#32)) := rfl

theorem pay18_apply (v0 : Vec Ideal S1x256x128 .bf16) (r : Fin 256) :
    k0_pay18 (F := Ideal) v0 (ix2 r 0) = Ideal.ofBits .f32 (IntOp.shli .vector (k0_pay17 (F := Ideal) v0 (ix2 r 0) + 127#32) 23#32) := by
  pointwise [k0_pay18]
  rfl

theorem pay19_apply (v0 : Vec Ideal S1x256x128 .bf16) (r : Fin 256) (d : Fin 128) :
    k0_pay19 (F := Ideal) v0 (ix2 r d) = v0 (ix3 0 r d) * Ideal.ofBits .f32 (IntOp.shli .vector (127#32 - k0_pay17 (F := Ideal) v0 (ix2 r 0)) 23#32) := by
  pointwise [k0_pay19, k0_pay16]
  rfl

theorem bump : ∀ n : Fin 256, 0 < (n : ℕ) → (BitVec.ofNat 32 n = 0#32 → False) ∧ BitVec.ofNat 32 n - 126#32 + 127#32 = BitVec.ofNat 32 (n + 1) ∧
    127#32 - (BitVec.ofNat 32 n - 126#32) = BitVec.ofNat 32 (253 - n) + (if (n : ℕ) ≤ 253 then 0#32 else BitVec.ofNat 32 (2 ^ 32 - (n - 253))) := by decide +kernel

/-- The kernel's scale of a row, and the row over it. -/
theorem scale_spec (v0 : Vec Ideal S1x256x128 .bf16) (r : Fin 256) (x : Fin 128 → ℝ) (hx : ∀ d, v0 (ix3 0 r d) = (x d : EReal))
    (hb : ∀ d, |x d| ≤ 3.4e38) :
    ∃ (s : ℝ), 0 < s ∧ k0_pay18 (F := Ideal) v0 (ix2 r 0) = (s : EReal) ∧
      ∀ d, k0_pay1 (k0_pay19 (F := Ideal) v0) (ix2 r d) = ((s⁻¹ : ℝ) : EReal) * (x d : EReal) := by
  obtain ⟨a, ha, h0, hle⟩ := Row.amax_real x
  have hA : a ≤ 3.4e38 := by
    have : (a : EReal) ≤ ((3.4e38 : ℝ) : EReal) := by
      rw [← ha]
      show (Finset.univ.sup fun d => FloatOps.absf (F := Ideal) (φ := .f32) (x d : EReal)) ≤ _
      refine Finset.sup_le fun d _ => ?_
      rw [Row.absf_coe]
      exact_mod_cast hb d
    exact_mod_cast this
  have hy : yv v0 (ix2 r 0) = ((a * Row.k448 : ℝ) : EReal) := by
    rw [yv_apply, EReal.coe_mul, ← ha]
    simp only [hx]
  have hlt : a * Row.k448 < (2 : ℝ) ^ (120 : ℤ) := by
    have : (3.4e38 : ℝ) * Row.k448 < (2 : ℝ) ^ (120 : ℤ) := by norm_num
    refine lt_of_le_of_lt (mul_le_mul_of_nonneg_right hA (by norm_num)) this
  obtain ⟨hc, hp⟩ := lt_pow hlt
  have hn := nv_apply (yv v0) r hy
  set c := (fields (a * Row.k448)).card with hcd
  have key : ∃ s : ℝ, 0 < s ∧ a * Row.k448 ≤ s ∧ k0_pay18 (F := Ideal) v0 (ix2 r 0) = (s : EReal)
      ∧ ∀ d, k0_pay19 (F := Ideal) v0 (ix2 r d) = (x d : EReal) * ((s⁻¹ : ℝ) : EReal) := by
    have hpay : k0_pay17 (F := Ideal) v0 (ix2 r 0) = Scalar.select (IntOp.cmpi .eq (BitVec.ofNat 32 c) 0#32) 0#32 (BitVec.ofNat 32 c - 126#32) := by
      rw [pay17_eq, ← hn]; rfl
    by_cases hz : c = 0
    · have e : k0_pay17 (F := Ideal) v0 (ix2 r 0) = 0#32 := by rw [hpay, hz]; decide
      refine ⟨1, one_pos, ?_, ?_, fun d => ?_⟩
      · rw [hz] at hp
        refine hp.le.trans ?_
        norm_num
      · rw [pay18_apply, e, show (0#32 + 127#32 : BitVec 32) = BitVec.ofNat 32 127 by decide, pow2_bits (by norm_num) (by norm_num)]
        norm_num
      · rw [pay19_apply, e, hx, show (127#32 - 0#32 : BitVec 32) = BitVec.ofNat 32 127 by decide, pow2_bits (by norm_num) (by norm_num)]
        norm_num
    · obtain ⟨b1, b2, b3⟩ := bump ⟨c, by omega⟩ (Nat.pos_of_ne_zero hz)
      simp only at b1 b2 b3
      have e : k0_pay17 (F := Ideal) v0 (ix2 r 0) = BitVec.ofNat 32 c - 126#32 := by
        rw [hpay]
        have : IntOp.cmpi .eq (BitVec.ofNat 32 c) 0#32 = 0#1 := by
          show BitVec.ofBool (BitVec.ofNat 32 c == 0#32) = 0#1
          rw [beq_eq_false_iff_ne.2 b1]; rfl
        rw [this]; rfl
      refine ⟨(2 : ℝ) ^ ((c : ℤ) - 126), by positivity, hp.le, ?_, fun d => ?_⟩
      · rw [pay18_apply, e, b2, pow2_bits (by omega) (by omega), show ((c + 1 : ℕ) : ℤ) - 127 = (c : ℤ) - 126 by push_cast; ring]
      · rw [pay19_apply, e, b3, if_pos (by omega), BitVec.add_zero, pow2_bits (by omega) (by omega), hx, ← zpow_neg,
          show ((253 - c : ℕ) : ℤ) - 127 = -((c : ℤ) - 126) by push_cast [Nat.cast_sub (show c ≤ 253 by omega)]; ring]
  obtain ⟨s, hs, hle', e18, e19⟩ := key
  refine ⟨s, hs, e18, fun d => ?_⟩
  rw [pay1_apply, e19, Row.code_eq hs hle' (hle d), mul_comm]

end Cert.Proof.AttnIdeal

end
-- ==== Proof.KerRow.lean ====
/- One document of the kernel: its two passes over the chunks of keys, at a row. -/
module

public import proofs.«01_k».proof.Proof.Chunks
public import proofs.«01_k».proof.Proof.Scale
public import Idealize.ShloMosaic.Lib.Pipeline.ValueKit.Tiles

@[expose] public section

noncomputable section

namespace Cert.Proof.AttnIdeal

open Cert.AttnIdeal Cert.AttnIdeal.Gen
open Idealize.ShloMosaic Idealize.ShloMosaic.TcCoe

theorem toInt_of_le {v : BitVec 32} (h : v.toNat ≤ 40000) : v.toInt = v.toNat := by
  rw [BitVec.toInt_eq_toNat_cond, if_pos (by omega)]

theorem inDoc_iff {n : ℕ} (hn : n ≤ 40000) {v w : BitVec 32} (hv : v.toNat ≤ 32768) (hw : w.toNat ≤ 32768) :
    inDoc (BitVec.ofNat 32 n) v w = 1#1 ↔ v.toNat ≤ n ∧ n < w.toNat := by
  unfold inDoc
  rw [andi_one]
  show BitVec.ofBool (v.sle (BitVec.ofNat 32 n)) = 1#1 ∧ BitVec.ofBool ((BitVec.ofNat 32 n).slt w) = 1#1 ↔ _
  rw [ofBool_one, ofBool_one, BitVec.sle_iff_toInt_le, BitVec.slt_iff_toInt_lt, toInt_small hn, toInt_of_le (by omega), toInt_of_le (by omega)]
  omega

theorem select_inDoc {n : ℕ} (hn : n ≤ 40000) {v w : BitVec 32} (hv : v.toNat ≤ 32768) (hw : w.toNat ≤ 32768) {α : Type} (a b : α) :
    Scalar.select (inDoc (BitVec.ofNat 32 n) v w) a b = if v.toNat ≤ n ∧ n < w.toNat then a else b := by
  show (if inDoc (BitVec.ofNat 32 n) v w = 1#1 then a else b) = _
  simp only [inDoc_iff hn hv hw]

variable (v44 : FVec Ideal S256x128 .fp8e4m3) (K : Vec Ideal S1x1x32768x128 .fp8e4m3) (KS : Vec Ideal S1x1x1x32768 .f32) (V : Vec Ideal S1x1x32768x128 .fp8e4m3)

/-- The masked product of row `r` and key `j` of a document from `L` to `H`. -/
def prod (L H : ℕ) (r : Fin 256) (j : ℕ) : EReal :=
  if h : j < 32768 then if L ≤ j ∧ j < H then (∑ d : Fin 128, v44 (ix2 r d) * K (ix4 0 0 ⟨j, h⟩ d)) * KS (ix4 0 0 0 ⟨j, h⟩) else ⊥ else ⊥

abbrev cols : IVec S1x512 32 := iota .tc S1x512 32 [1] iota_S1x512_d1_w32

theorem cols_apply (x : Fin 512) : cols (ix2 0 x) = BitVec.ofNat 32 x := iota_apply_col x

section Trip

variable (i : grid0.Coords) {v w : BitVec 32} (hv : v.toNat ≤ 32768) (hw : w.toNat ≤ 32768) (hc : k0_chk1 i v w) (h1 : k0_cond1 i v w = 1#1)

include hv hw

theorem ldK_apply (k : Fin (k0_t2_loop v w).trips) (x : Fin 512) (d : Fin 128) (hj : v.toNat / 512 * 512 + (k : ℕ) * 512 + x < 32768) :
    View.ld K (rK2 (F := Ideal) i v w hc h1 k) (ix4 0 0 x d) = K (ix4 0 0 ⟨v.toNat / 512 * 512 + (k : ℕ) * 512 + x, hj⟩ d) := by
  refine View.ld_unit_apply_of K _ _ _ _ _ fun a => ?_
  have e := iv_toNat hv hw k.isLt
  fin_cases a
  · rfl
  · rfl
  · show v.toNat / 512 * 512 + (k : ℕ) * 512 + x = (Scalar.muli (Scf.iv (fl v) 1#32 k) 512#32).toNat + x
    rw [e]; ring
  · show (d : ℕ) = 0 + d
    omega

theorem ldS_apply (k : Fin (k0_t2_loop v w).trips) (x : Fin 512) (hj : v.toNat / 512 * 512 + (k : ℕ) * 512 + x < 32768) :
    View.ld KS (rS2 (F := Ideal) i v w hc h1 k) (ix4 0 0 0 x) = KS (ix4 0 0 0 ⟨v.toNat / 512 * 512 + (k : ℕ) * 512 + x, hj⟩) := by
  refine View.ld_unit_apply_of KS _ _ _ _ _ fun a => ?_
  have e := iv_toNat hv hw k.isLt
  fin_cases a
  · rfl
  · rfl
  · rfl
  · show v.toNat / 512 * 512 + (k : ℕ) * 512 + x = (Scalar.muli (Scf.iv (fl v) 1#32 k) 512#32).toNat + x
    rw [e]; ring

theorem scr_trip (k : Fin (k0_t2_loop v w).trips) (r : Fin 256) (x : Fin 512) :
    scr v44 cols v w (key0 v k) (View.ld K (rK2 (F := Ideal) i v w hc h1 k)) (View.ld KS (rS2 (F := Ideal) i v w hc h1 k)) (ix2 r x)
      = prod v44 K KS v.toNat w.toNat r (v.toNat / 512 * 512 + (k : ℕ) * 512 + x) := by
  have hk := key_lt hv hw k.isLt
  have hj : v.toNat / 512 * 512 + (k : ℕ) * 512 + x < 32768 := by omega
  have en : key0 v k + cols (ix2 0 x) = BitVec.ofNat 32 (v.toNat / 512 * 512 + (k : ℕ) * 512 + x) := by
    rw [cols_apply, key0, iv_eq hv, ← BitVec.ofNat_add, Nat.add_mul]
  rw [scr_apply, en, select_inDoc (by omega) hv hw, ldS_apply KS i hv hw hc h1 k x hj]
  simp only [ldK_apply K i hv hw hc h1 k x _ hj]
  unfold prod
  rw [dif_pos hj]

theorem mx_apply (r : Fin 256) (n : ℕ) (hn : n ≤ (k0_t2_loop v w).trips) :
    mx i v44 cols v w hc h1 K KS n (ix2 r 0) = (Finset.range (n * 512)).sup fun a => prod v44 K KS v.toNat w.toNat r (v.toNat / 512 * 512 + a) := by
  induction n with
  | zero => rw [mx, pay4_apply]; rfl
  | succ n ih =>
    rw [mx, dif_pos (by omega), pay5_apply, ih (by omega), Row.sup_step]
    simp only [scr_trip v44 K KS i hv hw hc h1 ⟨n, by omega⟩]

/-- The weight the kernel gives a product. -/
def wt (v46 m : FVec Ideal S256x1 .f32) (r : Fin 256) (u : EReal) : EReal := Ideal.exp2 (u * v46 (ix2 r 0) - (m (ix2 r 0) * v46 (ix2 r 0) - ((8 : ℝ) : EReal)))

theorem ol_apply (v46 m : FVec Ideal S256x1 .f32) (r : Fin 256) (n : ℕ) (hn : n ≤ (k0_t4_loop v w).trips) :
    (ol i v44 v46 cols v w hc h1 K KS V m n).2 (ix2 r 0)
        = ∑ a ∈ Finset.range (n * 512), wt v46 m r (prod v44 K KS v.toNat w.toNat r (v.toNat / 512 * 512 + a))
      ∧ ∀ d : Fin 128, (ol i v44 v46 cols v w hc h1 K KS V m n).1 (ix2 r d)
        = ∑ a ∈ Finset.range (n * 512), wt v46 m r (prod v44 K KS v.toNat w.toNat r (v.toNat / 512 * 512 + a))
            * (if h : v.toNat / 512 * 512 + a < 32768 then V (ix4 0 0 ⟨v.toNat / 512 * 512 + a, h⟩ d) else 0) := by
  induction n with
  | zero => exact ⟨(pay9_apply r).trans rfl, fun d => (pay8_apply r d).trans rfl⟩
  | succ n ih =>
    obtain ⟨i1, i2⟩ := ih (by omega)
    have hk := key_lt hv hw (show n < (k0_t2_loop v w).trips from hn)
    rw [ol, dif_pos (by omega)]
    constructor
    · show k0_pay11 (F := Ideal) _ _ _ _ _ _ _ _ _ _ (ix2 r 0) = _
      rw [pay11_apply, i1, Row.sum_step (fun j => wt v46 m r (prod v44 K KS v.toNat w.toNat r j))]
      congr 1
      refine Finset.sum_congr rfl fun x _ => ?_
      rw [wts_apply]
      exact congrArg (wt v46 m r) (scr_trip v44 K KS i hv hw hc h1 ⟨n, hn⟩ r x)
    · intro d
      show k0_pay12 (F := Ideal) _ _ _ _ _ _ _ _ _ _ _ (ix2 r d) = _
      rw [pay12_apply, i2, Row.sum_step (fun j => wt v46 m r (prod v44 K KS v.toNat w.toNat r j) * (if h : j < 32768 then V (ix4 0 0 ⟨j, h⟩ d) else 0))]
      congr 1
      refine Finset.sum_congr rfl fun x _ => ?_
      have hj : v.toNat / 512 * 512 + n * 512 + x < 32768 := by omega
      rw [wts_apply, dif_pos hj]
      exact congrArg₂ (· * ·) (congrArg (wt v46 m r) (scr_trip v44 K KS i hv hw hc h1 ⟨n, hn⟩ r x)) (ldK_apply V i hv hw hc h1 ⟨n, hn⟩ x d hj)

end Trip

section Doc

variable (i : grid0.Coords) {v w : BitVec 32} (hv : v.toNat ≤ 32768) (hw : w.toNat ≤ 32768)
  (v46 : FVec Ideal S256x1 .f32) (VS : Vec Ideal S1x1x1x128 .f32) (Y : Vec Ideal S1x256x128 .bf16) (r : Fin 256) (d : Fin 128)

/-- The place of a row of a block in the sequence. -/
abbrev place (i : grid0.Coords) (r : Fin 256) : ℕ := (i 2).val * 256 + r

theorem place_le (i : grid0.Coords) (r : Fin 256) : place i r < 32768 := by
  have h : (i 2).val < 128 := (i 2).isLt
  show (i 2).val * 256 + (r : ℕ) < 32768
  omega

theorem place_word (i : grid0.Coords) (r : Fin 256) : BitVec.ofNat 32 (i 2).val * 256#32 + BitVec.ofNat 32 r = BitVec.ofNat 32 (place i r) := by
  rw [BitVec.ofNat_add, BitVec.ofNat_mul]

include hv hw

/-- A document leaves the rows outside it. -/
theorem docStep_out (hq : ¬ (v.toNat ≤ place i r ∧ place i r < w.toNat)) :
    docStep (F := Ideal) i v44 v46 cols v w K KS V (BitVec.ofNat 32 (i 2).val) VS Y (ix3 0 r d) = Y (ix3 0 r d) := by
  unfold docStep
  split
  · have hp := place_le i r
    rw [pay3_apply, place_word, select_inDoc (by omega) hv hw, if_neg hq]
  · rfl

/-- A document that holds a row of the block is taken. -/
theorem cond_of_mem (hq : v.toNat ≤ place i r ∧ place i r < w.toNat) : k0_cond1 i v w = 1#1 := by
  have hi : (i 2).val < 128 := (i 2).isLt
  have hq' : v.toNat ≤ (i 2).val * 256 + r ∧ (i 2).val * 256 + r < w.toNat := hq
  have a1 : Scalar.cmpi .slt v (Scalar.muli (Scalar.addi (BitVec.ofNat 32 (i 2).val) 1#32) 256#32) = 1#1 := by
    have e : Scalar.muli (Scalar.addi (BitVec.ofNat 32 (i 2).val) 1#32) 256#32 = BitVec.ofNat 32 (((i 2).val + 1) * 256) := by
      rw [BitVec.ofNat_mul, BitVec.ofNat_add]; rfl
    rw [e]
    show BitVec.ofBool (v.slt _) = 1#1
    rw [ofBool_one, BitVec.slt_iff_toInt_lt, toInt_small (by omega), toInt_of_le (by omega)]
    omega
  have a2 : Scalar.cmpi .sgt w (Scalar.muli (BitVec.ofNat 32 (i 2).val) 256#32) = 1#1 := by
    have e : Scalar.muli (BitVec.ofNat 32 (i 2).val) 256#32 = BitVec.ofNat 32 ((i 2).val * 256) := by
      rw [BitVec.ofNat_mul]; rfl
    rw [e]
    show BitVec.ofBool (BitVec.slt _ w) = 1#1
    rw [ofBool_one, BitVec.slt_iff_toInt_lt, toInt_small (by omega), toInt_of_le (by omega)]
    omega
  have a3 : Scalar.cmpi .sgt w v = 1#1 := by
    show BitVec.ofBool (BitVec.slt v w) = 1#1
    rw [ofBool_one, BitVec.slt_iff_toInt_lt, toInt_of_le (by omega), toInt_of_le (by omega)]
    omega
  unfold k0_cond1
  dsimp only
  rw [a1, a2, a3]
  decide

theorem prod_bot {j : ℕ} (hj : ¬ (v.toNat ≤ j ∧ j < w.toNat)) : prod v44 K KS v.toNat w.toNat r j = ⊥ := by
  unfold prod
  by_cases h : j < 32768
  · rw [dif_pos h, if_neg hj]
  · rw [dif_neg h]

/-- The row maximum of a document. -/
theorem mxAll_apply (hc : k0_chk1 i v w) (h1 : k0_cond1 i v w = 1#1) (hlt : v.toNat < w.toNat) :
    mx i v44 cols v w hc h1 K KS (k0_t2_loop v w).trips (ix2 r 0) = Finset.univ.sup fun j : Fin 32768 => prod v44 K KS v.toNat w.toNat r j := by
  have ht := trips_eq hv hw
  rw [mx_apply _ K KS i hv hw hc h1 r _ le_rfl]
  exact Row.sup_whole (fun j hj => prod_bot v44 K KS hv hw r hj) (by omega) (by rw [ht]; omega) (by rw [ht]; omega)

/-- The sums of a document. -/
theorem olAll_apply (hc : k0_chk1 i v w) (h1 : k0_cond1 i v w = 1#1) (hlt : v.toNat < w.toNat) (m : FVec Ideal S256x1 .f32) (hz : wt v46 m r ⊥ = 0) :
    (ol i v44 v46 cols v w hc h1 K KS V m (k0_t4_loop v w).trips).2 (ix2 r 0) = ∑ j : Fin 32768, wt v46 m r (prod v44 K KS v.toNat w.toNat r j)
      ∧ (ol i v44 v46 cols v w hc h1 K KS V m (k0_t4_loop v w).trips).1 (ix2 r d)
        = ∑ j : Fin 32768, wt v46 m r (prod v44 K KS v.toNat w.toNat r j) * V (ix4 0 0 j d) := by
  have ht : (k0_t4_loop v w).trips = (w.toNat + 511) / 512 - v.toNat / 512 := trips_eq hv hw
  obtain ⟨o2, o1⟩ := ol_apply v44 K KS V i hv hw hc h1 v46 m r (k0_t4_loop v w).trips le_rfl
  have hcov : w.toNat ≤ v.toNat / 512 * 512 + (k0_t4_loop v w).trips * 512 := by rw [ht]; omega
  have hend : v.toNat / 512 * 512 + (k0_t4_loop v w).trips * 512 ≤ 32768 := by rw [ht]; omega
  have hbeg : v.toNat / 512 * 512 ≤ v.toNat := by omega
  have hzj : ∀ j, ¬ (v.toNat ≤ j ∧ j < w.toNat) → wt v46 m r (prod v44 K KS v.toNat w.toNat r j) = 0 := fun j hj => by
    rw [prod_bot v44 K KS hv hw r hj, hz]
  constructor
  · rw [o2]
    exact Row.sum_whole (f := fun j => wt v46 m r (prod v44 K KS v.toNat w.toNat r j)) hzj hbeg hcov hend
  · rw [o1]
    refine (Row.sum_whole (f := fun j => wt v46 m r (prod v44 K KS v.toNat w.toNat r j) * (if h : j < 32768 then V (ix4 0 0 ⟨j, h⟩ d) else 0)) (fun j hj => ?_)
      hbeg hcov hend).trans ?_
    · rw [hzj j hj, zero_mul]
    · refine Finset.sum_congr rfl fun j _ => ?_
      rw [dif_pos j.isLt]

omit hv hw in
theorem prod_eq (s : ℝ) (x : Fin 128 → EReal) (he : ∀ d, v44 (ix2 r d) = ((s⁻¹ : ℝ) : EReal) * x d) (j : Fin 32768) :
    prod v44 K KS v.toNat w.toNat r j = Row.products x (fun j d => K (ix4 0 0 j d)) (fun j => KS (ix4 0 0 0 j))
      (fun j => v.toNat ≤ (j : ℕ) ∧ (j : ℕ) < w.toNat) s j := by
  unfold prod Row.products
  rw [dif_pos j.isLt]
  simp only [he]

theorem row_eq (hc : k0_chk1 i v w) (h1 : k0_cond1 i v w = 1#1) (hlt : v.toNat < w.toNat) {s : ℝ} (hs : 0 < s) (x : Fin 128 → EReal)
    (he : ∀ d, v44 (ix2 r d) = ((s⁻¹ : ℝ) : EReal) * x d) (h46 : v46 (ix2 r 0) = Row.perScore s) (m : FVec Ideal S256x1 .f32)
    (hm : m = mx i v44 cols v w hc h1 K KS (k0_t2_loop v w).trips) (vs : EReal) :
    Ideal.div ((ol i v44 v46 cols v w hc h1 K KS V m (k0_t4_loop v w).trips).1 (ix2 r d) * vs) ((ol i v44 v46 cols v w hc h1 K KS V m (k0_t4_loop v w).trips).2 (ix2 r 0))
      = Row.attend (Row.score x (fun j d => K (ix4 0 0 j d)) (fun j => KS (ix4 0 0 0 j)) (fun j => v.toNat ≤ (j : ℕ) ∧ (j : ℕ) < w.toNat))
          (fun j => V (ix4 0 0 j d)) vs := by
  have e : (fun j : Fin 32768 => prod v44 K KS v.toNat w.toNat r j) = Row.products x (fun j d => K (ix4 0 0 j d)) (fun j => KS (ix4 0 0 0 j))
      (fun j => v.toNat ≤ (j : ℕ) ∧ (j : ℕ) < w.toNat) s := funext fun j => prod_eq v44 K KS r s x he j
  have hM : m (ix2 r 0) = Finset.univ.sup (Row.products x (fun j d => K (ix4 0 0 j d)) (fun j => KS (ix4 0 0 0 j))
      (fun j => v.toNat ≤ (j : ℕ) ∧ (j : ℕ) < w.toNat) s) := by
    rw [hm, mxAll_apply v44 K KS i hv hw r hc h1 hlt, e]
  have hwt : ∀ u, wt v46 m r u = Row.bigWeight s (Row.products x (fun j d => K (ix4 0 0 j d)) (fun j => KS (ix4 0 0 0 j))
      (fun j => v.toNat ≤ (j : ℕ) ∧ (j : ℕ) < w.toNat) s) u := by
    intro u
    unfold wt Row.bigWeight
    rw [hM, h46]
  have hz : wt v46 m r ⊥ = 0 := by
    have hpos : 0 < s * ((Real.sqrt 128)⁻¹ * (Real.log 2)⁻¹) := mul_pos hs (mul_pos Row.sqrt_pos' Row.perLog2_pos)
    unfold wt
    rw [h46, Row.perScore, ← EReal.coe_mul, EReal.bot_mul_coe_of_pos hpos, EReal.bot_sub]
    rfl
  obtain ⟨o2, o1⟩ := olAll_apply v44 K KS V i hv hw v46 r d hc h1 hlt m hz
  rw [o1, o2]
  simp only [hwt, fun j : Fin 32768 => congrFun e j]
  exact Row.attend_of_products _ _ _ _ hs _ _

attribute [local irreducible] ol mx in
/-- In a document, a row of the block becomes attention of the row within the document. -/
theorem docStep_in {s : ℝ} (hs : 0 < s) (x : Fin 128 → EReal) (he : ∀ d, v44 (ix2 r d) = ((s⁻¹ : ℝ) : EReal) * x d) (h46 : v46 (ix2 r 0) = Row.perScore s)
    (hq : v.toNat ≤ place i r ∧ place i r < w.toNat) :
    docStep (F := Ideal) i v44 v46 cols v w K KS V (BitVec.ofNat 32 (i 2).val) VS Y (ix3 0 r d)
      = Row.attend (Row.score x (fun j d => K (ix4 0 0 j d)) (fun j => KS (ix4 0 0 0 j)) (fun j => v.toNat ≤ (j : ℕ) ∧ (j : ℕ) < w.toNat))
          (fun j => V (ix4 0 0 j d)) (VS (ix4 0 0 0 d)) := by
  have hp := place_le i r
  have hlt : v.toNat < w.toNat := by omega
  have hpl : place i r ≤ 40000 := by omega
  have h1 := cond_of_mem i hv hw r hq
  have hc := chk1 i hv hw
  unfold docStep
  rw [dif_pos ⟨hc, h1⟩, pay3_apply, place_word, select_inDoc hpl hv hw, if_pos hq]
  have key := row_eq v44 K KS V i hv hw v46 r d hc h1 hlt hs x he h46 (mx i v44 cols v w hc h1 K KS (k0_t2_loop v w).trips) rfl (VS (ix4 0 0 0 d))
  exact key

end Doc

end Cert.Proof.AttnIdeal

end
-- ==== Proof.KerFold.lean ====
/- A grid step of the kernel: all its documents, at a row. -/
module

public import proofs.«01_k».proof.Proof.KerRow

@[expose] public section

noncomputable section

namespace Cert.Proof.AttnIdeal

open Cert.AttnIdeal Cert.AttnIdeal.Gen
open Idealize.ShloMosaic Idealize.ShloMosaic.TcCoe

theorem docs_eq : k0_t1_loop.trips = 12 := by decide +kernel

theorem doc_lt' (k : Fin k0_t1_loop.trips) : (k : ℕ) < 12 := docs_eq ▸ k.isLt
theorem doc_lt (k : Fin k0_t1_loop.trips) : (k : ℕ) < 13 := Nat.lt_succ_of_lt (doc_lt' k)

theorem doc_word (n : ℕ) : Scf.iv 0#32 1#32 n = BitVec.ofNat 32 n := by
  unfold Scf.iv
  exact (BitVec.zero_add _).trans (BitVec.mul_one _)

/-- The table's bounds, as the documents read them. -/
theorem lo_apply (i : grid0.Coords) (T : Vec Ideal S2x13 .i32) (k : Fin k0_t1_loop.trips) :
    lo (F := Ideal) i T k = T (ix2 (i 0) ⟨(k : ℕ), doc_lt k⟩) := by
  refine View.ld_unit_apply_of T _ _ _ _ _ fun a => ?_
  have hk := doc_lt' k
  have h0 : (i 0).val < 2 := (i 0).isLt
  fin_cases a
  · show (i 0).val = (BitVec.ofNat 32 (i 0).val).toNat + 0
    rw [BitVec.toNat_ofNat, Nat.mod_eq_of_lt (by omega), Nat.add_zero]
  · show (k : ℕ) = (Scf.iv 0#32 1#32 k).toNat + 0
    rw [doc_word, BitVec.toNat_ofNat, Nat.mod_eq_of_lt (by omega), Nat.add_zero]

theorem hi_apply (i : grid0.Coords) (T : Vec Ideal S2x13 .i32) (k : Fin k0_t1_loop.trips) :
    hi (F := Ideal) i T k = T (ix2 (i 0) ⟨(k : ℕ) + 1, Nat.succ_lt_succ (doc_lt' k)⟩) := by
  refine View.ld_unit_apply_of T _ _ _ _ _ fun a => ?_
  have hk := doc_lt' k
  have h0 : (i 0).val < 2 := (i 0).isLt
  fin_cases a
  · show (i 0).val = (BitVec.ofNat 32 (i 0).val).toNat + 0
    rw [BitVec.toNat_ofNat, Nat.mod_eq_of_lt (by omega), Nat.add_zero]
  · show (k : ℕ) + 1 = (Scf.iv 0#32 1#32 k + 1#32).toNat + 0
    rw [doc_word, ← BitVec.ofNat_add, BitVec.toNat_ofNat, Nat.mod_eq_of_lt (by omega)]

section Fold

variable (i : grid0.Coords) (v32 : FVec Ideal S256x1 .f32) (v39 : FVec Ideal S256x128 .f32) (T : Vec Ideal S2x13 .i32)
  (K : Vec Ideal S1x1x32768x128 .fp8e4m3) (KS : Vec Ideal S1x1x1x32768 .f32) (V : Vec Ideal S1x1x32768x128 .fp8e4m3) (VS : Vec Ideal S1x1x1x128 .f32)
  (Y : Vec Ideal S1x256x128 .bf16) (r : Fin 256) (d : Fin 128)

theorem fold_succ (a : BitVec 32) (n : ℕ) (h : n < k0_t1_loop.trips) : fold (F := Ideal) i a v32 v39 cols T K KS V VS Y (n + 1)
    = docStep (F := Ideal) i (k0_pay1 v39) (k0_pay2 v32) cols (lo i T ⟨n, h⟩) (hi i T ⟨n, h⟩) K KS V a VS (fold i a v32 v39 cols T K KS V VS Y n) := by
  rw [fold, dif_pos h]

/-- A row that lies in exactly one document ends as attention within it. -/
theorem fold_row (hT : ∀ x, (T x : BitVec 32).toNat ≤ 32768) (e : Fin k0_t1_loop.trips)
    (hin : (lo (F := Ideal) i T e : BitVec 32).toNat ≤ place i r ∧ place i r < (hi (F := Ideal) i T e : BitVec 32).toNat)
    (hout : ∀ k : Fin k0_t1_loop.trips, k ≠ e →
      ¬ ((lo (F := Ideal) i T k : BitVec 32).toNat ≤ place i r ∧ place i r < (hi (F := Ideal) i T k : BitVec 32).toNat))
    {s : ℝ} (hs : 0 < s) (x : Fin 128 → EReal) (he : ∀ d, k0_pay1 v39 (ix2 r d) = ((s⁻¹ : ℝ) : EReal) * x d) (h46 : k0_pay2 v32 (ix2 r 0) = Row.perScore s) :
    fold (F := Ideal) i (BitVec.ofNat 32 (i 2).val) v32 v39 cols T K KS V VS Y k0_t1_loop.trips (ix3 0 r d)
      = Row.attend (Row.score x (fun j d => K (ix4 0 0 j d)) (fun j => KS (ix4 0 0 0 j))
          (fun j => (lo (F := Ideal) i T e : BitVec 32).toNat ≤ (j : ℕ) ∧ (j : ℕ) < (hi (F := Ideal) i T e : BitVec 32).toNat))
          (fun j => V (ix4 0 0 j d)) (VS (ix4 0 0 0 d)) := by
  have hlo : ∀ k, (lo (F := Ideal) i T k : BitVec 32).toNat ≤ 32768 := fun k => by rw [lo_apply]; exact hT _
  have hhi : ∀ k, (hi (F := Ideal) i T k : BitVec 32).toNat ≤ 32768 := fun k => by rw [hi_apply]; exact hT _
  have main : ∀ n, n ≤ k0_t1_loop.trips → (e : ℕ) < n → fold (F := Ideal) i (BitVec.ofNat 32 (i 2).val) v32 v39 cols T K KS V VS Y n (ix3 0 r d)
      = Row.attend (Row.score x (fun j d => K (ix4 0 0 j d)) (fun j => KS (ix4 0 0 0 j))
          (fun j => (lo (F := Ideal) i T e : BitVec 32).toNat ≤ (j : ℕ) ∧ (j : ℕ) < (hi (F := Ideal) i T e : BitVec 32).toNat))
          (fun j => V (ix4 0 0 j d)) (VS (ix4 0 0 0 d)) := by
    intro n
    induction n with
    | zero => exact fun _ h => absurd h (Nat.not_lt_zero _)
    | succ n ih =>
      intro hn hen
      have h : n < k0_t1_loop.trips := Nat.lt_of_succ_le hn
      rw [fold_succ (h := h)]
      by_cases hne : (⟨n, h⟩ : Fin k0_t1_loop.trips) = e
      · subst hne
        exact docStep_in _ K KS V i (hlo ⟨n, h⟩) (hhi ⟨n, h⟩) _ VS _ r d hs x he h46 hin
      · refine (docStep_out _ K KS V i (hlo ⟨n, h⟩) (hhi ⟨n, h⟩) _ VS _ r d (hout _ hne)).trans ?_
        exact ih (Nat.le_of_lt h) (Nat.lt_of_le_of_ne (Nat.le_of_lt_succ hen) fun q => hne (Fin.ext q.symm))
  exact main _ le_rfl e.isLt

end Fold

end Cert.Proof.AttnIdeal

end
-- ==== Proof.KerStep.lean ====
/- What a grid step of the kernel leaves: attention of the arguments, at each entry of its block. -/
module

public import proofs.«01_k».proof.Proof.KerReads
public import proofs.«01_k».proof.Proof.KerFold

@[expose] public section

noncomputable section

namespace Cert.Proof.AttnIdeal

open Cert.AttnIdeal Cert.AttnIdeal.Gen
open Idealize.ShloMosaic Idealize.ShloMosaic.TcCoe

variable (m : (ℓ : Loc nD τ sig) → Buf (Elt Ideal) ℓ)

/-- The ids of a sequence, as numbers. -/
def ids (b : Fin 2) (s : Fin 32768) : ℤ := (aSeg m 0 (ix2 b s) : BitVec 32).toInt

theorem lift_bounds (b : Fin 2) (k : Fin 13) (s : Fin 32768) : reduces_bounds.lift (ix2 b k) s = ix3 b k s := by
  funext a
  apply Fin.ext
  fin_cases a <;> rfl

/-- The table counts the positions of smaller id. -/
theorem tbl_apply (b : Fin 2) (k : Fin 13) :
    (tbl m (ix2 b k) : BitVec 32).toNat = (Finset.univ.filter fun s : Fin 32768 => ids m b s < ((k : ℕ) : ℤ)).card := by
  have hle : (Finset.univ.filter fun s : Fin 32768 => ids m b s < ((k : ℕ) : ℤ)).card ≤ 32768 := (Finset.card_le_univ _).trans_eq (by simp)
  have e : (Finset.univ.filter fun s : Fin 32768 => below m (reduces_bounds.lift (ix2 b k) s) = 1#1)
      = Finset.univ.filter fun s : Fin 32768 => ids m b s < ((k : ℕ) : ℤ) := by
    refine Finset.filter_congr fun s _ => ?_
    rw [lift_bounds, below_apply, ofBool_one, BitVec.slt_iff_toInt_lt, toInt_small (by omega)]
    rfl
  rw [tbl_count, e, BitVec.toNat_ofNat, Nat.mod_eq_of_lt (by omega)]

/-- What the precondition says of the arguments. -/
structure Tame : Prop where
  real : ∀ b s l, ∃ r : ℝ, aX m 0 (ix3 b s l) = (r : EReal) ∧ |r| ≤ 3.4e38
  range : ∀ b s, 0 ≤ ids m b s ∧ ids m b s < 12
  sorted : ∀ b, Monotone (ids m b)

/-- The attention of a memory's arguments. -/
def goal (c : Dev nD) (b : Fin 2) (s : Fin 32768) (l : Fin 1024) : EReal :=
  attention (fun b s l => aX m c (ix3 b s l)) (fun b h j d => aK m c (ix4 b h j d)) (fun b h j => aKs m c (ix3 b h j))
    (fun b h j d => aV m c (ix4 b h j d)) (fun b h d => aVs m c (ix3 b h d)) (fun b s => aSeg m c (ix2 b s)) b s l

variable {m}

theorem out_apply (hm : Tame m) (c : Dev nD) (t : Fin grid0.N) (Y : Vec Ideal S1x256x128 .bf16) (r : Fin 256) (d : Fin 128) :
    outB m c t Y (ix3 0 r d) = goal m c (seqAt t) (posAt t r) (colAt t d) := by
  obtain rfl : c = 0 := Subsingleton.elim _ _
  obtain ⟨x, hx⟩ : ∃ x : Fin 128 → ℝ, ∀ d, aX m 0 (ix3 (seqAt t) (posAt t r) (colAt t d)) = (x d : EReal) ∧ |x d| ≤ 3.4e38 :=
    Classical.skolem.mp fun d => hm.real _ _ _
  obtain ⟨s, hs, e18, e19⟩ := scale_spec (xB m 0 t) r x (fun d => (xB_apply m 0 t r d).trans (hx d).1) (fun d => (hx d).2)
  have hf := hm.sorted (seqAt t)
  have hr := hm.range (seqAt t) (posAt t r)
  have hlo : ∀ k : Fin k0_t1_loop.trips, (lo (F := Ideal) (grid0.coords t) (tbl m) k : BitVec 32).toNat
      = (Finset.univ.filter fun s : Fin 32768 => ids m (seqAt t) s < ((k : ℕ) : ℤ)).card := fun k => by
    rw [lo_apply]; exact tbl_apply m _ _
  have hhi : ∀ k : Fin k0_t1_loop.trips, (hi (F := Ideal) (grid0.coords t) (tbl m) k : BitVec 32).toNat
      = (Finset.univ.filter fun s : Fin 32768 => ids m (seqAt t) s < ((k : ℕ) : ℤ) + 1).card := fun k => by
    rw [hi_apply]; exact tbl_apply m _ _
  have hmem : ∀ (k : Fin k0_t1_loop.trips) (j : Fin 32768), ((lo (F := Ideal) (grid0.coords t) (tbl m) k : BitVec 32).toNat ≤ (j : ℕ)
      ∧ (j : ℕ) < (hi (F := Ideal) (grid0.coords t) (tbl m) k : BitVec 32).toNat) ↔ ids m (seqAt t) j = ((k : ℕ) : ℤ) := fun k j => by
    rw [hlo, hhi]; exact between_iff hf _ j
  have hn : (ids m (seqAt t) (posAt t r)).toNat < k0_t1_loop.trips := by rw [docs_eq]; omega
  have he : ((ids m (seqAt t) (posAt t r)).toNat : ℤ) = ids m (seqAt t) (posAt t r) := Int.toNat_of_nonneg hr.1
  have key := fold_row (grid0.coords t) (k0_pay18 (xB m 0 t)) (k0_pay19 (xB m 0 t)) (tbl m) (kB m 0 t) (ksB m 0 t) (vB m 0 t) (vsB m 0 t) Y r d (tbl_le m)
    ⟨_, hn⟩ ((hmem ⟨_, hn⟩ (posAt t r)).mpr he.symm)
    (fun k hk h => hk (Fin.ext (by have := (hmem k (posAt t r)).mp h; show (k : ℕ) = (ids m (seqAt t) (posAt t r)).toNat; omega)))
    hs (fun d => (x d : EReal)) e19 (by rw [pay2_apply, e18])
  refine key.trans ?_
  have ho : headOf (colAt t d) = headAt t := Fin.ext (by simp only [headOf, headAt, colAt]; omega)
  have hl : laneOf (colAt t d) = d := Fin.ext (by simp only [laneOf, colAt]; omega)
  have hq : ∀ d', queryOf (colAt t d) d' = colAt t d' := fun d' => Fin.ext (by simp only [queryOf, colAt]; omega)
  have ex : (fun d' => aX m 0 (ix3 (seqAt t) (posAt t r) (queryOf (colAt t d) d'))) = fun d => (x d : EReal) := by
    funext d'; rw [hq]; exact (hx d').1
  have ek : (fun (j : Fin 32768) (d : Fin 128) => kB m 0 t (ix4 0 0 j d)) = fun j d => aK m 0 (ix4 (seqAt t) (headAt t) j d) := by
    funext j d; exact kB_apply m 0 t j d
  have eks : (fun (j : Fin 32768) => ksB m 0 t (ix4 0 0 0 j)) = fun j => aKs m 0 (ix3 (seqAt t) (headAt t) j) := by
    funext j; exact ksB_apply m 0 t j
  have ev : (fun (j : Fin 32768) => vB m 0 t (ix4 0 0 j d)) = fun j => aV m 0 (ix4 (seqAt t) (headAt t) j d) := by
    funext j; exact vB_apply m 0 t j d
  have hsame : ∀ j : Fin 32768, ((lo (F := Ideal) (grid0.coords t) (tbl m) ⟨_, hn⟩ : BitVec 32).toNat ≤ (j : ℕ)
      ∧ (j : ℕ) < (hi (F := Ideal) (grid0.coords t) (tbl m) ⟨_, hn⟩ : BitVec 32).toNat)
      ↔ aSeg m 0 (ix2 (seqAt t) (posAt t r)) = aSeg m 0 (ix2 (seqAt t) j) := fun j => by
    rw [hmem ⟨_, hn⟩ j]
    refine (Iff.of_eq (congrArg (ids m (seqAt t) j = ·) he)).trans ?_
    exact ⟨fun h => (BitVec.eq_of_toInt_eq h).symm, fun h => congrArg BitVec.toInt h.symm⟩
  rw [ek, eks, ev, vsB_apply]
  unfold goal attention scores
  rw [ho, hl]
  dsimp only
  rw [ex]
  exact congrArg (fun S => Row.attend S (fun j => aV m 0 (ix4 (seqAt t) (headAt t) j d)) (aVs m 0 (ix3 (seqAt t) (headAt t) d)))
    (funext fun j => if_congr (hsame j) rfl rfl)

end Cert.Proof.AttnIdeal

end
-- ==== Proof.Pre.lean ====
/- What the precondition says of the arguments, read back from the printed predicate: the activations are numbers within the
   range of their format, the ids lie in 0 … 11, and each sequence's ids do not decrease. -/
module

public import proofs.«01_k».proof.Defs
public import proofs.«01_k».proof.Proof.KerStep
public import proofs.«01_k».proof.Proof.Docs
public import proofs.«01_k».proof.Proof.Gen.Pre_tame
public import Idealize.ShloMosaic.Lib.ReduceAll
public import Idealize.ShloMosaic.Lib.StableHlo.Predicate

@[expose] public section

noncomputable section

namespace Cert.Proof.Pre

open Idealize.ShloMosaic Cert.Proof

instance : Subsingleton Cert.Pre_tame.S_.Idx := ⟨fun a b => funext fun i => i.elim0⟩

theorem bits_top : Ideal.ofBits .f32 0x7F7F0000#32 = ((255 * 2 ^ 120 : ℝ) : EReal) := by
  simp [Ideal.ofBits, Ideal.ieee, -EReal.coe_mul]; norm_num

/-- An extended real whose magnitude a real bounds is a real within the bound. -/
theorem real_of_abs_le {x : EReal} {M : ℝ} (h : max x (-x) ≤ (M : EReal)) : ∃ r : ℝ, x = (r : EReal) ∧ |r| ≤ M := by
  induction x using EReal.rec with
  | bot => exact absurd ((le_max_right _ _).trans h) (by simp)
  | top => exact absurd ((le_max_left _ _).trans h) (by simp)
  | coe r =>
    refine ⟨r, rfl, abs_le'.mpr ⟨EReal.coe_le_coe_iff.mp ((le_max_left _ _).trans h), ?_⟩⟩
    have := (le_max_right _ _).trans h
    rw [← EReal.coe_neg] at this
    exact EReal.coe_le_coe_iff.mp this

open Cert.Pre_tame Cert.Pre_tame.Facts in
/-- The three conditions of the predicate, element by element. -/
theorem fn_spec (x : FVec Ideal S2x32768x1024 .bf16) (k : FVec Ideal S2x2x32768x128 .fp8e4m3) (ks : FVec Ideal S2x2x32768 .f32)
    (v : FVec Ideal S2x2x32768x128 .fp8e4m3) (vs : FVec Ideal S2x2x128 .f32) (seg : IVec S2x32768 32)
    (h : Cert.Pre_tame.fn (F := Ideal) x k ks v vs seg = fun _ => 1#1) :
    (∀ i, max (x i) (-(x i)) ≤ Ideal.ofBits .f32 0x7F7F0000#32)
      ∧ (∀ i, IntOp.cmpi .sge (seg i) 0#32 = 1#1 ∧ IntOp.cmpi .slt (seg i) 12#32 = 1#1)
      ∧ ∀ i : S2x32767.Idx, IntOp.cmpi .sle (extractStridedSlice S2x32767 ![0, 0] seg slices_S2x32768_S2x32767_0_0 i)
          (extractStridedSlice S2x32767 ![0, 1] seg slices_S2x32768_S2x32767_0_1 i) = 1#1 := by
  have h0 := congrFun h (fun i => i.elim0)
  obtain ⟨h1, h4⟩ := IntOp.andi_eq_one.mp h0
  obtain ⟨h2, h3⟩ := IntOp.andi_eq_one.mp h1
  refine ⟨fun i => ?_, fun i => ?_, fun i => ?_⟩
  · have := Host.reduce_andi_all _ _ _ _ _ h2 i
    exact of_decide_eq_true ((StableHlo.Predicate.ofBool_eq_one_iff _).mp this)
  · exact IntOp.andi_eq_one.mp (Host.reduce_andi_all _ _ _ _ _ h3 i)
  · exact Host.reduce_andi_all _ _ _ _ _ h4 i

end Cert.Proof.Pre

namespace Cert.Proof.AttnIdeal

open Cert.AttnIdeal Cert.AttnIdeal.Gen Cert.Proof.Pre
open Idealize.ShloMosaic Idealize.ShloMosaic.TcCoe

variable (m : (ℓ : Loc nD τ sig) → Buf (Elt Ideal) ℓ)

theorem tame_of_pre (h : Cert.Pre_AttnIdeal_tame m) : Tame m := by
  obtain ⟨hx, hr, hs⟩ := fn_spec _ _ _ _ _ _ (h 0)
  refine ⟨fun b s l => ?_, fun b s => ?_, fun b => sorted_of_step fun i => ?_⟩
  · have := hx (ix3 b s l)
    rw [bits_top] at this
    obtain ⟨r, e, hle⟩ := real_of_abs_le this
    exact ⟨r, e, hle.trans (by norm_num)⟩
  · obtain ⟨h0, h1⟩ := hr (ix2 b s)
    have h0 : BitVec.ofBool (BitVec.sle 0#32 (aSeg m 0 (ix2 b s))) = 1#1 := h0
    have h1 : BitVec.ofBool (BitVec.slt (aSeg m 0 (ix2 b s)) 12#32) = 1#1 := h1
    rw [ofBool_one, BitVec.sle_iff_toInt_le] at h0
    rw [ofBool_one, BitVec.slt_iff_toInt_lt] at h1
    exact ⟨h0, h1⟩
  · have h2 := hs (ix2 b i)
    have e0 : extractStridedSlice Cert.Pre_tame.S2x32767 ![0, 0] (aSeg m 0) Cert.Pre_tame.Facts.slices_S2x32768_S2x32767_0_0 (ix2 b i) = aSeg m 0 (ix2 b i.castSucc) := by
      refine congrArg (aSeg m 0) (funext fun a => Fin.ext ?_)
      fin_cases a
      · exact Nat.zero_add _
      · exact Nat.zero_add _
    have e1 : extractStridedSlice Cert.Pre_tame.S2x32767 ![0, 1] (aSeg m 0) Cert.Pre_tame.Facts.slices_S2x32768_S2x32767_0_1 (ix2 b i) = aSeg m 0 (ix2 b i.succ) := by
      refine congrArg (aSeg m 0) (funext fun a => Fin.ext ?_)
      fin_cases a
      · exact Nat.zero_add _
      · exact Nat.add_comm _ _
    have h3 : BitVec.ofBool (BitVec.sle (extractStridedSlice Cert.Pre_tame.S2x32767 ![0, 0] (aSeg m 0) Cert.Pre_tame.Facts.slices_S2x32768_S2x32767_0_0 (ix2 b i))
      (extractStridedSlice Cert.Pre_tame.S2x32767 ![0, 1] (aSeg m 0) Cert.Pre_tame.Facts.slices_S2x32768_S2x32767_0_1 (ix2 b i))) = 1#1 := h2
    rw [ofBool_one, BitVec.sle_iff_toInt_le, e0, e1] at h3
    exact h3

end Cert.Proof.AttnIdeal

end
-- ==== Proof.KerArr.lean ====
/- The result array of the kernel: attention of the arguments, at each entry. -/
module

public import proofs.«01_k».proof.Proof.KerStep

@[expose] public section

noncomputable section

namespace Cert.Proof.AttnIdeal

open Cert.AttnIdeal Cert.AttnIdeal.Gen
open Idealize.ShloMosaic Idealize.ShloMosaic.TcCoe Idealize.SL.Sem
open Idealize.ShloMosaic.Pipeline

variable {m : (ℓ : Loc nD τ sig) → Buf (Elt Ideal) ℓ}

/-- Every grid step writes its block back. -/
theorem flushes : ∀ t : Fin grid0.N, Window.flushOf grid0 true cc0_transform_5 t = true := by decide +kernel

/-- The grid point of a block of the result. -/
theorem point : ∀ (b : Fin 2) (h : Fin 8) (q : Fin 128), ∃ t : Fin grid0.N, t.val = (b.val * 8 + h.val) * 128 + q.val
    ∧ (grid0.coords t 0).val = b ∧ (grid0.coords t 1).val = h ∧ (grid0.coords t 2).val = q := by
  intro b h q
  have hn : grid0.N = 2048 := by decide +kernel
  have hc : ∀ t : Fin grid0.N, (grid0.coords t 0).val = t.val / 1024 ∧ (grid0.coords t 1).val = t.val / 128 % 8 ∧ (grid0.coords t 2).val = t.val % 128 := by
    decide +kernel
  have ht : (b.val * 8 + h.val) * 128 + q.val < grid0.N := by rw [hn]; omega
  refine ⟨⟨_, ht⟩, rfl, (hc _).1.trans ?_, (hc _).2.1.trans ?_, (hc _).2.2.trans ?_⟩ <;> dsimp only <;> omega

/-- The result array. -/
def goalArr (m : (ℓ : Loc nD τ sig) → Buf (Elt Ideal) ℓ) (c : Dev nD) : Vec Ideal S2x32768x1024 .bf16 := fun i => goal m c (i 0) (i 1) (i 2)

theorem out_emb (hm : Tame m) (c : Dev nD) (t : Fin grid0.N) (Y : Vec Ideal S1x256x128 .bf16) (y : S1x256x128.Idx) :
    outB m c t Y y = goalArr m c ((((cfgM m).win 5).blk t).view.emb y) := by
  obtain ⟨a, r, d, rfl⟩ : ∃ (a : Fin 1) (r : Fin 256) (d : Fin 128), y = ix3 a r d := ⟨y 0, y 1, y 2, by funext a; fin_cases a <;> rfl⟩
  obtain rfl : a = 0 := Subsingleton.elim _ _
  rw [out_apply hm]
  have e : ((((cfgM m).win 5).blk t).view.emb (ix3 0 r d)) = (ix3 (seqAt t) (posAt t r) (colAt t d) : S2x32768x1024.Idx) := by
    funext a
    apply Fin.ext
    refine (((cfgM m).win 5).rect_emb_val t (ix3 0 r d) a).trans ?_
    show cc0_transform_5 (grid0.coords t) a * S1x256x128.size a + ((ix3 0 r d : S1x256x128.Idx) a : ℕ) = _
    rw [tr5]
    fin_cases a
    · exact (Nat.add_zero _).trans (Nat.mul_one _)
    · rfl
    · rfl
  rw [e]
  rfl

theorem covered (i : S2x32768x1024.Idx) : ∃ t : Fin grid0.N, i ∈ (((cfgM m).win 5).blk t).view.set := by
  obtain ⟨b, s, l, rfl⟩ : ∃ (b : Fin 2) (s : Fin 32768) (l : Fin 1024), i = ix3 b s l := ⟨i 0, i 1, i 2, by funext a; fin_cases a <;> rfl⟩
  obtain ⟨t, -, h0, h1, h2⟩ := point b ⟨l / 128, by omega⟩ ⟨s / 256, by omega⟩
  refine ⟨t, (((cfgM m).win 5).emb_mem_blk_iff t (ix3 b s l)).mpr fun a => ?_⟩
  show cc0_transform_5 (grid0.coords t) a * S1x256x128.size a ≤ ((ix3 b s l : S2x32768x1024.Idx) a : ℕ)
    ∧ ((ix3 b s l : S2x32768x1024.Idx) a : ℕ) < cc0_transform_5 (grid0.coords t) a * S1x256x128.size a + S1x256x128.size a
  rw [tr5, h0, h1, h2]
  fin_cases a
  · show (b : ℕ) * 1 ≤ b ∧ (b : ℕ) < b * 1 + 1
    omega
  · show (s : ℕ) / 256 * 256 ≤ s ∧ (s : ℕ) < s / 256 * 256 + 256
    omega
  · show (l : ℕ) / 128 * 128 ≤ l ∧ (l : ℕ) < l / 128 * 128 + 128
    omega

/-- After a launch, the result is attention of the arguments. -/
theorem result_eq (hm : Tame m) {r : PUnit × MemSt nD τ sig (Elt Ideal)} (h : RDat.FramePost (cfgM m) (rdat m) (V m) r) (c : Dev nD) :
    r.2.mem ((c.tc : Thread nD τ).loc main_v10) = (goalArr m c : Buf (Elt Ideal) ((c.tc : Thread nD τ).loc main_v10)) := by
  obtain ⟨after, hL, hA⟩ := RDat.FramePost.exists_exact h c
  refine (hA (5 : Fin 6)).trans ?_
  refine ((rdat m c).withAfter after).arrAt_eq_of_emb (5 : Fin 6) (goalArr m c) (fun t hf y => ?_) (fun i => ?_)
  · obtain ⟨Y, -, hY⟩ := hL (5 : Fin 6) t hf
    have e : after (5 : Fin 6) t = outB m c t Y := hY
    rw [RDat.withAfter_after, e]
    exact out_emb hm c t Y y
  · obtain ⟨t, ht⟩ := covered (m := m) i
    exact ⟨t, flushes t, ht⟩

end Cert.Proof.AttnIdeal

end
-- ==== Proof.RefRead.lean ====
/- The reference's values at an index, over the extended reals. -/
module

public import proofs.«01_k».proof.Proof.Gen.AttendIdeal.Value
public import proofs.«01_k».proof.Proof.Softmax
public import Idealize.ShloMosaic.Lib.Pointwise

@[expose] public section

noncomputable section

namespace Cert.Proof.AttendIdeal

open Cert.AttendIdeal Cert.AttendIdeal.Gen
open Idealize.ShloMosaic Idealize.ShloMosaic.TcCoe

/-- The exponents of the scales of rows whose greatest magnitudes are `a`. -/
def ex (a : FVec Ideal S4x131072x1 .f32) : FVec Ideal S4x131072x1 .f32 :=
  select (cmpf .oeq a (broadcast S4x131072x1 (Scalar.ofBits .f32 0x00000000#32))) (broadcast S4x131072x1 (Scalar.ofBits .f32 0x00000000#32))
    (addf (floor (divf (log (mulf a (broadcast S4x131072x1 (Scalar.ofBits .f32 0x3B124925#32)))) (log (broadcast S4x131072x1 (Scalar.ofBits .f32 0x40000000#32)))))
      (broadcast S4x131072x1 (Scalar.ofBits .f32 0x3F800000#32)))

theorem ex_apply (a : FVec Ideal S4x131072x1 .f32) (i) : ex a i = Row.expo (a i) := by
  unfold ex Row.expo
  pointwise
  rw [Row.bits_inv, Row.bits_2]

/-- The greatest magnitudes of the rows of `x`. -/
def amax (x : FVec Ideal S4x131072x128 .f32) : FVec Ideal S4x131072x1 .f32 :=
  shapeCast S4x131072x1 (multiReduction .maximumf [2] S4x131072 (absf x) 0xFF800000#32 reduces_S4x131072x128_S4x131072 (.inl rfl) rfl) shapeCasts_S4x131072_S4x131072x1

theorem amax_apply (x : FVec Ideal S4x131072x128 .f32) (b : Fin 4) (r : Fin 131072) :
    amax x (ix3 b r 0) = Finset.univ.fold max (Ideal.ofBits .f32 0xFF800000#32) fun d : Fin 128 => FloatOps.absf (x (ix3 b r d)) := by
  unfold amax
  pointwise

def pmax (x : FVec Ideal S4x131072x32768 .f32) : FVec Ideal S4x131072x1 .f32 :=
  shapeCast S4x131072x1 (multiReduction .maximumf [2] S4x131072 (absf x) 0xFF800000#32 reduces_S4x131072x32768_S4x131072 (.inl rfl) rfl) shapeCasts_S4x131072_S4x131072x1

theorem pmax_apply (x : FVec Ideal S4x131072x32768 .f32) (b : Fin 4) (r : Fin 131072) :
    pmax x (ix3 b r 0) = Finset.univ.fold max (Ideal.ofBits .f32 0xFF800000#32) fun d : Fin 32768 => FloatOps.absf (x (ix3 b r d)) := by
  unfold pmax
  pointwise

def codes (x : FVec Ideal S4x131072x128 .f32) (e : FVec Ideal S4x131072x1 .f32) : FVec Ideal S4x131072x128 .fp8e4m3 :=
  truncf .fp8e4m3 (minimumf (broadcast S4x131072x128 (Scalar.ofBits .f32 0x43E00000#32)) (maximumf (broadcast S4x131072x128 (Scalar.ofBits .f32 0xC3E00000#32))
    (mulf x (broadcastTo S4x131072x128 (exp2 (subf (broadcast S4x131072x1 (Scalar.ofBits .f32 0x00000000#32)) e)) broadcasts_S4x131072x1_S4x131072x128)))) bitsLt_fp8e4m3_f32

theorem codes_apply (x : FVec Ideal S4x131072x128 .f32) (e : FVec Ideal S4x131072x1 .f32) (b : Fin 4) (r : Fin 131072) (d : Fin 128) :
    codes x e (ix3 b r d) = min ((448 : ℝ) : EReal) (max ((-448 : ℝ) : EReal) (x (ix3 b r d) * Ideal.exp2 (0 - e (ix3 b r 0)))) := by
  rw [← Row.bits_448, ← Row.bits_neg448]
  unfold codes
  pointwise
  rfl

def xrow (v0 : Vec Ideal S4x131072x128 .bf16) : FVec Ideal S4x131072x128 .f32 := extf .f32 (shapeCast S4x131072x128 v0 shapeCasts_S4x131072x128_S4x131072x128 : FVec Ideal S4x131072x128 .bf16) bitsLt_bf16_f32

theorem xrow_apply (v0 : Vec Ideal S4x131072x128 .bf16) (b : Fin 4) (r : Fin 131072) (d : Fin 128) : xrow v0 (ix3 b r d) = v0 (ix3 b r d) := by
  unfold xrow
  pointwise

def qk (q : FVec Ideal S4x131072x128 .fp8e4m3) (e : FVec Ideal S4x131072x1 .f32) (v30 : Vec Ideal S4x32768x128 .fp8e4m3) : FVec Ideal S4x131072x32768 .f32 :=
  mulf (matmul dot_S4x131072x128_S4x32768x128_S4x131072x32768_2_2_1_1_0_0 none q (shapeCast S4x32768x128 v30 shapeCasts_S4x32768x128_S4x32768x128 : FVec Ideal S4x32768x128 .fp8e4m3) (constant S4x131072x32768 .f32 0x00000000#32))
    (broadcastTo S4x131072x32768 (mulf (exp2 e) (broadcast S4x131072x1 (Named.named κ "sm" 0x3DB504F3#32))) broadcasts_S4x131072x1_S4x131072x32768)

theorem qk_apply (q : FVec Ideal S4x131072x128 .fp8e4m3) (e : FVec Ideal S4x131072x1 .f32) (v30 : Vec Ideal S4x32768x128 .fp8e4m3) (b : Fin 4) (r : Fin 131072) (j : Fin 32768) :
    qk q e v30 (ix3 b r j) = (∑ d : Fin 128, q (ix3 b r d) * v30 (ix3 b j d)) * (Ideal.exp2 (e (ix3 b r 0)) * (((Real.sqrt 128)⁻¹ : ℝ) : EReal)) := by
  have hk : (Named.named κ "sm" 0x3DB504F3#32 : Ideal .f32) = (((Real.sqrt 128)⁻¹ : ℝ) : EReal) := IdealRules.named_const.ideal_named_scalar _ _ _ _ rfl
  rw [← hk]
  unfold qk
  pointwise [dot_S4x131072x128_S4x32768x128_S4x131072x32768_2_2_1_1_0_0]
  rfl

theorem pay2_eq (v0 v30) : k0_pay2 (F := Ideal) v0 v30 = qk (codes (xrow v0) (ex (amax (xrow v0)))) (ex (amax (xrow v0))) v30 := rfl

theorem pay3_apply (v37 : Vec Ideal S4x1x32768 .f32) (b : Fin 4) (r : Fin 131072) (j : Fin 32768) : k0_pay3 (F := Ideal) v37 (ix3 b r j) = v37 (ix3 b 0 j) := by
  pointwise [k0_pay3]

/-- The masked scores, as the reference has them. -/
def masked (v36 v39 : FVec Ideal S4x131072x32768 .f32) (v41 : Vec Ideal S4x131072x1 .i32) (v43 : Vec Ideal S4x1x32768 .i32) (b : Fin 4) (r : Fin 131072) (j : Fin 32768) : EReal :=
  if v41 (ix3 b r 0) = v43 (ix3 b 0 j) then v36 (ix3 b r j) * v39 (ix3 b r j) else ⊥

theorem select_eq (x y : BitVec 32) (a b : EReal) : Scalar.select (IntOp.cmpi .eq x y) a b = if x = y then a else b := by
  by_cases h : x = y
  · simp [Scalar.select, IntOp.cmpi, h]
  · simp [Scalar.select, IntOp.cmpi, h, beq_eq_false_iff_ne.2 h]

theorem pay4_apply (v36 v39 : FVec Ideal S4x131072x32768 .f32) (v41 : Vec Ideal S4x131072x1 .i32) (v43 : Vec Ideal S4x1x32768 .i32) (b : Fin 4) (r : Fin 131072) (j : Fin 32768) :
    k0_pay4 (F := Ideal) v36 v39 v41 v43 (ix3 b r j) = Row.weight (masked v36 v39 v41 v43 b r) j := by
  have h : ∀ j, masked v36 v39 v41 v43 b r j = Scalar.select (IntOp.cmpi CmpIPredicate.eq (v41 (ix3 b r 0)) (v43 (ix3 b 0 j))) (v36 (ix3 b r j) * v39 (ix3 b r j)) (Ideal.ofBits FTy.f32 0xFF800000#32) := by
    intro j; rw [select_eq, Row.bits_bot]; rfl
  unfold Row.weight Finset.sup
  rw [h j, show masked v36 v39 v41 v43 b r = _ from funext h]
  pointwise [k0_pay4]
  rw [Row.bits_bot]

theorem pay5_apply (v36 v39 : FVec Ideal S4x131072x32768 .f32) (v41 : Vec Ideal S4x131072x1 .i32) (v43 : Vec Ideal S4x1x32768 .i32) (b : Fin 4) (r : Fin 131072) :
    k0_pay5 (F := Ideal) v36 v39 v41 v43 (ix3 b r 0) = ∑ j, Row.weight (masked v36 v39 v41 v43 b r) j := by
  simp only [← pay4_apply]
  generalize hp : k0_pay4 (F := Ideal) v36 v39 v41 v43 = p
  unfold k0_pay5
  rw [hp]
  pointwise

theorem pay6_eq (v36 v39 : FVec Ideal S4x131072x32768 .f32) (v41 v43) : k0_pay6 (F := Ideal) v36 v39 v41 v43 = ex (pmax (k0_pay4 v36 v39 v41 v43)) := rfl

def pcodes (p : FVec Ideal S4x131072x32768 .f32) (e : FVec Ideal S4x131072x1 .f32) : FVec Ideal S4x131072x32768 .f32 :=
  minimumf (broadcast S4x131072x32768 (Scalar.ofBits .f32 0x43E00000#32)) (maximumf (broadcast S4x131072x32768 (Scalar.ofBits .f32 0xC3E00000#32))
    (mulf p (broadcastTo S4x131072x32768 (exp2 (subf (broadcast S4x131072x1 (Scalar.ofBits .f32 0x00000000#32)) e)) broadcasts_S4x131072x1_S4x131072x32768)))

theorem pcodes_apply (x : FVec Ideal S4x131072x32768 .f32) (e : FVec Ideal S4x131072x1 .f32) (b : Fin 4) (r : Fin 131072) (d : Fin 32768) :
    pcodes x e (ix3 b r d) = min ((448 : ℝ) : EReal) (max ((-448 : ℝ) : EReal) (x (ix3 b r d) * Ideal.exp2 (0 - e (ix3 b r 0)))) := by
  rw [← Row.bits_448, ← Row.bits_neg448]
  unfold pcodes
  pointwise
  rfl

theorem pay7_eq (v36 v39 : FVec Ideal S4x131072x32768 .f32) (v41 v43) :
    k0_pay7 (F := Ideal) v36 v39 v41 v43 = pcodes (k0_pay4 v36 v39 v41 v43) (k0_pay6 v36 v39 v41 v43) := rfl

/-- The batch and the row of an entry of the result. -/
abbrev gOf (b : Fin 2) (c : Fin 1024) : Fin 4 := ⟨b.val * 2 + c.val / 512, by omega⟩
abbrev rOf (s : Fin 32768) (c : Fin 1024) : Fin 131072 := ⟨c.val / 128 % 4 * 32768 + s.val, by omega⟩
abbrev dOf (c : Fin 1024) : Fin 128 := ⟨c.val % 128, by omega⟩

theorem pay1_apply (v56 v72 : FVec Ideal S4x131072x1 .f32) (v81 : FVec Ideal S4x131072x32768 .f32) (v84 : Vec Ideal S4x32768x128 .fp8e4m3) (v89 : Vec Ideal S4x1x128 .f32) (b : Fin 2) (s : Fin 32768) (c : Fin 1024) :
    k0_pay1 (F := Ideal) v56 v72 v81 v84 v89 (ix3 b s c)
      = Ideal.div ((∑ j, v81 (ix3 (gOf b c) (rOf s c) j) * v84 (ix3 (gOf b c) j (dOf c))) * Ideal.exp2 (v72 (ix3 (gOf b c) (rOf s c) 0)) * v89 (ix3 (gOf b c) 0 (dOf c)))
          (v56 (ix3 (gOf b c) (rOf s c) 0)) := by
  pointwise [k0_pay1, dot_S4x131072x32768_S4x32768x128_S4x131072x128_2_1_1_2_0_0]
  rfl

end Cert.Proof.AttendIdeal

end
-- ==== Proof.RefValue.lean ====
/- What the reference's result holds, entry by entry: one row of attention of the argument arrays. -/
module

public import proofs.«01_k».proof.Proof.RefRead
public import Idealize.ShloMosaic.Lib.Pipeline.ValueKit.Basic

@[expose] public section

noncomputable section

namespace Cert.Proof.AttendIdeal

open Cert.AttendIdeal Cert.AttendIdeal.Gen
open Idealize.ShloMosaic Idealize.ShloMosaic.TcCoe

variable (x0 : Vec Ideal S4x131072x128 .bf16) (x1 : Vec Ideal S4x32768x128 .fp8e4m3) (x2 : Vec Ideal S4x1x32768 .f32) (x3 : Vec Ideal S4x32768x128 .fp8e4m3)
  (x4 : Vec Ideal S4x1x128 .f32) (x5 : Vec Ideal S4x131072x1 .i32) (x6 : Vec Ideal S4x1x32768 .i32)

/-- The scores of a row of the reference. -/
abbrev rowScore (g : Fin 4) (r : Fin 131072) : Fin 32768 → EReal :=
  Row.score (fun d => x0 (ix3 g r d)) (fun j d => x1 (ix3 g j d)) (fun j => x2 (ix3 g 0 j)) (fun j => x5 (ix3 g r 0) = x6 (ix3 g 0 j))

theorem masked_eq (g : Fin 4) (r : Fin 131072) (hx : ∀ d, ∃ v : ℝ, x0 (ix3 g r d) = v) :
    masked (k0_pay2 (F := Ideal) x0 x1) (k0_pay3 (F := Ideal) x2) x5 x6 g r = rowScore x0 x1 x2 x5 x6 g r := by
  funext j
  unfold masked rowScore Row.score
  refine if_congr Iff.rfl ?_ rfl
  rw [pay3_apply, pay2_eq, qk_apply]
  congr 1
  rw [← mul_assoc]
  congr 1
  simp only [codes_apply, ex_apply, xrow_apply]
  refine Row.quant_sum (fun d => x0 (ix3 g r d)) hx (fun d => x1 (ix3 g j d)) _ ?_
  rw [amax_apply, Row.bits_bot]
  simp only [xrow_apply]

theorem ld_r0 {e : EltTy} (X : S4x131072x128.Idx → Elt Ideal e) : View.ld X r0_0 = X := View.ld_unit_lit (off := ![0, 0, 0]) _ X (by decide)
theorem ld_r1 {e : EltTy} (X : S4x32768x128.Idx → Elt Ideal e) : View.ld X r0_1 = X := View.ld_unit_lit (off := ![0, 0, 0]) _ X (by decide)
theorem ld_r2 {e : EltTy} (X : S4x1x32768.Idx → Elt Ideal e) : View.ld X r0_2 = X := View.ld_unit_lit (off := ![0, 0, 0]) _ X (by decide)
theorem ld_r3 {e : EltTy} (X : S4x131072x1.Idx → Elt Ideal e) : View.ld X r0_3 = X := View.ld_unit_lit (off := ![0, 0, 0]) _ X (by decide)
theorem ld_r4 {e : EltTy} (X : S4x1x128.Idx → Elt Ideal e) : View.ld X r0_4 = X := View.ld_unit_lit (off := ![0, 0, 0]) _ X (by decide)
theorem canon_r5 (w : Vec Ideal S2x32768x1024 .bf16) : View.canon (Val := Elt Ideal) (s := S2x32768x1024) (e := .bf16) [⟨r0_5, w⟩] = w := by
  unfold r0_5
  exact View.canon_cons_unit_lit (S := S2x32768x1024) (off := ![0, 0, 0]) _ w [] (by decide)

theorem out_apply (b : Fin 2) (s : Fin 32768) (c : Fin 1024) (hx : ∀ d, ∃ v : ℝ, x0 (ix3 (gOf b c) (rOf s c) d) = v) :
    out0_7 (F := Ideal) x0 x1 x2 x3 x4 x5 x6 (ix3 b s c)
      = Row.attend (rowScore x0 x1 x2 x5 x6 (gOf b c) (rOf s c)) (fun j => x3 (ix3 (gOf b c) j (dOf c))) (x4 (ix3 (gOf b c) 0 (dOf c))) := by
  unfold out0_7 k0_pay9 k0_pay8
  rw [canon_r5]
  rw [ld_r0, ld_r1, ld_r2, ld_r1, ld_r4, ld_r3, ld_r2]
  rw [pay1_apply, pay5_apply, masked_eq x0 x1 x2 x5 x6 _ _ hx]
  have hq := Row.quant_sum (Row.weight (rowScore x0 x1 x2 x5 x6 (gOf b c) (rOf s c))) (fun j => by
    obtain ⟨p, hp, -⟩ := Row.weight_real (rowScore x0 x1 x2 x5 x6 (gOf b c) (rOf s c)) j
    exact ⟨p, hp⟩) (fun j => x3 (ix3 (gOf b c) j (dOf c))) _ rfl
  unfold Row.attend
  rw [← hq]
  simp only [pay7_eq, pcodes_apply, pay6_eq, ex_apply, pmax_apply, Row.bits_bot, pay4_apply, masked_eq x0 x1 x2 x5 x6 _ _ hx]

end Cert.Proof.AttendIdeal

end
-- ==== Proof.RefArr.lean ====
/- The reference's result array, entry by entry, from the argument arrays. -/
module

public import proofs.«01_k».proof.Proof.RefValue
public import proofs.«01_k».proof.Proof.Spec
public import Idealize.ShloMosaic.Lib.Pipeline.ValueKit.Geometry

@[expose] public section

noncomputable section

namespace Cert.Proof.AttendIdeal

open Cert.AttendIdeal Cert.AttendIdeal.Gen
open Idealize.ShloMosaic Idealize.ShloMosaic.TcCoe

variable (m : (ℓ : Loc nD τ sig) → Buf (Elt Ideal) ℓ)

/-! ## Each window holds its whole array -/

theorem iblk0 (c : Dev nD) (t : Fin cfg0.N) : (iblk m c 0 t : Vec Ideal S4x131072x128 .bf16) = V m c main_v2 := by
  funext y
  unfold iblk
  rw [View.read_apply]
  show V m c main_v2 ((win0_0.blk t).view.emb y) = _
  congr 1
  funext a
  exact Fin.ext (win0_0.rect_emb_val_of_index_zero t a rfl y)

theorem iblk1 (c : Dev nD) (t : Fin cfg0.N) : (iblk m c 1 t : Vec Ideal S4x32768x128 .fp8e4m3) = V m c main_v9 := by
  funext y
  unfold iblk
  rw [View.read_apply]
  show V m c main_v9 ((win0_1.blk t).view.emb y) = _
  congr 1
  funext a
  exact Fin.ext (win0_1.rect_emb_val_of_index_zero t a rfl y)

theorem iblk2 (c : Dev nD) (t : Fin cfg0.N) : (iblk m c 2 t : Vec Ideal S4x1x32768 .f32) = V m c main_v10 := by
  funext y
  unfold iblk
  rw [View.read_apply]
  show V m c main_v10 ((win0_2.blk t).view.emb y) = _
  congr 1
  funext a
  exact Fin.ext (win0_2.rect_emb_val_of_index_zero t a rfl y)

theorem iblk3 (c : Dev nD) (t : Fin cfg0.N) : (iblk m c 3 t : Vec Ideal S4x32768x128 .fp8e4m3) = V m c main_v11 := by
  funext y
  unfold iblk
  rw [View.read_apply]
  show V m c main_v11 ((win0_3.blk t).view.emb y) = _
  congr 1
  funext a
  exact Fin.ext (win0_3.rect_emb_val_of_index_zero t a rfl y)

theorem iblk4 (c : Dev nD) (t : Fin cfg0.N) : (iblk m c 4 t : Vec Ideal S4x1x128 .f32) = V m c main_v12 := by
  funext y
  unfold iblk
  rw [View.read_apply]
  show V m c main_v12 ((win0_4.blk t).view.emb y) = _
  congr 1
  funext a
  exact Fin.ext (win0_4.rect_emb_val_of_index_zero t a rfl y)

theorem iblk5 (c : Dev nD) (t : Fin cfg0.N) : (iblk m c 5 t : Vec Ideal S4x131072x1 .i32) = V m c main_v8 := by
  funext y
  unfold iblk
  rw [View.read_apply]
  show V m c main_v8 ((win0_5.blk t).view.emb y) = _
  congr 1
  funext a
  exact Fin.ext (win0_5.rect_emb_val_of_index_zero t a rfl y)

theorem iblk6 (c : Dev nD) (t : Fin cfg0.N) : (iblk m c 6 t : Vec Ideal S4x1x32768 .i32) = V m c main_v5 := by
  funext y
  unfold iblk
  rw [View.read_apply]
  show V m c main_v5 ((win0_6.blk t).view.emb y) = _
  congr 1
  funext a
  exact Fin.ext (win0_6.rect_emb_val_of_index_zero t a rfl y)

/-! ## The arguments, and the arrays the windows hold -/

def aX (c : Dev nD) : Vec Ideal S2x32768x1024 .bf16 := m (c, Proc.tc.devRef main_arg0)
def aK (c : Dev nD) : Vec Ideal S2x2x32768x128 .fp8e4m3 := m (c, Proc.tc.devRef main_arg1)
def aKs (c : Dev nD) : Vec Ideal S2x2x32768 .f32 := m (c, Proc.tc.devRef main_arg2)
def aV (c : Dev nD) : Vec Ideal S2x2x32768x128 .fp8e4m3 := m (c, Proc.tc.devRef main_arg3)
def aVs (c : Dev nD) : Vec Ideal S2x2x128 .f32 := m (c, Proc.tc.devRef main_arg4)
def aSeg (c : Dev nD) : Vec Ideal S2x32768 .i32 := m (c, Proc.tc.devRef main_arg5)

theorem v2_apply (c : Dev nD) (g : Fin 4) (r : Fin 131072) (d : Fin 128) :
   (V m c main_v2 : Vec Ideal S4x131072x128 .bf16) (ix3 g r d)
    = aX m c (ix3 ⟨g / 2, by omega⟩ ⟨r % 32768, by omega⟩ ⟨g % 2 * 512 + r / 32768 * 128 + d, by omega⟩) := by
  unfold V
  after_results
  pointwise []
  rfl
theorem v8_apply (c : Dev nD) (g : Fin 4) (r : Fin 131072) :
   (V m c main_v8 : Vec Ideal S4x131072x1 .i32) (ix3 g r 0) = aSeg m c (ix2 ⟨g / 2, by omega⟩ ⟨r % 32768, by omega⟩) := by
  unfold V
  after_results
  pointwise []
  rfl
theorem v5_apply (c : Dev nD) (g : Fin 4) (j : Fin 32768) :
   (V m c main_v5 : Vec Ideal S4x1x32768 .i32) (ix3 g 0 j) = aSeg m c (ix2 ⟨g / 2, by omega⟩ j) := by
  unfold V
  after_results
  pointwise []
  rfl
theorem v9_apply (c : Dev nD) (g : Fin 4) (j : Fin 32768) (d : Fin 128) :
   (V m c main_v9 : Vec Ideal S4x32768x128 .fp8e4m3) (ix3 g j d) = aK m c (ix4 ⟨g / 2, by omega⟩ ⟨g % 2, by omega⟩ j d) := by
  unfold V
  after_results
  pointwise []
  rfl
theorem v10_apply (c : Dev nD) (g : Fin 4) (j : Fin 32768)  :
   (V m c main_v10 : Vec Ideal S4x1x32768 .f32) (ix3 g 0 j) = aKs m c (ix3 ⟨g / 2, by omega⟩ ⟨g % 2, by omega⟩ j) := by
  unfold V
  after_results
  pointwise []
  rfl
theorem v11_apply (c : Dev nD) (g : Fin 4) (j : Fin 32768) (d : Fin 128) :
   (V m c main_v11 : Vec Ideal S4x32768x128 .fp8e4m3) (ix3 g j d) = aV m c (ix4 ⟨g / 2, by omega⟩ ⟨g % 2, by omega⟩ j d) := by
  unfold V
  after_results
  pointwise []
  rfl
theorem v12_apply (c : Dev nD) (g : Fin 4) (d : Fin 128) :
   (V m c main_v12 : Vec Ideal S4x1x128 .f32) (ix3 g 0 d) = aVs m c (ix3 ⟨g / 2, by omega⟩ ⟨g % 2, by omega⟩ d) := by
  unfold V
  after_results
  pointwise []
  rfl

/-! ## The result -/

/-- The attention of a memory's arguments. -/
def goal (c : Dev nD) (b : Fin 2) (s : Fin 32768) (l : Fin 1024) : EReal :=
  attention (fun b s l => aX m c (ix3 b s l)) (fun b h j d => aK m c (ix4 b h j d)) (fun b h j => aKs m c (ix3 b h j))
    (fun b h j d => aV m c (ix4 b h j d)) (fun b h d => aVs m c (ix3 b h d)) (fun b s => aSeg m c (ix2 b s)) b s l

/-- The reference's block as attention of any arrays its seven operands regroup. -/
theorem out_eq (x0 : Vec Ideal S4x131072x128 .bf16) (x1 : Vec Ideal S4x32768x128 .fp8e4m3) (x2 : Vec Ideal S4x1x32768 .f32) (x3 : Vec Ideal S4x32768x128 .fp8e4m3)
    (x4 : Vec Ideal S4x1x128 .f32) (x5 : Vec Ideal S4x131072x1 .i32) (x6 : Vec Ideal S4x1x32768 .i32)
    (x : Fin 2 → Fin 32768 → Fin 1024 → EReal) (k : Fin 2 → Fin 2 → Fin 32768 → Fin 128 → EReal) (ks : Fin 2 → Fin 2 → Fin 32768 → EReal)
    (v : Fin 2 → Fin 2 → Fin 32768 → Fin 128 → EReal) (vs : Fin 2 → Fin 2 → Fin 128 → EReal) (seg : Fin 2 → Fin 32768 → BitVec 32)
    (h0 : ∀ (g : Fin 4) (r : Fin 131072) (d : Fin 128), x0 (ix3 g r d) = x ⟨g / 2, by omega⟩ ⟨r % 32768, by omega⟩ ⟨g % 2 * 512 + r / 32768 * 128 + d, by omega⟩)
    (h1 : ∀ (g : Fin 4) (j : Fin 32768) (d : Fin 128), x1 (ix3 g j d) = k ⟨g / 2, by omega⟩ ⟨g % 2, by omega⟩ j d)
    (h2 : ∀ (g : Fin 4) (j : Fin 32768), x2 (ix3 g 0 j) = ks ⟨g / 2, by omega⟩ ⟨g % 2, by omega⟩ j)
    (h3 : ∀ (g : Fin 4) (j : Fin 32768) (d : Fin 128), x3 (ix3 g j d) = v ⟨g / 2, by omega⟩ ⟨g % 2, by omega⟩ j d)
    (h4 : ∀ (g : Fin 4) (d : Fin 128), x4 (ix3 g 0 d) = vs ⟨g / 2, by omega⟩ ⟨g % 2, by omega⟩ d)
    (h5 : ∀ (g : Fin 4) (r : Fin 131072), x5 (ix3 g r 0) = seg ⟨g / 2, by omega⟩ ⟨r % 32768, by omega⟩)
    (h6 : ∀ (g : Fin 4) (j : Fin 32768), x6 (ix3 g 0 j) = seg ⟨g / 2, by omega⟩ j)
    (hx : ∀ b s l, ∃ r : ℝ, x b s l = r) (b : Fin 2) (s : Fin 32768) (l : Fin 1024) :
    out0_7 (F := Ideal) x0 x1 x2 x3 x4 x5 x6 (ix3 b s l) = attention x k ks v vs seg b s l := by
  rw [out_apply _ _ _ _ _ _ _ _ _ _ (fun d => by rw [h0]; exact hx _ _ _)]
  have hb : (⟨(gOf b l : ℕ) / 2, by omega⟩ : Fin 2) = b := Fin.ext (by simp only [gOf]; omega)
  have hh : (⟨(gOf b l : ℕ) % 2, by omega⟩ : Fin 2) = headOf l := Fin.ext (by simp only [gOf, headOf]; omega)
  have hs : (⟨(rOf s l : ℕ) % 32768, by omega⟩ : Fin 32768) = s := Fin.ext (by simp only [rOf]; omega)
  have hd : ∀ d : Fin 128, (⟨(gOf b l : ℕ) % 2 * 512 + (rOf s l : ℕ) / 32768 * 128 + d, by omega⟩ : Fin 1024) = queryOf l d :=
    fun d => Fin.ext (by simp only [gOf, rOf, queryOf]; omega)
  have e0 : (fun d : Fin 128 => x0 (ix3 (gOf b l) (rOf s l) d)) = fun d => x b s (queryOf l d) := by
    funext d; rw [h0, hb, hs, hd]
  have e1 : (fun (j : Fin 32768) (d : Fin 128) => x1 (ix3 (gOf b l) j d)) = k b (headOf l) := by
    funext j d; rw [h1, hb, hh]
  have e2 : (fun (j : Fin 32768) => x2 (ix3 (gOf b l) 0 j)) = ks b (headOf l) := by
    funext j; rw [h2, hb, hh]
  have e3 : (fun (j : Fin 32768) => x3 (ix3 (gOf b l) j (dOf l))) = fun j => v b (headOf l) j (laneOf l) := by
    funext j; rw [h3, hb, hh]; rfl
  have e4 : x4 (ix3 (gOf b l) 0 (dOf l)) = vs b (headOf l) (laneOf l) := by
    rw [h4, hb, hh]; rfl
  have e5 : (fun j : Fin 32768 => x5 (ix3 (gOf b l) (rOf s l) 0) = x6 (ix3 (gOf b l) 0 j)) = fun j => seg b s = seg b j := by
    funext j; rw [h5, h6, hb, hs]
  unfold attention scores rowScore
  rw [e0, e1, e2, e3, e4]
  have e : Row.score (fun d => x b s (queryOf l d)) (k b (headOf l)) (ks b (headOf l)) (fun j => x5 (ix3 (gOf b l) (rOf s l) 0) = x6 (ix3 (gOf b l) 0 j))
      = Row.score (fun d => x b s (queryOf l d)) (k b (headOf l)) (ks b (headOf l)) (fun j => seg b s = seg b j) :=
    funext fun j => if_congr (iff_of_eq (congrFun e5 j)) rfl rfl
  rw [e]

theorem cut_apply (t : Fin cfg0.N) (X : Vec Ideal S2x32768x1024 .bf16) (i : S2x32768x1024.Idx) :
    (cfg0.win 7).cut (grid0.coords t) X i = X i := by
  show X ((cfg0.win 7).xinj (grid0.coords t) i) = X i
  congr 1

theorem arr_apply (c : Dev nD) (hx : ∀ i, ∃ r : ℝ, aX m c i = r) (b : Fin 2) (s : Fin 32768) (l : Fin 1024) :
    ((dats m 0 c).arrAt 7 cfg0.N : Vec Ideal S2x32768x1024 .bf16) (ix3 b s l) = goal m c b s l := by
  obtain ⟨t, ht⟩ : ∃ t : Fin cfg0.N, (cfg0.win 7).flush t = true := ⟨⟨0, by decide +kernel⟩, by decide +kernel⟩
  have h := Value.blocks7 m c t ht
  rw [Value.flushed7, iblk0, iblk1, iblk2, iblk3, iblk4, iblk5, iblk6] at h
  have h' := congrFun h (ix3 b s l)
  rw [View.read_apply] at h'
  have e : ((cfg0.win 7).blk t).view.emb (ix3 b s l) = (ix3 b s l : S2x32768x1024.Idx) := by
    funext a
    exact Fin.ext (win0_7.rect_emb_val_of_index_zero t a rfl _)
  have k := out_eq (V m c main_v2) (V m c main_v9) (V m c main_v10) (V m c main_v11) (V m c main_v12) (V m c main_v8) (V m c main_v5)
    (fun b s l => aX m c (ix3 b s l)) (fun b h j d => aK m c (ix4 b h j d)) (fun b h j => aKs m c (ix3 b h j))
    (fun b h j d => aV m c (ix4 b h j d)) (fun b h d => aVs m c (ix3 b h d)) (fun b s => aSeg m c (ix2 b s)) (v2_apply m c) (v9_apply m c) (v10_apply m c) (v11_apply m c) (v12_apply m c) (fun g r => v8_apply m c g r) (fun g j => v5_apply m c g j)
    (fun _ _ _ => hx _) b s l
  rw [e] at h'
  rw [cast_eq] at h'
  unfold goal
  rw [← k]
  rw [h']
  exact cut_apply t _ _

end Cert.Proof.AttendIdeal

end
-- ==== Proof.Algebraic.lean ====
/- The value claim: from memories that agree on the arguments, the idealized kernel and the reference both end with the
   attention of those arguments. -/
module

public import proofs.«01_k».proof.Defs
public import proofs.«01_k».proof.Proof.Pre
public import proofs.«01_k».proof.Proof.KerArr
public import proofs.«01_k».proof.Proof.RefArr
public import proofs.«01_k».proof.Proof.IdealFrame
public import proofs.«01_k».proof.Proof.Gen.AttendIdeal.Value

@[expose] public section

noncomputable section

namespace Cert.Proof

open Idealize.ShloMosaic Idealize.ShloMosaic.TcCoe

namespace AttnIdeal

open Cert.AttnIdeal Cert.AttnIdeal.Gen

variable (m : (ℓ : Loc nD τ sig) → Buf (Elt Ideal) ℓ) (g : Dev nD → PrngReg)

/-- The idealized kernel ends with attention of its arguments in its result, and its arguments unchanged. -/
theorem value_run (hm : Tame m) : θ_run (defs (F := Ideal)) (onTc (τ := τ) (main (F := Ideal))) ⟨m, fun _ => 0, g⟩ (fun r => ∀ c : Dev nD,
      r.2.mem ((c.tc : Thread nD τ).loc main_v10) = (goalArr m c : Buf (Elt Ideal) ((c.tc : Thread nD τ).loc main_v10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨result_eq hm h.1.1 c, h.2.1 c⟩) (θ_run_and (run_main m g) (frame_run m g))

end AttnIdeal

/-- Memories that agree on the arguments have the same attention. -/
theorem goal_eq (m : (ℓ : Loc Cert.AttnIdeal.nD Cert.AttnIdeal.τ Cert.AttnIdeal.sig) → Buf (Elt Ideal) ℓ)
    (m' : (ℓ : Loc Cert.AttendIdeal.nD Cert.AttendIdeal.τ Cert.AttendIdeal.sig) → Buf (Elt Ideal) ℓ) (c : Fin 1)
    (h0 : AttendIdeal.aX m' c = AttnIdeal.aX m c) (h1 : AttendIdeal.aK m' c = AttnIdeal.aK m c) (h2 : AttendIdeal.aKs m' c = AttnIdeal.aKs m c)
    (h3 : AttendIdeal.aV m' c = AttnIdeal.aV m c) (h4 : AttendIdeal.aVs m' c = AttnIdeal.aVs m c) (h5 : AttendIdeal.aSeg m' c = AttnIdeal.aSeg m c)
    (b : Fin 2) (s : Fin 32768) (l : Fin 1024) : AttendIdeal.goal m' c b s l = AttnIdeal.goal m c b s l := by
  unfold AttendIdeal.goal AttnIdeal.goal
  rw [h0, h1, h2, h3, h4, h5]

theorem algebraic : Cert.algebraic_AttnIdeal_AttendIdeal_pre_tame := by
  intro m g m' g' hpre hagree
  have hm := AttnIdeal.tame_of_pre m hpre
  refine ⟨fun c => AttnIdeal.goalArr m c, AttnIdeal.value_run m g hm, ?_⟩
  refine (θ_run Cert.AttendIdeal.defs _ _).mono (fun _ h c => ⟨(h c).1.trans ?_, (h c).2⟩) (Cert.AttendIdeal.Value.run_blocks m' g')
  obtain ⟨h0, h1, h2, h3, h4, h5⟩ := hagree c
  obtain rfl : c = 0 := Subsingleton.elim _ _
  have hx : ∀ i, ∃ r : ℝ, AttendIdeal.aX m' 0 i = r := fun i => by
    obtain ⟨r, e, -⟩ := hm.real (i 0) (i 1) (i 2)
    refine ⟨r, ?_⟩
    rw [show AttendIdeal.aX m' 0 = AttnIdeal.aX m 0 from h0, ← e]
    refine congrArg (AttnIdeal.aX m 0) (funext fun a => ?_)
    fin_cases a <;> rfl
  funext i
  have e : i = (ix3 (i 0) (i 1) (i 2) : Cert.AttendIdeal.S2x32768x1024.Idx) := by
    funext a
    fin_cases a <;> rfl
  rw [e]
  exact (AttendIdeal.arr_apply m' 0 hx (i 0) (i 1) (i 2)).trans (goal_eq m m' 0 h0 h1 h2 h3 h4 h5 _ _ _)

end Cert.Proof

end
-- ==== Proof.Power.lean ====
/- The kernels' scale is the reference's: the count of the powers of two at most `a / 448` gives the exponent the logarithm gives. -/
module

public import proofs.«01_k».proof.Proof.Scale

@[expose] public section

noncomputable section

namespace Cert.Proof.Row

open Idealize.ShloMosaic Cert.Proof.AttnIdeal

/-- The word of the exponent, from the count of the powers of two. -/
def expWord (n : BitVec 32) : BitVec 32 := Scalar.select (IntOp.cmpi .eq n 0#32) 0#32 (n - 126#32)

/-- The greatest finite value of the inputs' format. -/
abbrev greatest : ℝ := 255 * 2 ^ 120

/-- A greatest magnitude that the scale is exact for. -/
def Normal (a : EReal) : Prop := a = 0 ∨ (((2 : ℝ) ^ (-126 : ℤ) : ℝ) : EReal) ≤ a * (k448 : EReal) ∧ a ≤ (greatest : EReal)

/-- From the least normal number up, the count is the exponent. -/
theorem pow_le_of_card {z : ℝ} (h1 : (2 : ℝ) ^ (-126 : ℤ) ≤ z) : 1 ≤ (fields z).card ∧ (2 : ℝ) ^ (((fields z).card : ℤ) - 127) ≤ z := by
  have one : 1 ≤ (fields z).card := Finset.card_pos.2 ⟨⟨1, by omega⟩, mem_fields.2 ⟨le_rfl, by norm_num, by norm_num at h1 ⊢; exact h1⟩⟩
  refine ⟨one, ?_⟩
  by_contra hc
  have hc := not_le.1 hc
  have hsub : (fields z).card ≤ (Finset.Icc 1 ((fields z).card - 1)).card := by
    refine Finset.card_le_card_of_injOn (fun x : Fin 256 => (x : ℕ)) (fun x hx => ?_) (fun a _ b _ h => Fin.ext h)
    obtain ⟨a1, -, a3⟩ := mem_fields.1 hx
    have := (zpow_lt_zpow_iff_right₀ (by norm_num : (1 : ℝ) < 2)).1 (a3.trans_lt hc)
    simp only [Finset.coe_Icc, Set.mem_Icc]
    omega
  simp at hsub
  omega

theorem floor_log {z : ℝ} {n : ℤ} (h1 : (2 : ℝ) ^ n ≤ z) (h2 : z < (2 : ℝ) ^ (n + 1)) : ⌊Real.log z / Real.log 2⌋ = n := by
  have hl : 0 < Real.log 2 := Real.log_pos (by norm_num)
  have hz : 0 < z := lt_of_lt_of_le (by positivity) h1
  rw [Int.floor_eq_iff]
  constructor
  · rw [le_div_iff₀ hl, ← Real.log_zpow]
    exact Real.log_le_log (by positivity) h1
  · rw [div_lt_iff₀ hl]
    have := Real.log_lt_log hz h2
    rw [Real.log_zpow] at this
    push_cast at this
    exact this

theorem expo_pos {a : ℝ} (ha : 0 < a) : expo a = (((⌊Real.log (a * k448) / Real.log 2⌋ : ℝ) + 1 : ℝ) : EReal) := by
  have hy : 0 < a * k448 := mul_pos ha (by norm_num)
  have hl : 0 < Real.log 2 := Real.log_pos (by norm_num)
  have e1 : Ideal.log ((a : EReal) * (k448 : EReal)) = ((Real.log (a * k448) : ℝ) : EReal) := by
    rw [← EReal.coe_mul]; show (if a * k448 ≤ 0 then ⊥ else _) = _; rw [if_neg (not_le.2 hy)]
  have e2 : Ideal.log ((2 : ℝ) : EReal) = ((Real.log 2 : ℝ) : EReal) := by
    show (if (2 : ℝ) ≤ 0 then ⊥ else _) = _; rw [if_neg (by norm_num)]
  unfold expo
  rw [if_neg (by exact_mod_cast ha.ne'), e1, e2, Ideal.div_coe hl.ne', ← EReal.coe_mul, mul_one_div]
  rfl

theorem exp2_int (n : ℤ) : Ideal.exp2 ((n : ℝ) : EReal) = (((2 : ℝ) ^ n : ℝ) : EReal) := by
  show ((Real.rpow 2 (n : ℝ) : ℝ) : EReal) = _
  exact congrArg _ (Real.rpow_intCast 2 n)

/-- The kernels' scale and its inverse, from the count, are the reference's. -/
theorem word_scale {a : EReal} (h : Normal a) : ∃ z : ℝ, a * (k448 : EReal) = (z : EReal) ∧
    Ideal.ofBits .f32 (IntOp.shli .vector (expWord (BitVec.ofNat 32 (fields z).card) + 127#32) 23#32) = Ideal.exp2 (expo a) ∧
    Ideal.ofBits .f32 (IntOp.shli .vector (127#32 - expWord (BitVec.ofNat 32 (fields z).card)) 23#32) = Ideal.exp2 (0 - expo a) := by
  rcases h with rfl | ⟨h1, h2⟩
  · have c : (fields 0).card = 0 := by
      rw [Finset.card_eq_zero, Finset.eq_empty_iff_forall_notMem]
      intro x hx
      exact absurd (mem_fields.1 hx).2.2 (not_le.2 (by positivity))
    have e : expWord (BitVec.ofNat 32 0) = 0#32 := by decide
    have ex : expo 0 = ((0 : ℤ) : ℝ) := by unfold expo; simp
    refine ⟨0, by simp, ?_, ?_⟩
    · rw [c, e, ex, exp2_int, show (0#32 + 127#32 : BitVec 32) = BitVec.ofNat 32 127 by decide, pow2_bits (by norm_num) (by norm_num)]
      norm_num
    · rw [c, e, ex, show (0 : EReal) - (((0 : ℤ) : ℝ) : EReal) = (((0 : ℤ) : ℝ) : EReal) by simp, exp2_int, show (127#32 - 0#32 : BitVec 32) = BitVec.ofNat 32 127 by decide, pow2_bits (by norm_num) (by norm_num)]
      norm_num
  · have hk : 0 < k448 := by norm_num
    induction a using EReal.rec with
    | bot => rw [EReal.bot_mul_coe_of_pos hk] at h1; exact absurd (le_bot_iff.1 h1) (EReal.coe_ne_bot _)
    | top => exact absurd (top_le_iff.1 h2) (EReal.coe_ne_top _)
    | coe a =>
      rw [← EReal.coe_mul] at h1
      have h1 := EReal.coe_le_coe_iff.1 h1
      have h2 := EReal.coe_le_coe_iff.1 h2
      have ha : 0 < a := by
        by_contra hn
        have : a * k448 ≤ 0 := mul_nonpos_of_nonpos_of_nonneg (not_lt.1 hn) hk.le
        have : (0 : ℝ) < (2 : ℝ) ^ (-126 : ℤ) := by positivity
        linarith
      have hlt : a * k448 < (2 : ℝ) ^ (120 : ℤ) := by
        have : greatest * k448 < (2 : ℝ) ^ (120 : ℤ) := by norm_num
        exact lt_of_le_of_lt (mul_le_mul_of_nonneg_right h2 hk.le) this
      obtain ⟨hc, hp⟩ := lt_pow hlt
      obtain ⟨one, hq⟩ := pow_le_of_card h1
      have fl := floor_log hq (by rw [show ((fields (a * k448)).card : ℤ) - 127 + 1 = ((fields (a * k448)).card : ℤ) - 126 by ring]; exact hp)
      have ex := expo_pos ha
      rw [fl] at ex
      refine ⟨a * k448, by rw [EReal.coe_mul], ?_⟩
      generalize (fields (a * k448)).card = c at *
      have ex : expo a = (((c : ℤ) - 126 : ℤ) : ℝ) := by
        rw [ex]
        refine congrArg (fun r : ℝ => (r : EReal)) ?_
        push_cast
        ring
      have ex' : 0 - expo a = ((-((c : ℤ) - 126) : ℤ) : ℝ) := by rw [ex, zero_sub, ← EReal.coe_neg]; push_cast; rfl
      obtain ⟨b1, b2, b3⟩ := bump ⟨c, by omega⟩ one
      simp only at b1 b2 b3
      have e : expWord (BitVec.ofNat 32 c) = BitVec.ofNat 32 c - 126#32 := by
        unfold expWord
        have : IntOp.cmpi .eq (BitVec.ofNat 32 c) 0#32 = 0#1 := by
          show BitVec.ofBool (BitVec.ofNat 32 c == 0#32) = 0#1
          rw [beq_eq_false_iff_ne.2 b1]; rfl
        rw [this]; rfl
      rw [e, b2, b3, if_pos (by omega), BitVec.add_zero, pow2_bits (by omega) (by omega), pow2_bits (by omega) (by omega), ex', ex, exp2_int, exp2_int,
        show ((c + 1 : ℕ) : ℤ) - 127 = (c : ℤ) - 126 by push_cast; ring,
        show ((253 - c : ℕ) : ℤ) - 127 = -((c : ℤ) - 126) by push_cast [Nat.cast_sub (show c ≤ 253 by omega)]; ring]
      exact ⟨rfl, rfl⟩

end Cert.Proof.Row

end
-- ==== Proof.Rows.lean ====
/- One block of 512 rows through a quantising kernel: the greatest magnitudes, the scale from the count, the codes. -/
module

public import proofs.«01_k».proof.Proof.Power
public import proofs.«01_k».proof.Proof.Gen.QuantKIdeal.Value
public import Idealize.ShloMosaic.Lib.Pointwise

@[expose] public section

noncomputable section

namespace Cert.Proof.Rows

open Cert.QuantKIdeal Cert.QuantKIdeal.Gen
open Idealize.ShloMosaic Idealize.ShloMosaic.TcCoe

/-- The greatest magnitude of finitely many entries. -/
def greatestOf {ι : Type} [Fintype ι] (x : ι → EReal) : EReal := Finset.univ.fold max (⊥ : EReal) fun d => FloatOps.absf (F := Ideal) (φ := .f32) (x d)

/-- A code of a row of greatest magnitude `a`. -/
def code (a x : EReal) : EReal := min ((448 : ℝ) : EReal) (max ((-448 : ℝ) : EReal) (x * Ideal.exp2 (0 - Row.expo a)))

/-- The rows' greatest magnitudes over 448. -/
def yv (x : FVec Ideal S512x128 .f32) : FVec Ideal S512x1 .f32 :=
  mulf (shapeCast S512x1 (multiReduction .maximumf [1] S512 (absf x) 0xFF800000#32 reduces_S512x128_S512 (.inl rfl) rfl) shapeCasts_S512_S512x1)
    (broadcast S512x1 (Scalar.ofBits .f32 0x3B124925#32))

theorem yv_apply (x : FVec Ideal S512x128 .f32) (r : Fin 512) :
    yv x (ix2 r 0) = greatestOf (fun d : Fin 128 => x (ix2 r d)) * (Row.k448 : EReal) := by
  unfold greatestOf
  rw [← Row.bits_bot, ← Row.bits_inv]
  unfold yv
  pointwise

/-- The counts of the powers of two at most the rows' entries of `y`. -/
def nv (y : FVec Ideal S512x1 .f32) : IVec S512x1 32 :=
  shapeCast S512x1 (multiReductionI .add [1] S512 (select (andi (cmpi .sgt (iota .tc S512x256 32 [1] iota_S512x256_d1_w32) (broadcast S512x256 0#32))
      (cmpf .oge (broadcastTo S512x256 y broadcasts_S512x1_S512x256) (bitcastToFloat .f32 (shli (iota .tc S512x256 32 [1] iota_S512x256_d1_w32) (broadcast S512x256 23#32)))))
    (broadcast S512x256 1#32) (broadcast S512x256 0#32)) 0#32 reduces_S512x256_S512 rfl) shapeCasts_S512_S512x1

open Cert.Proof.AttnIdeal in
theorem nv_apply (y : FVec Ideal S512x1 .f32) (r : Fin 512) {z : ℝ} (hz : y (ix2 r 0) = (z : EReal)) :
    nv y (ix2 r 0) = BitVec.ofNat 32 (fields z).card := by
  unfold nv
  pointwise
  simp only [select_width]
  rw [IndicatorCount.fold_addi_setWidth_eq_card]
  congr 2
  ext x
  unfold fields
  simp only [Finset.mem_filter, Finset.mem_univ, true_and, andi_one, ofBool_one, sgt_zero, decide_eq_true_eq, hz]

/-- The exponents, the scales and their inverses of the rows of `x`. -/
def wordv (x : FVec Ideal S512x128 .f32) : IVec S512x1 32 :=
  select (cmpi .eq (nv (yv x)) (broadcast S512x1 0#32)) (broadcast S512x1 0#32) (subi (nv (yv x)) (broadcast S512x1 126#32))
def scalev (x : FVec Ideal S512x128 .f32) : FVec Ideal S512x1 .f32 := bitcastToFloat .f32 (shli (addi (wordv x) (broadcast S512x1 127#32)) (broadcast S512x1 23#32))
def invv (x : FVec Ideal S512x128 .f32) : FVec Ideal S512x1 .f32 := bitcastToFloat .f32 (shli (subi (broadcast S512x1 127#32) (wordv x)) (broadcast S512x1 23#32))

theorem wordv_apply (x : FVec Ideal S512x128 .f32) (r : Fin 512) : wordv x (ix2 r 0) = Row.expWord (nv (yv x) (ix2 r 0)) := rfl

theorem scale_inv (x : FVec Ideal S512x128 .f32) (r : Fin 512) (h : Row.Normal (greatestOf fun d : Fin 128 => x (ix2 r d))) :
    scalev x (ix2 r 0) = Ideal.exp2 (Row.expo (greatestOf fun d : Fin 128 => x (ix2 r d)))
      ∧ invv x (ix2 r 0) = Ideal.exp2 (0 - Row.expo (greatestOf fun d : Fin 128 => x (ix2 r d))) := by
  obtain ⟨z, hz, h1, h2⟩ := Row.word_scale h
  rw [← yv_apply] at hz
  rw [← h1, ← h2, ← nv_apply (yv x) r hz, ← wordv_apply]
  exact ⟨rfl, rfl⟩

/-- The rows of `x` over the scales, clipped. -/
def clipv (x : FVec Ideal S512x128 .f32) (i : FVec Ideal S512x1 .f32) : FVec Ideal S512x128 .f32 :=
  minimumf (broadcast S512x128 (Scalar.ofBits .f32 0x43E00000#32)) (maximumf (broadcast S512x128 (Scalar.ofBits .f32 0xC3E00000#32)) (mulf x (broadcastTo S512x128 i broadcasts_S512x1_S512x128)))

theorem clipv_apply (x : FVec Ideal S512x128 .f32) (i : FVec Ideal S512x1 .f32) (r : Fin 512) (d : Fin 128) :
    clipv x i (ix2 r d) = min ((448 : ℝ) : EReal) (max ((-448 : ℝ) : EReal) (x (ix2 r d) * i (ix2 r 0))) := by
  rw [← Row.bits_448, ← Row.bits_neg448]
  unfold clipv
  pointwise

theorem clipv_code (x : FVec Ideal S512x128 .f32) (r : Fin 512) (d : Fin 128) (h : Row.Normal (greatestOf fun d : Fin 128 => x (ix2 r d))) :
    clipv x (invv x) (ix2 r d) = code (greatestOf fun d : Fin 128 => x (ix2 r d)) (x (ix2 r d)) := by
  rw [clipv_apply, (scale_inv x r h).2]
  rfl

end Cert.Proof.Rows

end
-- ==== Proof.KeysKer.lean ====
/- The blocks the keys' quantising kernel writes: the codes of a block of 512 positions, and their scales. -/
module

public import proofs.«01_k».proof.Proof.Rows
public import Idealize.ShloMosaic.Lib.Pipeline.ValueKit.Tiles
public import Idealize.ShloMosaic.Lib.Pipeline.ValueKit.Geometry

@[expose] public section

noncomputable section

namespace Cert.Proof.QuantKIdeal

open Cert.QuantKIdeal Cert.QuantKIdeal.Gen Cert.Proof.Rows
open Idealize.ShloMosaic Idealize.ShloMosaic.TcCoe

/-- The columns of head `h`. -/
abbrev colOf (h : Fin 2) (d : Fin 128) : Fin 256 := ⟨h * 128 + d, by omega⟩

/-- The greatest magnitude of a row of a head. -/
def top (x0 : Vec Ideal S1x512x256 .bf16) (h : Fin 2) (r : Fin 512) : EReal := greatestOf fun d : Fin 128 => x0 (ix3 0 r (colOf h d))

theorem ld0 (x0 : Vec Ideal S1x512x256 .bf16) (r : Fin 512) (d : Fin 128) : k0_pay5 (F := Ideal) (View.ld x0 r0_0) (ix2 r d) = x0 (ix3 0 r (colOf 0 d)) := by
  have e : k0_pay5 (F := Ideal) (View.ld x0 r0_0) (ix2 r d) = View.ld x0 r0_0 (ix3 0 r d) := by pointwise [k0_pay5]
  rw [e]
  refine View.ld_unit_apply_of x0 _ _ _ _ _ fun a => ?_
  fin_cases a
  · rfl
  · exact (Nat.zero_add _).symm
  · exact congrArg (· + (d : ℕ)) (Nat.zero_mul 128)

theorem ld1 (x0 : Vec Ideal S1x512x256 .bf16) (r : Fin 512) (d : Fin 128) : k0_pay5 (F := Ideal) (View.ld x0 r0_2) (ix2 r d) = x0 (ix3 0 r (colOf 1 d)) := by
  have e : k0_pay5 (F := Ideal) (View.ld x0 r0_2) (ix2 r d) = View.ld x0 r0_2 (ix3 0 r d) := by pointwise [k0_pay5]
  rw [e]
  refine View.ld_unit_apply_of x0 _ _ _ _ _ fun a => ?_
  fin_cases a
  · rfl
  · exact (Nat.zero_add _).symm
  · exact congrArg (· + (d : ℕ)) (Nat.one_mul 128)

theorem store_eq (x : FVec Ideal S512x128 .f32) (i : FVec Ideal S512x1 .f32) (r : Fin 512) (d : Fin 128) :
    k0_pay9 (F := Ideal) x i (ix4 0 0 r d) = clipv x i (ix2 r d) := by
  rw [clipv_apply, ← Row.bits_448, ← Row.bits_neg448]
  pointwise [k0_pay9]

/-- The codes of a block. -/
def codesOf (x0 : Vec Ideal S1x512x256 .bf16) : Vec Ideal S1x2x512x128 .fp8e4m3 :=
  fun y => code (top x0 (y 1) (y 2)) (x0 (ix3 0 (y 2) (colOf (y 1) (y 3))))

theorem codes_eq (x0 : Vec Ideal S1x512x256 .bf16) (h : ∀ h r, Row.Normal (top x0 h r)) : out0_1 (F := Ideal) x0 = codesOf x0 := by
  funext y
  refine View.canon_apply_of_pieces (codesOf x0) _ ?_ y (cover0_1 _ _ y)
  intro pc hpc
  rcases List.mem_cons.mp hpc with rfl | hpc
  · intro x
    obtain ⟨r, d, rfl⟩ : ∃ (r : Fin 512) (d : Fin 128), x = (ix4 0 0 r d : S1x1x512x128.Idx) := ⟨x 2, x 3, by
      funext a; fin_cases a
      · exact Subsingleton.elim (α := Fin 1) _ _
      · exact Subsingleton.elim (α := Fin 1) _ _
      · rfl
      · rfl⟩
    have e : r0_3.emb (ix4 0 0 r d : S1x1x512x128.Idx) = (ix4 0 1 r d : S1x2x512x128.Idx) := by
      funext a; refine Fin.ext ((Rect.idx_unit_val _ _ _ _ _).trans ?_); fin_cases a
      · rfl
      · rfl
      · exact Nat.zero_add _
      · exact Nat.zero_add _
    have t : greatestOf (fun d : Fin 128 => k0_pay5 (F := Ideal) (View.ld x0 r0_2) (ix2 r d)) = top x0 1 r := congrArg _ (funext fun d => ld1 x0 r d)
    show k0_pay9 (F := Ideal) (k0_pay5 (View.ld x0 r0_2)) (invv (k0_pay5 (View.ld x0 r0_2))) (ix4 0 0 r d) = codesOf x0 (r0_3.emb (ix4 0 0 r d : S1x1x512x128.Idx))
    rw [e, store_eq, clipv_code _ _ _ (by rw [t]; exact h 1 r), t, ld1]
    rfl
  rcases List.mem_cons.mp hpc with rfl | hpc
  · intro x
    obtain ⟨r, d, rfl⟩ : ∃ (r : Fin 512) (d : Fin 128), x = (ix4 0 0 r d : S1x1x512x128.Idx) := ⟨x 2, x 3, by
      funext a; fin_cases a
      · exact Subsingleton.elim (α := Fin 1) _ _
      · exact Subsingleton.elim (α := Fin 1) _ _
      · rfl
      · rfl⟩
    have e : r0_1.emb (ix4 0 0 r d : S1x1x512x128.Idx) = (ix4 0 0 r d : S1x2x512x128.Idx) := by
      funext a; refine Fin.ext ((Rect.idx_unit_val _ _ _ _ _).trans ?_); fin_cases a
      · rfl
      · rfl
      · exact Nat.zero_add _
      · exact Nat.zero_add _
    have t : greatestOf (fun d : Fin 128 => k0_pay5 (F := Ideal) (View.ld x0 r0_0) (ix2 r d)) = top x0 0 r := congrArg _ (funext fun d => ld0 x0 r d)
    show k0_pay9 (F := Ideal) (k0_pay5 (View.ld x0 r0_0)) (invv (k0_pay5 (View.ld x0 r0_0))) (ix4 0 0 r d) = codesOf x0 (r0_1.emb (ix4 0 0 r d : S1x1x512x128.Idx))
    rw [e, store_eq, clipv_code _ _ _ (by rw [t]; exact h 0 r), t, ld0]
    rfl
  nomatch hpc

/-- The scales of a block, the heads' columns laid one per row. -/
def two (s0 s1 : FVec Ideal S512x1 .f32) : FVec Ideal S1x2x512 .f32 :=
  shapeCast S1x2x512 (extractStridedSlice S2x512 ![0, 0] (transpose S128x512 [1, 0] (select (cmpi .eq (iota .tc S512x128 32 [1] iota_S512x128_d1_w32) (broadcast S512x128 1#32))
    (broadcastTo S512x128 (shapeCast S512x1 s1 shapeCasts_S512x1_S512x1) broadcasts_S512x1_S512x128)
    (select (cmpi .eq (iota .tc S512x128 32 [1] iota_S512x128_d1_w32) (broadcast S512x128 0#32)) (broadcastTo S512x128 (shapeCast S512x1 s0 shapeCasts_S512x1_S512x1) broadcasts_S512x1_S512x128) k0_pay4))
    transposes_S512x128_p1_0_S128x512) slices_S128x512_o0_0_S2x512) shapeCasts_S2x512_S1x2x512

theorem two_apply (s0 s1 : FVec Ideal S512x1 .f32) (h : Fin 2) (r : Fin 512) :
    two s0 s1 (ix3 0 h r) = Scalar.select (IntOp.cmpi .eq (BitVec.ofNat 32 h) 1#32) (s1 (ix2 r 0)) (Scalar.select (IntOp.cmpi .eq (BitVec.ofNat 32 h) 0#32) (s0 (ix2 r 0)) 0) := by
  unfold two
  pointwise [k0_pay4]

theorem pay3_eq (s0 : FVec Ideal S512x1 .f32) (w : Vec Ideal S1x512x128 .bf16) :
    k0_pay3 (F := Ideal) (iota .tc S512x128 32 [1] iota_S512x128_d1_w32) (k0_pay10 (iota .tc S512x128 32 [1] iota_S512x128_d1_w32) k0_pay4 s0) (k0_pay12 w) (k0_pay13 w) k0_pay14
      = two s0 (scalev (k0_pay5 w)) := rfl

theorem scales_eq (x0 : Vec Ideal S1x512x256 .bf16) (h : ∀ h r, Row.Normal (top x0 h r)) (i : Fin 2) (r : Fin 512) :
    out0_2 (F := Ideal) x0 (ix3 0 i r) = Ideal.exp2 (Row.expo (top x0 i r)) := by
  have e : out0_2 (F := Ideal) x0 = two (scalev (k0_pay5 (View.ld x0 r0_0))) (scalev (k0_pay5 (View.ld x0 r0_2))) := by
    rw [← pay3_eq]
    unfold out0_2
    exact View.canon_cons_unit_lit (Val := Elt Ideal) (S := S1x2x512) (off := ![0, 0, 0]) _ _ _ (by decide)
  have t0 : greatestOf (fun d : Fin 128 => k0_pay5 (F := Ideal) (View.ld x0 r0_0) (ix2 r d)) = top x0 0 r := congrArg _ (funext fun d => ld0 x0 r d)
  have t1 : greatestOf (fun d : Fin 128 => k0_pay5 (F := Ideal) (View.ld x0 r0_2) (ix2 r d)) = top x0 1 r := congrArg _ (funext fun d => ld1 x0 r d)
  rw [e, two_apply, (scale_inv (k0_pay5 (View.ld x0 r0_0)) r (t0 ▸ h 0 r)).1, (scale_inv (k0_pay5 (View.ld x0 r0_2)) r (t1 ▸ h 1 r)).1, t0, t1]
  fin_cases i <;> rfl

end Cert.Proof.QuantKIdeal

end
-- ==== Proof.KeysArr.lean ====
/- The result arrays of the keys' quantising kernel: the codes and the scales of the argument. -/
module

public import proofs.«01_k».proof.Proof.KeysKer

@[expose] public section

noncomputable section

namespace Cert.Proof.QuantKIdeal

open Cert.QuantKIdeal Cert.QuantKIdeal.Gen Cert.Proof.Rows
open Idealize.ShloMosaic Idealize.ShloMosaic.TcCoe

/-- The greatest magnitude of a row of a head, the codes and the scales of the keys `k`. -/
def topK (k : Vec Ideal S2x32768x256 .bf16) (b h : Fin 2) (s : Fin 32768) : EReal := greatestOf fun d : Fin 128 => k (ix3 b s (colOf h d))
def codesK (k : Vec Ideal S2x32768x256 .bf16) : Vec Ideal S2x2x32768x128 .fp8e4m3 :=
  fun i => code (topK k (i 0) (i 1) (i 2)) (k (ix3 (i 0) (i 2) (colOf (i 1) (i 3))))
def scalesK (k : Vec Ideal S2x32768x256 .bf16) : Vec Ideal S2x2x32768 .f32 := fun i => Ideal.exp2 (Row.expo (topK k (i 0) (i 1) (i 2)))

variable (m : (ℓ : Loc nD τ sig) → Buf (Elt Ideal) ℓ)

def aK (c : Dev nD) : Vec Ideal S2x32768x256 .bf16 := m (c, Proc.tc.devRef main_arg0)

def seqAt (t : Fin grid0.N) : Fin 2 := grid0.coords t 0
def posAt (t : Fin grid0.N) (r : Fin 512) : Fin 32768 :=
  ⟨(grid0.coords t 1).val * 512 + r, by have h : (grid0.coords t 1).val < 64 := (grid0.coords t 1).isLt; omega⟩

theorem tr0 : ∀ t : Fin grid0.N, cc0_transform_0 (grid0.coords t) = ![(grid0.coords t 0).val, (grid0.coords t 1).val, 0] := by decide +kernel
theorem tr1 : ∀ t : Fin grid0.N, cc0_transform_1 (grid0.coords t) = ![(grid0.coords t 0).val, 0, (grid0.coords t 1).val, 0] := by decide +kernel
theorem tr2 : ∀ t : Fin grid0.N, cc0_transform_2 (grid0.coords t) = ![(grid0.coords t 0).val, 0, (grid0.coords t 1).val] := by decide +kernel

theorem point : ∀ (b : Fin 2) (q : Fin 64), ∃ t : Fin grid0.N, (grid0.coords t 0).val = b ∧ (grid0.coords t 1).val = q := by decide +kernel

def kB (c : Dev nD) (t : Fin grid0.N) : Vec Ideal S1x512x256 .bf16 := iblk m c 0 t

theorem kB_apply (c : Dev nD) (t : Fin grid0.N) (r : Fin 512) (l : Fin 256) : kB m c t (ix3 0 r l) = aK m c (ix3 (seqAt t) (posAt t r) l) := by
  unfold kB iblk
  rw [View.read_apply]
  show V m c main_arg0 ((win0_0.blk t).view.emb (ix3 0 r l)) = _
  rw [V_main_arg0]
  show aK m c ((win0_0.blk t).view.emb (ix3 0 r l)) = _
  congr 1
  funext a
  apply Fin.ext
  refine (win0_0.rect_emb_val t (ix3 0 r l) a).trans ?_
  show cc0_transform_0 (grid0.coords t) a * S1x512x256.size a + ((ix3 0 r l : S1x512x256.Idx) a : ℕ) = _
  rw [tr0]
  fin_cases a
  · exact (Nat.add_zero _).trans (Nat.mul_one _)
  · rfl
  · exact (congrArg (· + (l : ℕ)) (Nat.zero_mul 256)).trans (Nat.zero_add _)

theorem top_eq (c : Dev nD) (t : Fin grid0.N) (h : Fin 2) (r : Fin 512) : top (kB m c t) h r = topK (aK m c) (seqAt t) h (posAt t r) := by
  unfold top topK
  congr 1
  funext d
  exact kB_apply m c t r _

/-- Every row of every head has a greatest magnitude the scale is exact for. -/
def Tame (k : Vec Ideal S2x32768x256 .bf16) : Prop := ∀ b h s, Row.Normal (topK k b h s)

variable {m}

theorem codes_emb (c : Dev nD) (hm : Tame (aK m c)) (t : Fin grid0.N) (y : S1x2x512x128.Idx) :
    out0_1 (F := Ideal) (kB m c t) y = codesK (aK m c) ((win0_1.blk t).view.emb y) := by
  obtain ⟨a, h, r, d, rfl⟩ : ∃ (a : Fin 1) (h : Fin 2) (r : Fin 512) (d : Fin 128), y = ix4 a h r d := ⟨y 0, y 1, y 2, y 3, by funext a; fin_cases a <;> rfl⟩
  obtain rfl : a = 0 := Subsingleton.elim _ _
  have e : (win0_1.blk t).view.emb (ix4 0 h r d) = (ix4 (seqAt t) h (posAt t r) d : S2x2x32768x128.Idx) := by
    funext a
    apply Fin.ext
    refine (win0_1.rect_emb_val t (ix4 0 h r d) a).trans ?_
    show cc0_transform_1 (grid0.coords t) a * S1x2x512x128.size a + ((ix4 0 h r d : S1x2x512x128.Idx) a : ℕ) = _
    rw [tr1]
    fin_cases a
    · exact (Nat.add_zero _).trans (Nat.mul_one _)
    · exact (congrArg (· + (h : ℕ)) (Nat.zero_mul 2)).trans (Nat.zero_add _)
    · rfl
    · exact (congrArg (· + (d : ℕ)) (Nat.zero_mul 128)).trans (Nat.zero_add _)
  rw [e, codes_eq _ (fun h r => by rw [top_eq]; exact hm _ _ _)]
  show code (top (kB m c t) h r) (kB m c t (ix3 0 r (colOf h d))) = code (topK (aK m c) (seqAt t) h (posAt t r)) (aK m c (ix3 (seqAt t) (posAt t r) (colOf h d)))
  rw [top_eq, kB_apply]

theorem scales_emb (c : Dev nD) (hm : Tame (aK m c)) (t : Fin grid0.N) (y : S1x2x512.Idx) :
    out0_2 (F := Ideal) (kB m c t) y = scalesK (aK m c) ((win0_2.blk t).view.emb y) := by
  obtain ⟨a, h, r, rfl⟩ : ∃ (a : Fin 1) (h : Fin 2) (r : Fin 512), y = ix3 a h r := ⟨y 0, y 1, y 2, by funext a; fin_cases a <;> rfl⟩
  obtain rfl : a = 0 := Subsingleton.elim _ _
  have e : (win0_2.blk t).view.emb (ix3 0 h r) = (ix3 (seqAt t) h (posAt t r) : S2x2x32768.Idx) := by
    funext a
    apply Fin.ext
    refine (win0_2.rect_emb_val t (ix3 0 h r) a).trans ?_
    show cc0_transform_2 (grid0.coords t) a * S1x2x512.size a + ((ix3 0 h r : S1x2x512.Idx) a : ℕ) = _
    rw [tr2]
    fin_cases a
    · exact (Nat.add_zero _).trans (Nat.mul_one _)
    · exact (congrArg (· + (h : ℕ)) (Nat.zero_mul 2)).trans (Nat.zero_add _)
    · rfl
  rw [e, scales_eq _ (fun h r => by rw [top_eq]; exact hm _ _ _)]
  show Ideal.exp2 (Row.expo (top (kB m c t) h r)) = Ideal.exp2 (Row.expo (topK (aK m c) (seqAt t) h (posAt t r)))
  rw [top_eq]

theorem covered1 (i : S2x2x32768x128.Idx) : ∃ t : Fin grid0.N, i ∈ (win0_1.blk t).view.set := by
  obtain ⟨b, h, s, d, rfl⟩ : ∃ (b : Fin 2) (h : Fin 2) (s : Fin 32768) (d : Fin 128), i = ix4 b h s d := ⟨i 0, i 1, i 2, i 3, by funext a; fin_cases a <;> rfl⟩
  obtain ⟨t, h0, h1⟩ := point b ⟨s / 512, by omega⟩
  refine ⟨t, (win0_1.emb_mem_blk_iff t (ix4 b h s d)).mpr fun a => ?_⟩
  show cc0_transform_1 (grid0.coords t) a * S1x2x512x128.size a ≤ ((ix4 b h s d : S2x2x32768x128.Idx) a : ℕ)
    ∧ ((ix4 b h s d : S2x2x32768x128.Idx) a : ℕ) < cc0_transform_1 (grid0.coords t) a * S1x2x512x128.size a + S1x2x512x128.size a
  rw [tr1, h0, h1]
  fin_cases a
  · show (b : ℕ) * 1 ≤ b ∧ (b : ℕ) < b * 1 + 1
    omega
  · show 0 * 2 ≤ (h : ℕ) ∧ (h : ℕ) < 0 * 2 + 2
    omega
  · show (s : ℕ) / 512 * 512 ≤ s ∧ (s : ℕ) < s / 512 * 512 + 512
    omega
  · show 0 * 128 ≤ (d : ℕ) ∧ (d : ℕ) < 0 * 128 + 128
    omega

theorem covered2 (i : S2x2x32768.Idx) : ∃ t : Fin grid0.N, i ∈ (win0_2.blk t).view.set := by
  obtain ⟨b, h, s, rfl⟩ : ∃ (b : Fin 2) (h : Fin 2) (s : Fin 32768), i = ix3 b h s := ⟨i 0, i 1, i 2, by funext a; fin_cases a <;> rfl⟩
  obtain ⟨t, h0, h1⟩ := point b ⟨s / 512, by omega⟩
  refine ⟨t, (win0_2.emb_mem_blk_iff t (ix3 b h s)).mpr fun a => ?_⟩
  show cc0_transform_2 (grid0.coords t) a * S1x2x512.size a ≤ ((ix3 b h s : S2x2x32768.Idx) a : ℕ)
    ∧ ((ix3 b h s : S2x2x32768.Idx) a : ℕ) < cc0_transform_2 (grid0.coords t) a * S1x2x512.size a + S1x2x512.size a
  rw [tr2, h0, h1]
  fin_cases a
  · show (b : ℕ) * 1 ≤ b ∧ (b : ℕ) < b * 1 + 1
    omega
  · show 0 * 2 ≤ (h : ℕ) ∧ (h : ℕ) < 0 * 2 + 2
    omega
  · show (s : ℕ) / 512 * 512 ≤ s ∧ (s : ℕ) < s / 512 * 512 + 512
    omega

theorem flush1 : ∀ t : Fin grid0.N, win0_1.flush t = true :=
  (fun t => (Pipeline.Window.flush_reads win0_1 rfl 1 (by decide) (by decide) (Pipeline.Window.sep_of_coord cc0_transform_1 1 2 (fun _ => rfl) (by decide)) (P := 1) (m := 0) (by decide) rfl t).mpr (Nat.mod_one _))
theorem flush2 : ∀ t : Fin grid0.N, win0_2.flush t = true :=
  (fun t => (Pipeline.Window.flush_reads win0_2 rfl 1 (by decide) (by decide) (Pipeline.Window.sep_of_coord cc0_transform_2 1 2 (fun _ => rfl) (by decide)) (P := 1) (m := 0) (by decide) rfl t).mpr (Nat.mod_one _))

def outC (m : (ℓ : Loc nD τ sig) → Buf (Elt Ideal) ℓ) (c : Dev nD) (t : Fin grid0.N) : Vec Ideal S1x2x512x128 .fp8e4m3 := out0_1 (kB m c t)
def outS (m : (ℓ : Loc nD τ sig) → Buf (Elt Ideal) ℓ) (c : Dev nD) (t : Fin grid0.N) : Vec Ideal S1x2x512 .f32 := out0_2 (kB m c t)

theorem outC_emb (c : Dev nD) (hm : Tame (aK m c)) (t : Fin cfg0.N) (y : S1x2x512x128.Idx) : outC m c t y = codesK (aK m c) (((cfg0.win 1).blk t).view.emb y) :=
  codes_emb c hm t y
theorem outS_emb (c : Dev nD) (hm : Tame (aK m c)) (t : Fin cfg0.N) (y : S1x2x512.Idx) : outS m c t y = scalesK (aK m c) (((cfg0.win 2).blk t).view.emb y) :=
  scales_emb c hm t y

theorem codes_arr (c : Dev nD) (hm : Tame (aK m c)) : ((dats m 0 c).arrAt 1 cfg0.N : Vec Ideal S2x2x32768x128 .fp8e4m3) = codesK (aK m c) := by
  refine (dats m 0 c).arrAt_eq_of_emb (1 : Fin 3) (codesK (aK m c)) (fun t hf y => ?_) (fun i => ?_)
  · have e : (dats m 0 c).after 1 t = outC m c t := after0_1 m c t
    rw [e]
    exact (cast_eq _ _).trans (outC_emb c hm t y)
  · obtain ⟨t, ht⟩ := covered1 i
    exact ⟨t, flush1 t, ht⟩

theorem scales_arr (c : Dev nD) (hm : Tame (aK m c)) : ((dats m 0 c).arrAt 2 cfg0.N : Vec Ideal S2x2x32768 .f32) = scalesK (aK m c) := by
  refine (dats m 0 c).arrAt_eq_of_emb (2 : Fin 3) (scalesK (aK m c)) (fun t hf y => ?_) (fun i => ?_)
  · have e : (dats m 0 c).after 2 t = outS m c t := after0_2 m c t
    rw [e]
    exact (cast_eq _ _).trans (outS_emb c hm t y)
  · obtain ⟨t, ht⟩ := covered2 i
    exact ⟨t, flush2 t, ht⟩

end Cert.Proof.QuantKIdeal

end
-- ==== Proof.KeysRef.lean ====
/- The reference's codes and scales of the keys, entry by entry, from the argument. -/
module

public import proofs.«01_k».proof.Proof.KeysArr
public import proofs.«01_k».proof.Proof.Gen.CodesKIdeal.Frame

@[expose] public section

noncomputable section

namespace Cert.Proof.CodesKIdeal

open Cert.CodesKIdeal Cert.CodesKIdeal.Gen Cert.Proof.Rows
open Idealize.ShloMosaic Idealize.ShloMosaic.TcCoe

/-- The greatest magnitudes of the rows. -/
def amax (v : Vec Ideal S2x2x32768x128 .bf16) : FVec Ideal S2x2x32768x1 .f32 :=
  shapeCast S2x2x32768x1 (multiReduction .maximumf [3] S2x2x32768 (absf (k0_pay1 v)) 0xFF800000#32 reduces_S2x2x32768x128_S2x2x32768 (.inl rfl) rfl) shapeCasts_S2x2x32768_S2x2x32768x1

theorem amax_apply (v : Vec Ideal S2x2x32768x128 .bf16) (b h : Fin 2) (s : Fin 32768) : amax v (ix4 b h s 0) = greatestOf fun d : Fin 128 => v (ix4 b h s d) := by
  unfold greatestOf
  rw [← Row.bits_bot]
  unfold amax
  pointwise [k0_pay1]

/-- The exponents of the scales of rows whose greatest magnitudes are `a`. -/
def ex (a : FVec Ideal S2x2x32768x1 .f32) : FVec Ideal S2x2x32768x1 .f32 :=
  select (cmpf .oeq a (broadcast S2x2x32768x1 (Scalar.ofBits .f32 0x00000000#32))) (broadcast S2x2x32768x1 (Scalar.ofBits .f32 0x00000000#32))
    (addf (floor (divf (log (mulf a (broadcast S2x2x32768x1 (Scalar.ofBits .f32 0x3B124925#32)))) (log (broadcast S2x2x32768x1 (Scalar.ofBits .f32 0x40000000#32)))))
      (broadcast S2x2x32768x1 (Scalar.ofBits .f32 0x3F800000#32)))

theorem ex_apply (a : FVec Ideal S2x2x32768x1 .f32) (i) : ex a i = Row.expo (a i) := by
  unfold ex Row.expo
  pointwise
  rw [Row.bits_inv, Row.bits_2]

theorem pay2_apply (v : Vec Ideal S2x2x32768x128 .bf16) (b h : Fin 2) (s : Fin 32768) :
    k0_pay2 (F := Ideal) v (ix4 b h s 0) = Row.expo (greatestOf fun d : Fin 128 => v (ix4 b h s d)) := by
  rw [show k0_pay2 (F := Ideal) v = ex (amax v) from rfl, ex_apply, amax_apply]

theorem pay1_apply (v : Vec Ideal S2x2x32768x128 .bf16) (b h : Fin 2) (s : Fin 32768) (d : Fin 128) : k0_pay1 (F := Ideal) v (ix4 b h s d) = v (ix4 b h s d) := by
  pointwise [k0_pay1]

theorem bc_apply (y : FVec Ideal S2x2x32768x1 .f32) (b h : Fin 2) (s : Fin 32768) (d : Fin 128) :
    broadcastTo S2x2x32768x128 y broadcasts_S2x2x32768x1_S2x2x32768x128 (ix4 b h s d) = y (ix4 b h s 0) := by
  pointwise

theorem sc_apply (y : FVec Ideal S2x2x32768x1 .f32) (b h : Fin 2) (s : Fin 32768) :
    shapeCast S2x2x32768 y shapeCasts_S2x2x32768x1_S2x2x32768 (ix3 b h s) = y (ix4 b h s 0) := by
  pointwise

theorem bits_0 : Ideal.ofBits .f32 0x00000000#32 = 0 := by
  simp [Ideal.ofBits, Ideal.ieee]

/-- The rows `x` over the scales of exponents `e`, clipped. -/
def codes (x : FVec Ideal S2x2x32768x128 .f32) (e : FVec Ideal S2x2x32768x1 .f32) : FVec Ideal S2x2x32768x128 .fp8e4m3 :=
  truncf .fp8e4m3 (minimumf (broadcast S2x2x32768x128 (Scalar.ofBits .f32 0x43E00000#32)) (maximumf (broadcast S2x2x32768x128 (Scalar.ofBits .f32 0xC3E00000#32))
    (mulf x (broadcastTo S2x2x32768x128 (exp2 (subf (broadcast S2x2x32768x1 (Scalar.ofBits .f32 0x00000000#32)) e)) broadcasts_S2x2x32768x1_S2x2x32768x128)))) bitsLt_fp8e4m3_f32

theorem codes_apply (x : FVec Ideal S2x2x32768x128 .f32) (e : FVec Ideal S2x2x32768x1 .f32) (b h : Fin 2) (s : Fin 32768) (d : Fin 128) :
    codes x e (ix4 b h s d) = min ((448 : ℝ) : EReal) (max ((-448 : ℝ) : EReal) (x (ix4 b h s d) * Ideal.exp2 (0 - e (ix4 b h s 0)))) := by
  rw [← Row.bits_448, ← Row.bits_neg448, ← bits_0]
  generalize hi : (ix4 b h s d : S2x2x32768x128.Idx) = i
  generalize hf : exp2 (subf (broadcast S2x2x32768x1 (Scalar.ofBits (F := Ideal) .f32 0x00000000#32)) e) = f
  have hj : Ideal.exp2 (Ideal.ofBits .f32 0x00000000#32 - e (ix4 b h s 0)) = f (ix4 b h s 0) := by rw [← hf]; rfl
  unfold codes
  rw [hj, hf, ← bc_apply f b h s d, hi]
  rfl

theorem pay3_eq (v : Vec Ideal S2x2x32768x128 .bf16) : k0_pay3 (F := Ideal) v = codes (k0_pay1 v) (k0_pay2 v) := rfl

theorem pay3_apply (v : Vec Ideal S2x2x32768x128 .bf16) (b h : Fin 2) (s : Fin 32768) (d : Fin 128) :
    k0_pay3 (F := Ideal) v (ix4 b h s d) = code (greatestOf fun d : Fin 128 => v (ix4 b h s d)) (v (ix4 b h s d)) := by
  rw [pay3_eq, codes_apply, pay1_apply, pay2_apply, code]

theorem scl_apply (e : FVec Ideal S2x2x32768x1 .f32) (b h : Fin 2) (s : Fin 32768) :
    shapeCast S2x2x32768 (exp2 e) shapeCasts_S2x2x32768x1_S2x2x32768 (ix3 b h s) = Ideal.exp2 (e (ix4 b h s 0)) := by
  rw [sc_apply]
  rfl

theorem pay4_eq (v : Vec Ideal S2x2x32768x128 .bf16) :
    k0_pay4 (F := Ideal) v = shapeCast S2x2x32768 (exp2 (k0_pay2 (F := Ideal) v)) shapeCasts_S2x2x32768x1_S2x2x32768 := rfl

theorem pay4_apply (v : Vec Ideal S2x2x32768x128 .bf16) (b h : Fin 2) (s : Fin 32768) :
    k0_pay4 (F := Ideal) v (ix3 b h s) = Ideal.exp2 (Row.expo (greatestOf fun d : Fin 128 => v (ix4 b h s d))) := by
  rw [pay4_eq, scl_apply, pay2_apply]

theorem ld_r0 (X : Vec Ideal S2x2x32768x128 .bf16) : View.ld X r0_0 = X := View.ld_unit_lit (off := ![0, 0, 0, 0]) _ X (by decide)

theorem out1_eq (x0 : Vec Ideal S2x2x32768x128 .bf16) : out0_1 (F := Ideal) x0 = k0_pay3 x0 := by
  unfold out0_1
  refine (View.canon_cons_unit_lit (Val := Elt Ideal) (S := S2x2x32768x128) (off := ![0, 0, 0, 0]) _ _ _ (by decide)).trans ?_
  rw [ld_r0]

theorem out2_eq (x0 : Vec Ideal S2x2x32768x128 .bf16) : out0_2 (F := Ideal) x0 = k0_pay4 x0 := by
  unfold out0_2
  refine (View.canon_cons_unit_lit (Val := Elt Ideal) (S := S2x2x32768) (off := ![0, 0, 0]) _ _ _ (by decide)).trans ?_
  rw [ld_r0]

variable (m : (ℓ : Loc nD τ sig) → Buf (Elt Ideal) ℓ)

def aK (c : Dev nD) : Vec Ideal S2x32768x256 .bf16 := m (c, Proc.tc.devRef main_arg0)

theorem iblk0 (c : Dev nD) (t : Fin cfg0.N) : (iblk m c 0 t : Vec Ideal S2x2x32768x128 .bf16) = V m c main_v1 := by
  funext y
  unfold iblk
  rw [View.read_apply]
  show V m c main_v1 ((win0_0.blk t).view.emb y) = _
  congr 1
  funext a
  exact Fin.ext (win0_0.rect_emb_val_of_index_zero t a rfl y)

theorem v1_apply (c : Dev nD) (b h : Fin 2) (s : Fin 32768) (d : Fin 128) :
    (V m c main_v1 : Vec Ideal S2x2x32768x128 .bf16) (ix4 b h s d) = aK m c (ix3 b s (QuantKIdeal.colOf h d)) := by
  unfold V
  after_results
  pointwise []
  rfl

theorem top_eq (c : Dev nD) (b h : Fin 2) (s : Fin 32768) :
    (greatestOf fun d : Fin 128 => (V m c main_v1 : Vec Ideal S2x2x32768x128 .bf16) (ix4 b h s d)) = QuantKIdeal.topK (aK m c) b h s := by
  unfold QuantKIdeal.topK
  congr 1
  funext d
  exact v1_apply m c b h s d

def outC (c : Dev nD) : Vec Ideal S2x2x32768x128 .fp8e4m3 := k0_pay3 (V m c main_v1)
def outS (c : Dev nD) : Vec Ideal S2x2x32768 .f32 := k0_pay4 (V m c main_v1)

theorem outC_emb (c : Dev nD) (t : Fin cfg0.N) (y : S2x2x32768x128.Idx) : outC m c y = QuantKIdeal.codesK (aK m c) (((cfg0.win 1).blk t).view.emb y) := by
  have e : ((cfg0.win 1).blk t).view.emb y = y := by
    funext a
    exact Fin.ext (win0_1.rect_emb_val_of_index_zero t a rfl _)
  rw [e]
  obtain ⟨b, p, s, d, rfl⟩ : ∃ (b p : Fin 2) (s : Fin 32768) (d : Fin 128), y = (ix4 b p s d : S2x2x32768x128.Idx) := ⟨y 0, y 1, y 2, y 3, by funext a; fin_cases a <;> rfl⟩
  unfold outC
  rw [pay3_apply, top_eq, v1_apply]
  rfl

theorem outS_emb (c : Dev nD) (t : Fin cfg0.N) (y : S2x2x32768.Idx) : outS m c y = QuantKIdeal.scalesK (aK m c) (((cfg0.win 2).blk t).view.emb y) := by
  have e : ((cfg0.win 2).blk t).view.emb y = y := by
    funext a
    exact Fin.ext (win0_2.rect_emb_val_of_index_zero t a rfl _)
  rw [e]
  obtain ⟨b, p, s, rfl⟩ : ∃ (b p : Fin 2) (s : Fin 32768), y = (ix3 b p s : S2x2x32768.Idx) := ⟨y 0, y 1, y 2, by funext a; fin_cases a <;> rfl⟩
  unfold outS
  rw [pay4_apply, top_eq]
  rfl

theorem codes_arr (c : Dev nD) : ((dats m 0 c).arrAt 1 cfg0.N : Vec Ideal S2x2x32768x128 .fp8e4m3) = QuantKIdeal.codesK (aK m c) := by
  refine (dats m 0 c).arrAt_eq_of_emb (1 : Fin 3) (QuantKIdeal.codesK (aK m c)) (fun t hf y => ?_) (fun i => ?_)
  · have e : (dats m 0 c).after 1 t = outC m c := by rw [after0_1, iblk0, out1_eq]; rfl
    rw [e]
    exact (cast_eq _ _).trans (outC_emb m c t y)
  · refine ⟨⟨0, by decide +kernel⟩, by decide +kernel, ((cfg0.win 1).emb_mem_blk_iff _ i).mpr fun a => ?_⟩
    show 0 * S2x2x32768x128.size a ≤ (i a : ℕ) ∧ (i a : ℕ) < 0 * S2x2x32768x128.size a + S2x2x32768x128.size a
    have := (i a).isLt
    rw [Nat.zero_mul, Nat.zero_add]
    exact ⟨Nat.zero_le _, this⟩

theorem scales_arr (c : Dev nD) : ((dats m 0 c).arrAt 2 cfg0.N : Vec Ideal S2x2x32768 .f32) = QuantKIdeal.scalesK (aK m c) := by
  refine (dats m 0 c).arrAt_eq_of_emb (2 : Fin 3) (QuantKIdeal.scalesK (aK m c)) (fun t hf y => ?_) (fun i => ?_)
  · have e : (dats m 0 c).after 2 t = outS m c := by rw [after0_2, iblk0, out2_eq]; rfl
    rw [e]
    exact (cast_eq _ _).trans (outS_emb m c t y)
  · refine ⟨⟨0, by decide +kernel⟩, by decide +kernel, ((cfg0.win 2).emb_mem_blk_iff _ i).mpr fun a => ?_⟩
    show 0 * S2x2x32768.size a ≤ (i a : ℕ) ∧ (i a : ℕ) < 0 * S2x2x32768.size a + S2x2x32768.size a
    have := (i a).isLt
    rw [Nat.zero_mul, Nat.zero_add]
    exact ⟨Nat.zero_le _, this⟩

end Cert.Proof.CodesKIdeal

end
-- ==== Proof.KeysClaim.lean ====
/- The value claim of the keys' quantising call: the kernel and the reference both end with the codes and the scales of the keys. -/
module

public import proofs.«01_k».proof.Defs
public import proofs.«01_k».proof.Proof.KeysRef
public import proofs.«01_k».proof.Proof.Pre
public import proofs.«01_k».proof.Proof.Gen.QuantKIdeal.Value
public import proofs.«01_k».proof.Proof.Gen.Pre_tame_k

@[expose] public section

noncomputable section

namespace Cert.Proof.QuantKIdeal

open Cert.Proof.Rows Cert.Proof.Pre Idealize.ShloMosaic Idealize.ShloMosaic.TcCoe

instance : Subsingleton Cert.Pre_tame_k.S_.Idx := ⟨fun a b => funext fun i => i.elim0⟩

theorem bits_least : Ideal.ofBits .f32 0x00800000#32 = (((2 : ℝ) ^ (-126 : ℤ) : ℝ) : EReal) := by
  simp [Ideal.ofBits, Ideal.ieee, -EReal.coe_mul]; norm_num

theorem ori_one (x y : BitVec 1) (h : IntOp.ori x y = 1#1) : x = 1#1 ∨ y = 1#1 := by
  revert x y
  decide

section
open Cert.Pre_tame_k Cert.Pre_tame_k.Facts

/-- The greatest magnitudes of the rows, as the predicate states them. -/
def tops (x : FVec Ideal S2x32768x256 .bf16) : FVec Ideal S2x32768x2 .f32 :=
  Host.reduce FloatOps.maximumf (Host.absf (shapeCast S2x32768x2x128 (extf .f32 x bitsLt_bf16_f32 : FVec Ideal S2x32768x256 .f32) shapeCasts_S2x32768x256_S2x32768x2x128))
    (constant S_ .f32 0xFF800000#32) reducesTo_S2x32768x2x128_S2x32768x2_d3 h_S_

theorem row_apply (x : FVec Ideal S2x32768x256 .bf16) (b : Fin 2) (s : Fin 32768) (h : Fin 2) (d : Fin 128) :
    shapeCast S2x32768x2x128 (extf .f32 x bitsLt_bf16_f32 : FVec Ideal S2x32768x256 .f32) shapeCasts_S2x32768x256_S2x32768x2x128 (ix4 b s h d) = x (ix3 b s (colOf h d)) := by
  pointwise

theorem reduces : S2x32768x2x128.Reduces [3] S2x32768x2 := by decide

theorem lift_eq (b : Fin 2) (s : Fin 32768) (h : Fin 2) (d : Fin 128) : reduces.lift (ix3 b s h) d = (ix4 b s h d : S2x32768x2x128.Idx) := by
  funext a
  fin_cases a <;> rfl

theorem tops_apply (x : FVec Ideal S2x32768x256 .bf16) (b : Fin 2) (s : Fin 32768) (h : Fin 2) :
    tops x (ix3 b s h) = greatestOf fun d : Fin 128 => x (ix3 b s (colOf h d)) := by
  unfold tops greatestOf
  rw [Host.reduce_eq_fold_single _ _ _ _ reduces, ← Row.bits_bot]
  refine Finset.fold_congr fun d _ => ?_
  have e : (shapeCast S2x32768x2x128 (extf .f32 x bitsLt_bf16_f32 : FVec Ideal S2x32768x256 .f32) shapeCasts_S2x32768x256_S2x32768x2x128) (reduces.lift (ix3 b s h) d) = x (ix3 b s (colOf h d)) :=
    (congrArg _ (lift_eq b s h d)).trans (row_apply x b s h d)
  exact congrArg (FloatOps.absf (F := Ideal) (φ := .f32)) e

theorem eq_of_cmp {a b : EReal} (h : FloatOps.cmpf (F := Ideal) (φ := .f32) .oeq a b = 1#1) : a = b := of_decide_eq_true ((StableHlo.Predicate.ofBool_eq_one_iff _).mp h)
theorem ge_of_cmp {a b : EReal} (h : FloatOps.cmpf (F := Ideal) (φ := .f32) .oge a b = 1#1) : b ≤ a := of_decide_eq_true ((StableHlo.Predicate.ofBool_eq_one_iff _).mp h)
theorem le_of_cmp {a b : EReal} (h : FloatOps.cmpf (F := Ideal) (φ := .f32) .ole a b = 1#1) : a ≤ b := of_decide_eq_true ((StableHlo.Predicate.ofBool_eq_one_iff _).mp h)

/-- A greatest magnitude for which the three comparisons of the predicate hold. -/
theorem normal_of {a : EReal} (h : IntOp.ori (FloatOps.cmpf (F := Ideal) (φ := .f32) .oeq a (Ideal.ofBits .f32 0x00000000#32))
    (IntOp.andi (FloatOps.cmpf (F := Ideal) (φ := .f32) .oge (a * Ideal.ofBits .f32 0x3B124925#32) (Ideal.ofBits .f32 0x00800000#32))
      (FloatOps.cmpf (F := Ideal) (φ := .f32) .ole a (Ideal.ofBits .f32 0x7F7F0000#32))) = 1#1) : Row.Normal a := by
  rcases ori_one _ _ h with h1 | h1
  · exact Or.inl ((eq_of_cmp h1).trans CodesKIdeal.bits_0)
  · obtain ⟨h2, h3⟩ := IntOp.andi_eq_one.mp h1
    have h2 := ge_of_cmp h2
    have h3 := le_of_cmp h3
    rw [bits_least, Row.bits_inv] at h2
    rw [bits_top] at h3
    exact Or.inr ⟨h2, h3⟩

/-- Whether the greatest magnitudes pass, as the predicate asks it. -/
def ok (a : FVec Ideal S2x32768x2 .f32) : IVec S2x32768x2 1 :=
  ori (cmpf .oeq a (broadcastInDim S2x32768x2 ![] bcast_S_S2x32768x2 (constant S_ .f32 0x00000000#32)))
    (andi (cmpf .oge (mulf a (broadcastInDim S2x32768x2 ![] bcast_S_S2x32768x2 (constant S_ .f32 0x3B124925#32))) (broadcastInDim S2x32768x2 ![] bcast_S_S2x32768x2 (constant S_ .f32 0x00800000#32)))
      (cmpf .ole a (broadcastInDim S2x32768x2 ![] bcast_S_S2x32768x2 (constant S_ .f32 0x7F7F0000#32))))

theorem ok_apply (a : FVec Ideal S2x32768x2 .f32) (i : S2x32768x2.Idx) (h : ok a i = 1#1) : Row.Normal (a i) := by
  unfold ok at h
  exact normal_of h

theorem ok_all (a : FVec Ideal S2x32768x2 .f32) (h : Host.reduce IntOp.andi (ok a) (constantI S_ 1 1#1) reducesTo_S2x32768x2_S_d0_1_2 h_S_ = fun _ => 1#1)
    (i : S2x32768x2.Idx) : ok a i = 1#1 := Host.reduce_andi_all _ _ _ _ _ (congrFun h (fun i => i.elim0)) i

theorem fn_eq (x : FVec Ideal S2x32768x256 .bf16) : Cert.Pre_tame_k.fn (F := Ideal) x = Host.reduce IntOp.andi (ok (tops x)) (constantI S_ 1 1#1) reducesTo_S2x32768x2_S_d0_1_2 h_S_ := rfl

theorem fn_spec (x : FVec Ideal S2x32768x256 .bf16) (h : Cert.Pre_tame_k.fn (F := Ideal) x = fun _ => 1#1) (i : S2x32768x2.Idx) : Row.Normal (tops x i) := by
  rw [fn_eq] at h
  exact ok_apply _ i (ok_all _ h i)
end

open Cert.QuantKIdeal Cert.QuantKIdeal.Gen

theorem tame_of_pre (m : (ℓ : Loc nD τ sig) → Buf (Elt Ideal) ℓ) (h : Cert.Pre_QuantKIdeal_tame_k m) : Tame (aK m 0) := by
  intro b p s
  have := fn_spec _ (h 0) (ix3 b s p)
  rw [tops_apply] at this
  exact this

end Cert.Proof.QuantKIdeal

namespace Cert.Proof.CodesKIdeal

open Cert.CodesKIdeal Cert.CodesKIdeal.Gen
open Idealize.ShloMosaic Idealize.ShloMosaic.TcCoe Idealize.SL.Sem

/-- The reference ends with the codes and the scales of its argument, and its argument unchanged. -/
theorem value_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = (dats m 0 c).arrAt 1 cfg0.N
      ∧ r.2.mem ((c.tc : Thread nD τ).loc main_v2_1) = (dats m 0 c).arrAt 2 cfg0.N
      ∧ r.2.mem ((c.tc : Thread nD τ).loc main_arg0) = m ((c.tc : Thread nD τ).loc main_arg0)) :=
  (θ_run defs _ _).mono (fun _ h c => ⟨(h.1 c).1 1, (h.1 c).1 2, h.2.1 c⟩) (θ_run_and (run_main m g) (frame m g))

end Cert.Proof.CodesKIdeal

namespace Cert.Proof

open Idealize.ShloMosaic Idealize.ShloMosaic.TcCoe

theorem algebraicK : Cert.algebraic_QuantKIdeal_CodesKIdeal_pre_tame_k := by
  intro m g m' g' hpre hagree
  have hm := QuantKIdeal.tame_of_pre m hpre
  refine ⟨fun c => QuantKIdeal.codesK (QuantKIdeal.aK m c), fun c => QuantKIdeal.scalesK (QuantKIdeal.aK m c), ?_, ?_⟩
  · refine (θ_run Cert.QuantKIdeal.defs _ _).mono (fun _ h c => ⟨(h c).1.trans ?_, (h c).2.1.trans ?_, (h c).2.2⟩) (Cert.QuantKIdeal.Value.run_blocks m g)
    · obtain rfl : c = 0 := Subsingleton.elim _ _
      exact QuantKIdeal.codes_arr 0 hm
    · obtain rfl : c = 0 := Subsingleton.elim _ _
      exact QuantKIdeal.scales_arr 0 hm
  · refine (θ_run Cert.CodesKIdeal.defs _ _).mono (fun _ h c => ⟨(h c).1.trans ?_, (h c).2.1.trans ?_, (h c).2.2⟩) (CodesKIdeal.value_run m' g')
    · have e : CodesKIdeal.aK m' c = QuantKIdeal.aK m c := hagree c
      exact (CodesKIdeal.codes_arr m' c).trans (congrArg QuantKIdeal.codesK e)
    · have e : CodesKIdeal.aK m' c = QuantKIdeal.aK m c := hagree c
      exact (CodesKIdeal.scales_arr m' c).trans (congrArg QuantKIdeal.scalesK e)

end Cert.Proof

end
-- ==== Proof.lean ====
module

public import proofs.«01_k».proof.Defs
public import proofs.«01_k».proof.Proof.Frame
public import proofs.«01_k».proof.Proof.IdealFrame
public import proofs.«01_k».proof.Proof.Algebraic
public import proofs.«01_k».proof.Proof.Gen.AttendIdeal.Frame
public import proofs.«01_k».proof.Proof.Gen.Pre_tame
public import proofs.«01_k».proof.Proof.KeysClaim
public import proofs.«01_k».proof.Proof.Gen.QuantK.Frame
public import proofs.«01_k».proof.Proof.Gen.QuantKIdeal.Frame
public import proofs.«01_k».proof.Proof.Gen.CodesKIdeal.Frame
public import proofs.«01_k».proof.Proof.Gen.Pre_tame_k

@[expose] public section

noncomputable section

namespace Cert.Proof

open Idealize.ShloMosaic Idealize.ShloMosaic.TcCoe

theorem frame_p : Cert.quiescent_Attn := fun m g _ => Cert.Proof.Attn.frame_run m g
theorem frame_pi : Cert.quiescent_AttnIdeal := fun m g _ => Cert.Proof.AttnIdeal.frame_run m g
theorem frame_pi_pre : Cert.quiescent_AttnIdeal_pre_tame := fun m g _ => Cert.Proof.AttnIdeal.frame_run m g
theorem frame_ri : Cert.quiescent_AttendIdeal := fun m g _ => Cert.AttendIdeal.Gen.frame m g
theorem frame_ri_pre : Cert.quiescent_AttendIdeal_pre_tame := fun m g _ => Cert.AttendIdeal.Gen.frame m g

/-- The one constant the idealization names is the real it was computed from. -/
theorem preserves : Cert.preserves_Attn_AttnIdeal :=
  IdealRules.named_const.statement Cert.AttnIdeal.κ "cq" .f32 0x3E0293EE#32 (((Real.sqrt 128)⁻¹ * (Real.log 2)⁻¹ : ℝ) : EReal) rfl

theorem frame_qk : Cert.quiescent_QuantK := fun m g _ => Cert.QuantK.Gen.frame m g
theorem frame_qki : Cert.quiescent_QuantKIdeal := fun m g _ => Cert.QuantKIdeal.Gen.frame m g
theorem frame_qki_pre : Cert.quiescent_QuantKIdeal_pre_tame_k := fun m g _ => Cert.QuantKIdeal.Gen.frame m g
theorem frame_cki : Cert.quiescent_CodesKIdeal := fun m g _ => Cert.CodesKIdeal.Gen.frame m g
theorem frame_cki_pre : Cert.quiescent_CodesKIdeal_pre_tame_k := fun m g _ => Cert.CodesKIdeal.Gen.frame m g

theorem claim : Cert.Claim := ⟨Cert.Attn.Gen.facts, Cert.AttnIdeal.Gen.facts, Cert.AttendIdeal.Gen.facts, Cert.QuantK.Gen.facts, Cert.QuantKIdeal.Gen.facts, Cert.CodesKIdeal.Gen.facts,
  Cert.Pre_tame.Gen.facts, Cert.Pre_tame_k.Gen.facts,
  frame_p, frame_pi, frame_pi_pre, frame_ri, frame_ri_pre, frame_qk, frame_qki, frame_qki_pre, frame_cki, frame_cki_pre, preserves, algebraic, trivial, algebraicK⟩

end Cert.Proof

end
